-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsIdeal_normal [hPre_normal : Cert.Pre_normal.Facts] (m : (ℓ : Loc Cert.ProjectionsIdeal.nD Cert.ProjectionsIdeal.τ Cert.ProjectionsIdeal.sig) → Buf (Elt Ideal) ℓ) : Prop :=
  ∀ c : Dev Cert.ProjectionsIdeal.nD,
    (Cert.Pre_normal.fn (F := Ideal) (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12))) = (fun _ => 1#1)

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_ProjectionsReferenceIdeal_normal [hPre_normal : Cert.Pre_normal.Facts] (m : (ℓ : Loc Cert.ProjectionsReferenceIdeal.nD Cert.ProjectionsReferenceIdeal.τ Cert.ProjectionsReferenceIdeal.sig) → Buf (Elt Ideal) ℓ) : Prop :=
  ∀ c : Dev Cert.ProjectionsReferenceIdeal.nD,
    (Cert.Pre_normal.fn (F := Ideal) (m ((c.tc : Thread Cert.ProjectionsReferenceIdeal.nD Cert.ProjectionsReferenceIdeal.τ).loc Cert.ProjectionsReferenceIdeal.main_arg0)) (m ((c.tc : Thread Cert.ProjectionsReferenceIdeal.nD Cert.ProjectionsReferenceIdeal.τ).loc Cert.ProjectionsReferenceIdeal.main_arg1)) (m ((c.tc : Thread Cert.ProjectionsReferenceIdeal.nD Cert.ProjectionsReferenceIdeal.τ).loc Cert.ProjectionsReferenceIdeal.main_arg2)) (m ((c.tc : Thread Cert.ProjectionsReferenceIdeal.nD Cert.ProjectionsReferenceIdeal.τ).loc Cert.ProjectionsReferenceIdeal.main_arg3)) (m ((c.tc : Thread Cert.ProjectionsReferenceIdeal.nD Cert.ProjectionsReferenceIdeal.τ).loc Cert.ProjectionsReferenceIdeal.main_arg4)) (m ((c.tc : Thread Cert.ProjectionsReferenceIdeal.nD Cert.ProjectionsReferenceIdeal.τ).loc Cert.ProjectionsReferenceIdeal.main_arg5)) (m ((c.tc : Thread Cert.ProjectionsReferenceIdeal.nD Cert.ProjectionsReferenceIdeal.τ).loc Cert.ProjectionsReferenceIdeal.main_arg6)) (m ((c.tc : Thread Cert.ProjectionsReferenceIdeal.nD Cert.ProjectionsReferenceIdeal.τ).loc Cert.ProjectionsReferenceIdeal.main_arg7)) (m ((c.tc : Thread Cert.ProjectionsReferenceIdeal.nD Cert.ProjectionsReferenceIdeal.τ).loc Cert.ProjectionsReferenceIdeal.main_arg8)) (m ((c.tc : Thread Cert.ProjectionsReferenceIdeal.nD Cert.ProjectionsReferenceIdeal.τ).loc Cert.ProjectionsReferenceIdeal.main_arg9)) (m ((c.tc : Thread Cert.ProjectionsReferenceIdeal.nD Cert.ProjectionsReferenceIdeal.τ).loc Cert.ProjectionsReferenceIdeal.main_arg10)) (m ((c.tc : Thread Cert.ProjectionsReferenceIdeal.nD Cert.ProjectionsReferenceIdeal.τ).loc Cert.ProjectionsReferenceIdeal.main_arg11)) (m ((c.tc : Thread Cert.ProjectionsReferenceIdeal.nD Cert.ProjectionsReferenceIdeal.τ).loc Cert.ProjectionsReferenceIdeal.main_arg12))) = (fun _ => 1#1)

def Pre_Statistics (m : (ℓ : Loc Cert.Statistics.nD Cert.Statistics.τ Cert.Statistics.sig) → Buf (Elt Bits) ℓ) : Prop :=
  True

def Pre_StatisticsIdeal (m : (ℓ : Loc Cert.StatisticsIdeal.nD Cert.StatisticsIdeal.τ Cert.StatisticsIdeal.sig) → Buf (Elt Ideal) ℓ) : Prop :=
  True

def Pre_StatisticsReferenceIdeal (m : (ℓ : Loc Cert.StatisticsReferenceIdeal.nD Cert.StatisticsReferenceIdeal.τ Cert.StatisticsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5)
      ∧ r.2.mem ((c.tc : Thread Cert.Projections.nD Cert.Projections.τ).loc Cert.Projections.main_arg6) = m ((c.tc : Thread Cert.Projections.nD Cert.Projections.τ).loc Cert.Projections.main_arg6)
      ∧ r.2.mem ((c.tc : Thread Cert.Projections.nD Cert.Projections.τ).loc Cert.Projections.main_arg7) = m ((c.tc : Thread Cert.Projections.nD Cert.Projections.τ).loc Cert.Projections.main_arg7)
      ∧ r.2.mem ((c.tc : Thread Cert.Projections.nD Cert.Projections.τ).loc Cert.Projections.main_arg8) = m ((c.tc : Thread Cert.Projections.nD Cert.Projections.τ).loc Cert.Projections.main_arg8)
      ∧ r.2.mem ((c.tc : Thread Cert.Projections.nD Cert.Projections.τ).loc Cert.Projections.main_arg9) = m ((c.tc : Thread Cert.Projections.nD Cert.Projections.τ).loc Cert.Projections.main_arg9)
      ∧ r.2.mem ((c.tc : Thread Cert.Projections.nD Cert.Projections.τ).loc Cert.Projections.main_arg10) = m ((c.tc : Thread Cert.Projections.nD Cert.Projections.τ).loc Cert.Projections.main_arg10)
      ∧ r.2.mem ((c.tc : Thread Cert.Projections.nD Cert.Projections.τ).loc Cert.Projections.main_arg11) = m ((c.tc : Thread Cert.Projections.nD Cert.Projections.τ).loc Cert.Projections.main_arg11)
      ∧ r.2.mem ((c.tc : Thread Cert.Projections.nD Cert.Projections.τ).loc Cert.Projections.main_arg12) = m ((c.tc : Thread Cert.Projections.nD Cert.Projections.τ).loc Cert.Projections.main_arg12))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
      ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
      ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
      ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
      ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12))
      ∧ r.2.sem = fun _ => 0)

def quiescent_ProjectionsIdeal_pre_normal [hProjectionsIdeal : Cert.ProjectionsIdeal.Facts] [hPre_normal : Cert.Pre_normal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal_normal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
      ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
      ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
      ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
      ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
      ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
      ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
      ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7)
      ∧ r.2.mem ((c.tc : Thread Cert.ProjectionsReferenceIdeal.nD Cert.ProjectionsReferenceIdeal.τ).loc Cert.ProjectionsReferenceIdeal.main_arg8) = m ((c.tc : Thread Cert.ProjectionsReferenceIdeal.nD Cert.ProjectionsReferenceIdeal.τ).loc Cert.ProjectionsReferenceIdeal.main_arg8)
      ∧ r.2.mem ((c.tc : Thread Cert.ProjectionsReferenceIdeal.nD Cert.ProjectionsReferenceIdeal.τ).loc Cert.ProjectionsReferenceIdeal.main_arg9) = m ((c.tc : Thread Cert.ProjectionsReferenceIdeal.nD Cert.ProjectionsReferenceIdeal.τ).loc Cert.ProjectionsReferenceIdeal.main_arg9)
      ∧ r.2.mem ((c.tc : Thread Cert.ProjectionsReferenceIdeal.nD Cert.ProjectionsReferenceIdeal.τ).loc Cert.ProjectionsReferenceIdeal.main_arg10) = m ((c.tc : Thread Cert.ProjectionsReferenceIdeal.nD Cert.ProjectionsReferenceIdeal.τ).loc Cert.ProjectionsReferenceIdeal.main_arg10)
      ∧ r.2.mem ((c.tc : Thread Cert.ProjectionsReferenceIdeal.nD Cert.ProjectionsReferenceIdeal.τ).loc Cert.ProjectionsReferenceIdeal.main_arg11) = m ((c.tc : Thread Cert.ProjectionsReferenceIdeal.nD Cert.ProjectionsReferenceIdeal.τ).loc Cert.ProjectionsReferenceIdeal.main_arg11)
      ∧ r.2.mem ((c.tc : Thread Cert.ProjectionsReferenceIdeal.nD Cert.ProjectionsReferenceIdeal.τ).loc Cert.ProjectionsReferenceIdeal.main_arg12) = m ((c.tc : Thread Cert.ProjectionsReferenceIdeal.nD Cert.ProjectionsReferenceIdeal.τ).loc Cert.ProjectionsReferenceIdeal.main_arg12))
      ∧ r.2.sem = fun _ => 0)

def quiescent_ProjectionsReferenceIdeal_pre_normal [hProjectionsReferenceIdeal : Cert.ProjectionsReferenceIdeal.Facts] [hPre_normal : Cert.Pre_normal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal_normal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5)
      ∧ r.2.mem ((c.tc : Thread Cert.ProjectionsReferenceIdeal.nD Cert.ProjectionsReferenceIdeal.τ).loc Cert.ProjectionsReferenceIdeal.main_arg6) = m ((c.tc : Thread Cert.ProjectionsReferenceIdeal.nD Cert.ProjectionsReferenceIdeal.τ).loc Cert.ProjectionsReferenceIdeal.main_arg6)
      ∧ r.2.mem ((c.tc : Thread Cert.ProjectionsReferenceIdeal.nD Cert.ProjectionsReferenceIdeal.τ).loc Cert.ProjectionsReferenceIdeal.main_arg7) = m ((c.tc : Thread Cert.ProjectionsReferenceIdeal.nD Cert.ProjectionsReferenceIdeal.τ).loc Cert.ProjectionsReferenceIdeal.main_arg7)
      ∧ r.2.mem ((c.tc : Thread Cert.ProjectionsReferenceIdeal.nD Cert.ProjectionsReferenceIdeal.τ).loc Cert.ProjectionsReferenceIdeal.main_arg8) = m ((c.tc : Thread Cert.ProjectionsReferenceIdeal.nD Cert.ProjectionsReferenceIdeal.τ).loc Cert.ProjectionsReferenceIdeal.main_arg8)
      ∧ r.2.mem ((c.tc : Thread Cert.ProjectionsReferenceIdeal.nD Cert.ProjectionsReferenceIdeal.τ).loc Cert.ProjectionsReferenceIdeal.main_arg9) = m ((c.tc : Thread Cert.ProjectionsReferenceIdeal.nD Cert.ProjectionsReferenceIdeal.τ).loc Cert.ProjectionsReferenceIdeal.main_arg9)
      ∧ r.2.mem ((c.tc : Thread Cert.ProjectionsReferenceIdeal.nD Cert.ProjectionsReferenceIdeal.τ).loc Cert.ProjectionsReferenceIdeal.main_arg10) = m ((c.tc : Thread Cert.ProjectionsReferenceIdeal.nD Cert.ProjectionsReferenceIdeal.τ).loc Cert.ProjectionsReferenceIdeal.main_arg10)
      ∧ r.2.mem ((c.tc : Thread Cert.ProjectionsReferenceIdeal.nD Cert.ProjectionsReferenceIdeal.τ).loc Cert.ProjectionsReferenceIdeal.main_arg11) = m ((c.tc : Thread Cert.ProjectionsReferenceIdeal.nD Cert.ProjectionsReferenceIdeal.τ).loc Cert.ProjectionsReferenceIdeal.main_arg11)
      ∧ r.2.mem ((c.tc : Thread Cert.ProjectionsReferenceIdeal.nD Cert.ProjectionsReferenceIdeal.τ).loc Cert.ProjectionsReferenceIdeal.main_arg12) = m ((c.tc : Thread Cert.ProjectionsReferenceIdeal.nD Cert.ProjectionsReferenceIdeal.τ).loc Cert.ProjectionsReferenceIdeal.main_arg12))
      ∧ r.2.sem = fun _ => 0)

def quiescent_Statistics [hStatistics : Cert.Statistics.Facts] : Prop :=
  ∀ (m : (ℓ : Loc Cert.Statistics.nD Cert.Statistics.τ Cert.Statistics.sig) → Buf (Elt Bits) ℓ) (g : Dev Cert.Statistics.nD → PrngReg), Pre_Statistics m →
    θ_run (Cert.Statistics.defs (F := Bits)) (onTc (τ := Cert.Statistics.τ) (Cert.Statistics.main (F := Bits))) ⟨m, fun _ => 0, g⟩ (fun r => (∀ c : Dev Cert.Statistics.nD,
      r.2.mem ((c.tc : Thread Cert.Statistics.nD Cert.Statistics.τ).loc Cert.Statistics.main_arg0) = m ((c.tc : Thread Cert.Statistics.nD Cert.Statistics.τ).loc Cert.Statistics.main_arg0))
      ∧ r.2.sem = fun _ => 0)

def quiescent_StatisticsIdeal [hStatisticsIdeal : Cert.StatisticsIdeal.Facts] : Prop :=
  ∀ (m : (ℓ : Loc Cert.StatisticsIdeal.nD Cert.StatisticsIdeal.τ Cert.StatisticsIdeal.sig) → Buf (Elt Ideal) ℓ) (g : Dev Cert.StatisticsIdeal.nD → PrngReg), Pre_StatisticsIdeal m →
    θ_run (Cert.StatisticsIdeal.defs (F := Ideal)) (onTc (τ := Cert.StatisticsIdeal.τ) (Cert.StatisticsIdeal.main (F := Ideal))) ⟨m, fun _ => 0, g⟩ (fun r => (∀ c : Dev Cert.StatisticsIdeal.nD,
      r.2.mem ((c.tc : Thread Cert.StatisticsIdeal.nD Cert.StatisticsIdeal.τ).loc Cert.StatisticsIdeal.main_arg0) = m ((c.tc : Thread Cert.StatisticsIdeal.nD Cert.StatisticsIdeal.τ).loc Cert.StatisticsIdeal.main_arg0))
      ∧ r.2.sem = fun _ => 0)

def quiescent_StatisticsReferenceIdeal [hStatisticsReferenceIdeal : Cert.StatisticsReferenceIdeal.Facts] : Prop :=
  ∀ (m : (ℓ : Loc Cert.StatisticsReferenceIdeal.nD Cert.StatisticsReferenceIdeal.τ Cert.StatisticsReferenceIdeal.sig) → Buf (Elt Ideal) ℓ) (g : Dev Cert.StatisticsReferenceIdeal.nD → PrngReg), Pre_StatisticsReferenceIdeal m →
    θ_run (Cert.StatisticsReferenceIdeal.defs (F := Ideal)) (onTc (τ := Cert.StatisticsReferenceIdeal.τ) (Cert.StatisticsReferenceIdeal.main (F := Ideal))) ⟨m, fun _ => 0, g⟩ (fun r => (∀ c : Dev Cert.StatisticsReferenceIdeal.nD,
      r.2.mem ((c.tc : Thread Cert.StatisticsReferenceIdeal.nD Cert.StatisticsReferenceIdeal.τ).loc Cert.StatisticsReferenceIdeal.main_arg0) = m ((c.tc : Thread Cert.StatisticsReferenceIdeal.nD Cert.StatisticsReferenceIdeal.τ).loc Cert.StatisticsReferenceIdeal.main_arg0))
      ∧ r.2.sem = fun _ => 0)

def preserves_Kernel_KernelIdeal : Prop :=
  IdealRules.named_const.Statement Cert.KernelIdeal.κ "score_scale_log2e" .f32 0x3D8293EE#32 (((Real.sqrt 512)⁻¹ * (Real.log 2)⁻¹ : ℝ) : EReal)

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Projections_ProjectionsIdeal : Prop :=
  True

def algebraic_ProjectionsIdeal_ProjectionsReferenceIdeal_pre_normal [hProjectionsIdeal : Cert.ProjectionsIdeal.Facts] [hProjectionsReferenceIdeal : Cert.ProjectionsReferenceIdeal.Facts] [hPre_normal : Cert.Pre_normal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal_normal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)
      ∧ m' ((c.tc : Thread Cert.ProjectionsReferenceIdeal.nD Cert.ProjectionsReferenceIdeal.τ).loc Cert.ProjectionsReferenceIdeal.main_arg6) = m ((c.tc : Thread Cert.ProjectionsIdeal.nD Cert.ProjectionsIdeal.τ).loc Cert.ProjectionsIdeal.main_arg6)
      ∧ m' ((c.tc : Thread Cert.ProjectionsReferenceIdeal.nD Cert.ProjectionsReferenceIdeal.τ).loc Cert.ProjectionsReferenceIdeal.main_arg7) = m ((c.tc : Thread Cert.ProjectionsIdeal.nD Cert.ProjectionsIdeal.τ).loc Cert.ProjectionsIdeal.main_arg7)
      ∧ m' ((c.tc : Thread Cert.ProjectionsReferenceIdeal.nD Cert.ProjectionsReferenceIdeal.τ).loc Cert.ProjectionsReferenceIdeal.main_arg8) = m ((c.tc : Thread Cert.ProjectionsIdeal.nD Cert.ProjectionsIdeal.τ).loc Cert.ProjectionsIdeal.main_arg8)
      ∧ m' ((c.tc : Thread Cert.ProjectionsReferenceIdeal.nD Cert.ProjectionsReferenceIdeal.τ).loc Cert.ProjectionsReferenceIdeal.main_arg9) = m ((c.tc : Thread Cert.ProjectionsIdeal.nD Cert.ProjectionsIdeal.τ).loc Cert.ProjectionsIdeal.main_arg9)
      ∧ m' ((c.tc : Thread Cert.ProjectionsReferenceIdeal.nD Cert.ProjectionsReferenceIdeal.τ).loc Cert.ProjectionsReferenceIdeal.main_arg10) = m ((c.tc : Thread Cert.ProjectionsIdeal.nD Cert.ProjectionsIdeal.τ).loc Cert.ProjectionsIdeal.main_arg10)
      ∧ m' ((c.tc : Thread Cert.ProjectionsReferenceIdeal.nD Cert.ProjectionsReferenceIdeal.τ).loc Cert.ProjectionsReferenceIdeal.main_arg11) = m ((c.tc : Thread Cert.ProjectionsIdeal.nD Cert.ProjectionsIdeal.τ).loc Cert.ProjectionsIdeal.main_arg11)
      ∧ m' ((c.tc : Thread Cert.ProjectionsReferenceIdeal.nD Cert.ProjectionsReferenceIdeal.τ).loc Cert.ProjectionsReferenceIdeal.main_arg12) = m ((c.tc : Thread Cert.ProjectionsIdeal.nD Cert.ProjectionsIdeal.τ).loc Cert.ProjectionsIdeal.main_arg12)) →
    ∃ (v0 : (c : Dev Cert.ProjectionsIdeal.nD) → Buf (Elt Ideal) ((c.tc : Thread Cert.ProjectionsIdeal.nD Cert.ProjectionsIdeal.τ).loc Cert.ProjectionsIdeal.main_v20_0)) (v1 : (c : Dev Cert.ProjectionsIdeal.nD) → Buf (Elt Ideal) ((c.tc : Thread Cert.ProjectionsIdeal.nD Cert.ProjectionsIdeal.τ).loc Cert.ProjectionsIdeal.main_v20_1)) (v2 : (c : Dev Cert.ProjectionsIdeal.nD) → Buf (Elt Ideal) ((c.tc : Thread Cert.ProjectionsIdeal.nD Cert.ProjectionsIdeal.τ).loc Cert.ProjectionsIdeal.main_v20_2)) (v3 : (c : Dev Cert.ProjectionsIdeal.nD) → Buf (Elt Ideal) ((c.tc : Thread Cert.ProjectionsIdeal.nD Cert.ProjectionsIdeal.τ).loc Cert.ProjectionsIdeal.main_v20_3)) (v4 : (c : Dev Cert.ProjectionsIdeal.nD) → Buf (Elt Ideal) ((c.tc : Thread Cert.ProjectionsIdeal.nD Cert.ProjectionsIdeal.τ).loc Cert.ProjectionsIdeal.main_v20_4)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v20_0) = v0 c
          ∧ r.2.mem ((c.tc : Thread Cert.ProjectionsIdeal.nD Cert.ProjectionsIdeal.τ).loc Cert.ProjectionsIdeal.main_v20_1) = v1 c
          ∧ r.2.mem ((c.tc : Thread Cert.ProjectionsIdeal.nD Cert.ProjectionsIdeal.τ).loc Cert.ProjectionsIdeal.main_v20_2) = v2 c
          ∧ r.2.mem ((c.tc : Thread Cert.ProjectionsIdeal.nD Cert.ProjectionsIdeal.τ).loc Cert.ProjectionsIdeal.main_v20_3) = v3 c
          ∧ r.2.mem ((c.tc : Thread Cert.ProjectionsIdeal.nD Cert.ProjectionsIdeal.τ).loc Cert.ProjectionsIdeal.main_v20_4) = v4 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5)
          ∧ r.2.mem ((c.tc : Thread Cert.ProjectionsIdeal.nD Cert.ProjectionsIdeal.τ).loc Cert.ProjectionsIdeal.main_arg6) = m ((c.tc : Thread Cert.ProjectionsIdeal.nD Cert.ProjectionsIdeal.τ).loc Cert.ProjectionsIdeal.main_arg6)
          ∧ r.2.mem ((c.tc : Thread Cert.ProjectionsIdeal.nD Cert.ProjectionsIdeal.τ).loc Cert.ProjectionsIdeal.main_arg7) = m ((c.tc : Thread Cert.ProjectionsIdeal.nD Cert.ProjectionsIdeal.τ).loc Cert.ProjectionsIdeal.main_arg7)
          ∧ r.2.mem ((c.tc : Thread Cert.ProjectionsIdeal.nD Cert.ProjectionsIdeal.τ).loc Cert.ProjectionsIdeal.main_arg8) = m ((c.tc : Thread Cert.ProjectionsIdeal.nD Cert.ProjectionsIdeal.τ).loc Cert.ProjectionsIdeal.main_arg8)
          ∧ r.2.mem ((c.tc : Thread Cert.ProjectionsIdeal.nD Cert.ProjectionsIdeal.τ).loc Cert.ProjectionsIdeal.main_arg9) = m ((c.tc : Thread Cert.ProjectionsIdeal.nD Cert.ProjectionsIdeal.τ).loc Cert.ProjectionsIdeal.main_arg9)
          ∧ r.2.mem ((c.tc : Thread Cert.ProjectionsIdeal.nD Cert.ProjectionsIdeal.τ).loc Cert.ProjectionsIdeal.main_arg10) = m ((c.tc : Thread Cert.ProjectionsIdeal.nD Cert.ProjectionsIdeal.τ).loc Cert.ProjectionsIdeal.main_arg10)
          ∧ r.2.mem ((c.tc : Thread Cert.ProjectionsIdeal.nD Cert.ProjectionsIdeal.τ).loc Cert.ProjectionsIdeal.main_arg11) = m ((c.tc : Thread Cert.ProjectionsIdeal.nD Cert.ProjectionsIdeal.τ).loc Cert.ProjectionsIdeal.main_arg11)
          ∧ r.2.mem ((c.tc : Thread Cert.ProjectionsIdeal.nD Cert.ProjectionsIdeal.τ).loc Cert.ProjectionsIdeal.main_arg12) = m ((c.tc : Thread Cert.ProjectionsIdeal.nD Cert.ProjectionsIdeal.τ).loc Cert.ProjectionsIdeal.main_arg12))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v0_0) = v0 c
          ∧ r.2.mem ((c.tc : Thread Cert.ProjectionsReferenceIdeal.nD Cert.ProjectionsReferenceIdeal.τ).loc Cert.ProjectionsReferenceIdeal.main_v0_1) = v1 c
          ∧ r.2.mem ((c.tc : Thread Cert.ProjectionsReferenceIdeal.nD Cert.ProjectionsReferenceIdeal.τ).loc Cert.ProjectionsReferenceIdeal.main_v0_2) = v2 c
          ∧ r.2.mem ((c.tc : Thread Cert.ProjectionsReferenceIdeal.nD Cert.ProjectionsReferenceIdeal.τ).loc Cert.ProjectionsReferenceIdeal.main_v0_3) = v3 c
          ∧ r.2.mem ((c.tc : Thread Cert.ProjectionsReferenceIdeal.nD Cert.ProjectionsReferenceIdeal.τ).loc Cert.ProjectionsReferenceIdeal.main_v0_4) = v4 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5)
          ∧ r.2.mem ((c.tc : Thread Cert.ProjectionsReferenceIdeal.nD Cert.ProjectionsReferenceIdeal.τ).loc Cert.ProjectionsReferenceIdeal.main_arg6) = m' ((c.tc : Thread Cert.ProjectionsReferenceIdeal.nD Cert.ProjectionsReferenceIdeal.τ).loc Cert.ProjectionsReferenceIdeal.main_arg6)
          ∧ r.2.mem ((c.tc : Thread Cert.ProjectionsReferenceIdeal.nD Cert.ProjectionsReferenceIdeal.τ).loc Cert.ProjectionsReferenceIdeal.main_arg7) = m' ((c.tc : Thread Cert.ProjectionsReferenceIdeal.nD Cert.ProjectionsReferenceIdeal.τ).loc Cert.ProjectionsReferenceIdeal.main_arg7)
          ∧ r.2.mem ((c.tc : Thread Cert.ProjectionsReferenceIdeal.nD Cert.ProjectionsReferenceIdeal.τ).loc Cert.ProjectionsReferenceIdeal.main_arg8) = m' ((c.tc : Thread Cert.ProjectionsReferenceIdeal.nD Cert.ProjectionsReferenceIdeal.τ).loc Cert.ProjectionsReferenceIdeal.main_arg8)
          ∧ r.2.mem ((c.tc : Thread Cert.ProjectionsReferenceIdeal.nD Cert.ProjectionsReferenceIdeal.τ).loc Cert.ProjectionsReferenceIdeal.main_arg9) = m' ((c.tc : Thread Cert.ProjectionsReferenceIdeal.nD Cert.ProjectionsReferenceIdeal.τ).loc Cert.ProjectionsReferenceIdeal.main_arg9)
          ∧ r.2.mem ((c.tc : Thread Cert.ProjectionsReferenceIdeal.nD Cert.ProjectionsReferenceIdeal.τ).loc Cert.ProjectionsReferenceIdeal.main_arg10) = m' ((c.tc : Thread Cert.ProjectionsReferenceIdeal.nD Cert.ProjectionsReferenceIdeal.τ).loc Cert.ProjectionsReferenceIdeal.main_arg10)
          ∧ r.2.mem ((c.tc : Thread Cert.ProjectionsReferenceIdeal.nD Cert.ProjectionsReferenceIdeal.τ).loc Cert.ProjectionsReferenceIdeal.main_arg11) = m' ((c.tc : Thread Cert.ProjectionsReferenceIdeal.nD Cert.ProjectionsReferenceIdeal.τ).loc Cert.ProjectionsReferenceIdeal.main_arg11)
          ∧ r.2.mem ((c.tc : Thread Cert.ProjectionsReferenceIdeal.nD Cert.ProjectionsReferenceIdeal.τ).loc Cert.ProjectionsReferenceIdeal.main_arg12) = m' ((c.tc : Thread Cert.ProjectionsReferenceIdeal.nD Cert.ProjectionsReferenceIdeal.τ).loc Cert.ProjectionsReferenceIdeal.main_arg12))

def preserves_Statistics_StatisticsIdeal : Prop :=
  IdealRules.named_const.Statement Cert.StatisticsIdeal.κ "inv_n" .f32 0x36AAAAAB#32 ((196608⁻¹ : ℝ) : EReal)

def algebraic_StatisticsIdeal_StatisticsReferenceIdeal [hStatisticsIdeal : Cert.StatisticsIdeal.Facts] [hStatisticsReferenceIdeal : Cert.StatisticsReferenceIdeal.Facts] : Prop :=
  ∀ (m : (ℓ : Loc Cert.StatisticsIdeal.nD Cert.StatisticsIdeal.τ Cert.StatisticsIdeal.sig) → Buf (Elt Ideal) ℓ) (g : Dev Cert.StatisticsIdeal.nD → PrngReg)
    (m' : (ℓ : Loc Cert.StatisticsReferenceIdeal.nD Cert.StatisticsReferenceIdeal.τ Cert.StatisticsReferenceIdeal.sig) → Buf (Elt Ideal) ℓ) (g' : Dev Cert.StatisticsReferenceIdeal.nD → PrngReg), Pre_StatisticsIdeal m →
    (∀ c : Dev Cert.StatisticsIdeal.nD,
      m' ((c.tc : Thread Cert.StatisticsReferenceIdeal.nD Cert.StatisticsReferenceIdeal.τ).loc Cert.StatisticsReferenceIdeal.main_arg0) = m ((c.tc : Thread Cert.StatisticsIdeal.nD Cert.StatisticsIdeal.τ).loc Cert.StatisticsIdeal.main_arg0)) →
    ∃ (v0 : (c : Dev Cert.StatisticsIdeal.nD) → Buf (Elt Ideal) ((c.tc : Thread Cert.StatisticsIdeal.nD Cert.StatisticsIdeal.τ).loc Cert.StatisticsIdeal.main_v0_0)) (v1 : (c : Dev Cert.StatisticsIdeal.nD) → Buf (Elt Ideal) ((c.tc : Thread Cert.StatisticsIdeal.nD Cert.StatisticsIdeal.τ).loc Cert.StatisticsIdeal.main_v0_1)),
      θ_run (Cert.StatisticsIdeal.defs (F := Ideal)) (onTc (τ := Cert.StatisticsIdeal.τ) (Cert.StatisticsIdeal.main (F := Ideal))) ⟨m, fun _ => 0, g⟩ (fun r => ∀ c : Dev Cert.StatisticsIdeal.nD,
          r.2.mem ((c.tc : Thread Cert.StatisticsIdeal.nD Cert.StatisticsIdeal.τ).loc Cert.StatisticsIdeal.main_v0_0) = v0 c
          ∧ r.2.mem ((c.tc : Thread Cert.StatisticsIdeal.nD Cert.StatisticsIdeal.τ).loc Cert.StatisticsIdeal.main_v0_1) = v1 c
          ∧ r.2.mem ((c.tc : Thread Cert.StatisticsIdeal.nD Cert.StatisticsIdeal.τ).loc Cert.StatisticsIdeal.main_arg0) = m ((c.tc : Thread Cert.StatisticsIdeal.nD Cert.StatisticsIdeal.τ).loc Cert.StatisticsIdeal.main_arg0))
      ∧ θ_run (Cert.StatisticsReferenceIdeal.defs (F := Ideal)) (onTc (τ := Cert.StatisticsReferenceIdeal.τ) (Cert.StatisticsReferenceIdeal.main (F := Ideal))) ⟨m', fun _ => 0, g'⟩ (fun r => ∀ c : Dev Cert.StatisticsReferenceIdeal.nD,
          r.2.mem ((c.tc : Thread Cert.StatisticsReferenceIdeal.nD Cert.StatisticsReferenceIdeal.τ).loc Cert.StatisticsReferenceIdeal.main_v15) = v0 c
          ∧ r.2.mem ((c.tc : Thread Cert.StatisticsReferenceIdeal.nD Cert.StatisticsReferenceIdeal.τ).loc Cert.StatisticsReferenceIdeal.main_v21) = v1 c
          ∧ r.2.mem ((c.tc : Thread Cert.StatisticsReferenceIdeal.nD Cert.StatisticsReferenceIdeal.τ).loc Cert.StatisticsReferenceIdeal.main_arg0) = m' ((c.tc : Thread Cert.StatisticsReferenceIdeal.nD Cert.StatisticsReferenceIdeal.τ).loc Cert.StatisticsReferenceIdeal.main_arg0))

def Claim : Prop :=
  ∃ (hKernel : Cert.Kernel.Facts) (hKernelIdeal : Cert.KernelIdeal.Facts) (hReferenceIdeal : Cert.ReferenceIdeal.Facts) (hProjections : Cert.Projections.Facts) (hProjectionsIdeal : Cert.ProjectionsIdeal.Facts) (hProjectionsReferenceIdeal : Cert.ProjectionsReferenceIdeal.Facts) (hStatistics : Cert.Statistics.Facts) (hStatisticsIdeal : Cert.StatisticsIdeal.Facts) (hStatisticsReferenceIdeal : Cert.StatisticsReferenceIdeal.Facts) (hPre_bounded : Cert.Pre_bounded.Facts) (hPre_normal : Cert.Pre_normal.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Projections (hProjections := hProjections)
    ∧ quiescent_ProjectionsIdeal (hProjectionsIdeal := hProjectionsIdeal)
    ∧ quiescent_ProjectionsIdeal_pre_normal (hProjectionsIdeal := hProjectionsIdeal) (hPre_normal := hPre_normal)
    ∧ quiescent_ProjectionsReferenceIdeal (hProjectionsReferenceIdeal := hProjectionsReferenceIdeal)
    ∧ quiescent_ProjectionsReferenceIdeal_pre_normal (hProjectionsReferenceIdeal := hProjectionsReferenceIdeal) (hPre_normal := hPre_normal)
    ∧ quiescent_Statistics (hStatistics := hStatistics)
    ∧ quiescent_StatisticsIdeal (hStatisticsIdeal := hStatisticsIdeal)
    ∧ quiescent_StatisticsReferenceIdeal (hStatisticsReferenceIdeal := hStatisticsReferenceIdeal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Projections_ProjectionsIdeal
    ∧ algebraic_ProjectionsIdeal_ProjectionsReferenceIdeal_pre_normal (hProjectionsIdeal := hProjectionsIdeal) (hProjectionsReferenceIdeal := hProjectionsReferenceIdeal) (hPre_normal := hPre_normal)
    ∧ preserves_Statistics_StatisticsIdeal
    ∧ algebraic_StatisticsIdeal_StatisticsReferenceIdeal (hStatisticsIdeal := hStatisticsIdeal) (hStatisticsReferenceIdeal := hStatisticsReferenceIdeal)
-- ==== Pre_bounded.lean ====
abbrev S6x512x12288 : Shape := ⟨3, ![6, 512, 12288]⟩
abbrev S6x12288x512 : Shape := ⟨3, ![6, 12288, 512]⟩
abbrev S512x512 : Shape := ⟨2, ![512, 512]⟩
abbrev S512 : Shape := ⟨1, ![512]⟩
abbrev S_ : Shape := ⟨0, ![]⟩

class Facts : Prop where
  bitsLt_bf16_f32 : FTy.bits .bf16 < FTy.bits .f32
  bcast_S_S6x512x12288 : S_.BroadcastsInDim S6x512x12288 (![] : Fin 0 → Fin S6x512x12288.rank)
  bcast_S_S6x12288x512 : S_.BroadcastsInDim S6x12288x512 (![] : Fin 0 → Fin S6x12288x512.rank)

variable [Facts]

def fn {F : FTy → Type} [FloatOps F] (main_arg0 : FVec F S6x512x12288 .bf16) (main_arg1 : FVec F S6x12288x512 .bf16) (main_arg2 : FVec F S6x512x12288 .bf16) (main_arg3 : FVec F S6x12288x512 .bf16) (main_arg4 : FVec F S512x512 .fp8e4m3) (main_arg5 : FVec F S512 .f32) (main_arg6 : FVec F S512 .f32) : IVec S6x512x12288 1 × IVec S6x12288x512 1 × IVec S6x512x12288 1 :=
  let main_v0 : FVec F S6x512x12288 .f32 := (extf .f32 · bitsLt_bf16_f32) main_arg0
  let main_v1 : FVec F S6x512x12288 .f32 := Host.absf main_v0
  let main_cst : FVec F S_ .f32 := constant S_ .f32 0x7F800000#32
  let main_v2 : FVec F S6x512x12288 .f32 := broadcastInDim S6x512x12288 ![] bcast_S_S6x512x12288 main_cst
  let main_v3 : IVec S6x512x12288 1 := cmpf .olt main_v1 main_v2
  let main_v4 : FVec F S6x12288x512 .f32 := (extf .f32 · bitsLt_bf16_f32) main_arg1
  let main_v5 : FVec F S6x12288x512 .f32 := Host.absf main_v4
  let main_cst_0 : FVec F S_ .f32 := constant S_ .f32 0x7F800000#32
  let main_v6 : FVec F S6x12288x512 .f32 := broadcastInDim S6x12288x512 ![] bcast_S_S6x12288x512 main_cst_0
  let main_v7 : IVec S6x12288x512 1 := cmpf .olt main_v5 main_v6
  let main_v8 : FVec F S6x512x12288 .f32 := (extf .f32 · bitsLt_bf16_f32) main_arg2
  let main_v9 : FVec F S6x512x12288 .f32 := Host.absf main_v8
  let main_cst_1 : FVec F S_ .f32 := constant S_ .f32 0x7F7FFFFF#32
  let main_v10 : FVec F S6x512x12288 .f32 := broadcastInDim S6x512x12288 ![] bcast_S_S6x512x12288 main_cst_1
  let main_v11 : IVec S6x512x12288 1 := cmpf .ole main_v9 main_v10
  (main_v3, main_v7, main_v11)
-- ==== Pre_normal.lean ====
abbrev S6x12288x512 : Shape := ⟨3, ![6, 12288, 512]⟩
abbrev S6x32 : Shape := ⟨2, ![6, 32]⟩
abbrev S512 : Shape := ⟨1, ![512]⟩
abbrev S512x512 : Shape := ⟨2, ![512, 512]⟩
abbrev S6x32x16 : Shape := ⟨3, ![6, 32, 16]⟩
abbrev S6x512 : Shape := ⟨2, ![6, 512]⟩
abbrev S6x1x512 : Shape := ⟨3, ![6, 1, 512]⟩
abbrev S1x1x512 : Shape := ⟨3, ![1, 1, 512]⟩
abbrev S_ : Shape := ⟨0, ![]⟩

class Facts : Prop where
  bitsLt_bf16_f32 : FTy.bits .bf16 < FTy.bits .f32
  bcast_S6x32_S6x32x16_0_1 : S6x32.BroadcastsInDim S6x32x16 (![0, 1] : Fin 2 → Fin S6x32x16.rank)
  shapeCasts_S6x32x16_S6x512 : S6x32x16.ShapeCasts S6x512
  bcast_S6x512_S6x1x512_0_2 : S6x512.BroadcastsInDim S6x1x512 (![0, 2] : Fin 2 → Fin S6x1x512.rank)
  bcast_S6x1x512_S6x12288x512_0_1_2 : S6x1x512.BroadcastsInDim S6x12288x512 (![0, 1, 2] : Fin 3 → Fin S6x12288x512.rank)
  bcast_S512_S1x1x512_2 : S512.BroadcastsInDim S1x1x512 (![2] : Fin 1 → Fin S1x1x512.rank)
  bcast_S1x1x512_S6x12288x512_0_1_2 : S1x1x512.BroadcastsInDim S6x12288x512 (![0, 1, 2] : Fin 3 → Fin S6x12288x512.rank)
  bcast_S_S6x12288x512 : S_.BroadcastsInDim S6x12288x512 (![] : Fin 0 → Fin S6x12288x512.rank)

variable [Facts]

def fn {F : FTy → Type} [FloatOps F] (main_arg0 : FVec F S6x12288x512 .bf16) (main_arg1 : FVec F S6x32 .f32) (main_arg2 : FVec F S6x32 .f32) (main_arg3 : FVec F S512 .f32) (main_arg4 : FVec F S512 .f32) (main_arg5 : FVec F S512x512 .fp8e4m3) (main_arg6 : FVec F S512x512 .fp8e4m3) (main_arg7 : FVec F S512x512 .fp8e4m3) (main_arg8 : FVec F S512 .f32) (main_arg9 : FVec F S512 .f32) (main_arg10 : FVec F S512 .f32) (main_arg11 : FVec F S512 .f32) (main_arg12 : FVec F S512 .f32) : IVec S6x12288x512 1 :=
  let main_v0 : FVec F S6x12288x512 .f32 := (extf .f32 · bitsLt_bf16_f32) main_arg0
  let main_v1 : FVec F S6x32x16 .f32 := broadcastInDim S6x32x16 ![0, 1] bcast_S6x32_S6x32x16_0_1 main_arg1
  let main_v2 : FVec F S6x512 .f32 := shapeCast S6x512 main_v1 shapeCasts_S6x32x16_S6x512
  let main_v3 : FVec F S6x1x512 .f32 := broadcastInDim S6x1x512 ![0, 2] bcast_S6x512_S6x1x512_0_2 main_v2
  let main_v4 : FVec F S6x12288x512 .f32 := broadcastInDim S6x12288x512 ![0, 1, 2] bcast_S6x1x512_S6x12288x512_0_1_2 main_v3
  let main_v5 : FVec F S6x12288x512 .f32 := subf main_v0 main_v4
  let main_v6 : FVec F S6x32x16 .f32 := broadcastInDim S6x32x16 ![0, 1] bcast_S6x32_S6x32x16_0_1 main_arg2
  let main_v7 : FVec F S6x512 .f32 := shapeCast S6x512 main_v6 shapeCasts_S6x32x16_S6x512
  let main_v8 : FVec F S6x1x512 .f32 := broadcastInDim S6x1x512 ![0, 2] bcast_S6x512_S6x1x512_0_2 main_v7
  let main_v9 : FVec F S6x12288x512 .f32 := broadcastInDim S6x12288x512 ![0, 1, 2] bcast_S6x1x512_S6x12288x512_0_1_2 main_v8
  let main_v10 : FVec F S6x12288x512 .f32 := mulf main_v5 main_v9
  let main_v11 : FVec F S1x1x512 .f32 := broadcastInDim S1x1x512 ![2] bcast_S512_S1x1x512_2 main_arg3
  let main_v12 : FVec F S6x12288x512 .f32 := broadcastInDim S6x12288x512 ![0, 1, 2] bcast_S1x1x512_S6x12288x512_0_1_2 main_v11
  let main_v13 : FVec F S6x12288x512 .f32 := mulf main_v10 main_v12
  let main_v14 : FVec F S1x1x512 .f32 := broadcastInDim S1x1x512 ![2] bcast_S512_S1x1x512_2 main_arg4
  let main_v15 : FVec F S6x12288x512 .f32 := broadcastInDim S6x12288x512 ![0, 1, 2] bcast_S1x1x512_S6x12288x512_0_1_2 main_v14
  let main_v16 : FVec F S6x12288x512 .f32 := addf main_v13 main_v15
  let main_v17 : FVec F S6x12288x512 .f32 := Host.absf main_v16
  let main_cst : FVec F S_ .f32 := constant S_ .f32 0x7F7FFFFF#32
  let main_v18 : FVec F S6x12288x512 .f32 := broadcastInDim S6x12288x512 ![] bcast_S_S6x12288x512 main_cst
  let main_v19 : IVec S6x12288x512 1 := cmpf .ole main_v17 main_v18
  main_v19
-- ==== Kernel.lean ====
abbrev S6x512x12288 : Shape := ⟨3, ![6, 512, 12288]⟩
abbrev S6x12288x512 : Shape := ⟨3, ![6, 12288, 512]⟩
abbrev S512x512 : Shape := ⟨2, ![512, 512]⟩
abbrev S512 : Shape := ⟨1, ![512]⟩
abbrev S1x512 : Shape := ⟨2, ![1, 512]⟩
abbrev S6x16x12288 : Shape := ⟨3, ![6, 16, 12288]⟩
abbrev S1x512x512 : Shape := ⟨3, ![1, 512, 512]⟩
abbrev S1x12288x512 : Shape := ⟨3, ![1, 12288, 512]⟩
abbrev S1x512x12288 : Shape := ⟨3, ![1, 512, 12288]⟩
abbrev S1x16x512 : Shape := ⟨3, ![1, 16, 512]⟩
abbrev S512x128 : Shape := ⟨2, ![512, 128]⟩
abbrev S1x128 : Shape := ⟨2, ![1, 128]⟩
abbrev S16x32x128 : Shape := ⟨3, ![16, 32, 128]⟩
abbrev S16x128 : Shape := ⟨2, ![16, 128]⟩
abbrev S16x1x128 : Shape := ⟨3, ![16, 1, 128]⟩
abbrev S128x512 : Shape := ⟨2, ![128, 512]⟩
abbrev S1x128x512 : Shape := ⟨3, ![1, 128, 512]⟩
abbrev S1x16x128 : Shape := ⟨3, ![1, 16, 128]⟩

abbrev nBuf : Space → Nat
  | .hbm => 13
  | .vmem => 21
  | .smem => 0
  | _ => 0

abbrev bufTy : (tb : Table) → Fin (tcTables nBuf tb) → BufTy
  | .hbm, ⟨0, _⟩ => ⟨S6x512x12288, .bf16⟩
  | .hbm, ⟨1, _⟩ => ⟨S6x12288x512, .bf16⟩
  | .hbm, ⟨2, _⟩ => ⟨S6x512x12288, .bf16⟩
  | .hbm, ⟨3, _⟩ => ⟨S6x12288x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S6x12288x512, .bf16⟩
  | .hbm, ⟨10, _⟩ => ⟨S6x12288x512, .bf16⟩
  | .hbm, ⟨11, _⟩ => ⟨S6x12288x512, .fp8e4m3⟩
  | .hbm, ⟨12, _⟩ => ⟨S6x16x12288, .f32⟩
  | .local _ .vmem, ⟨0, _⟩ => ⟨S1x512x512, .bf16⟩
  | .local _ .vmem, ⟨1, _⟩ => ⟨S1x512x512, .bf16⟩
  | .local _ .vmem, ⟨2, _⟩ => ⟨S1x12288x512, .bf16⟩
  | .local _ .vmem, ⟨3, _⟩ => ⟨S1x12288x512, .bf16⟩
  | .local _ .vmem, ⟨4, _⟩ => ⟨S1x512x12288, .bf16⟩
  | .local _ .vmem, ⟨5, _⟩ => ⟨S1x512x12288, .bf16⟩
  | .local _ .vmem, ⟨6, _⟩ => ⟨S1x512x512, .bf16⟩
  | .local _ .vmem, ⟨7, _⟩ => ⟨S1x512x512, .bf16⟩
  | .local _ .vmem, ⟨8, _⟩ => ⟨S512x512, .fp8e4m3⟩
  | .local _ .vmem, ⟨9, _⟩ => ⟨S1x512, .f32⟩
  | .local _ .vmem, ⟨10, _⟩ => ⟨S1x512, .f32⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .fp8e4m3⟩
  | .local _ .vmem, ⟨16, _⟩ => ⟨S1x512x512, .fp8e4m3⟩
  | .local _ .vmem, ⟨17, _⟩ => ⟨S1x16x512, .f32⟩
  | .local _ .vmem, ⟨18, _⟩ => ⟨S1x16x512, .f32⟩
  | .local _ .vmem, ⟨19, _⟩ => ⟨S512x512, .f32⟩
  | .local _ .vmem, ⟨20, _⟩ => ⟨S512x512, .bf16⟩
  | _, _ => ⟨S6x512x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![6, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12288x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "score_scale_log2e" => some (((Real.sqrt 512)⁻¹ * (Real.log 2)⁻¹ : ℝ) : EReal)
  | _ => none
-- ==== ReferenceIdeal.lean ====
abbrev S6x512x12288 : Shape := ⟨3, ![6, 512, 12288]⟩
abbrev S6x12288x512 : Shape := ⟨3, ![6, 12288, 512]⟩
abbrev S512x512 : Shape := ⟨2, ![512, 512]⟩
abbrev S512 : Shape := ⟨1, ![512]⟩
abbrev S6x16x12288 : Shape := ⟨3, ![6, 16, 12288]⟩
abbrev S6x12288x12288 : Shape := ⟨3, ![6, 12288, 12288]⟩
abbrev S6x12288 : Shape := ⟨2, ![6, 12288]⟩
abbrev S6x12288x1 : Shape := ⟨3, ![6, 12288, 1]⟩
abbrev S6x12288x16x32 : Shape := ⟨4, ![6, 12288, 16, 32]⟩
abbrev S6x12288x16 : Shape := ⟨3, ![6, 12288, 16]⟩
abbrev S6x12288x16x1 : Shape := ⟨4, ![6, 12288, 16, 1]⟩
abbrev S1x1x512 : Shape := ⟨3, ![1, 1, 512]⟩

abbrev nBuf : Space → Nat
  | .hbm => 11
  | .vmem => 11
  | .smem => 0
  | _ => 0

abbrev bufTy : (tb : Table) → Fin (tcTables nBuf tb) → BufTy
  | .hbm, ⟨0, _⟩ => ⟨S6x512x12288, .bf16⟩
  | .hbm, ⟨1, _⟩ => ⟨S6x12288x512, .bf16⟩
  | .hbm, ⟨2, _⟩ => ⟨S6x512x12288, .bf16⟩
  | .hbm, ⟨3, _⟩ => ⟨S6x12288x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S6x12288x512, .bf16⟩
  | .hbm, ⟨8, _⟩ => ⟨S6x12288x512, .bf16⟩
  | .hbm, ⟨9, _⟩ => ⟨S6x12288x512, .fp8e4m3⟩
  | .hbm, ⟨10, _⟩ => ⟨S6x16x12288, .f32⟩
  | .local _ .vmem, ⟨0, _⟩ => ⟨S6x512x12288, .bf16⟩
  | .local _ .vmem, ⟨1, _⟩ => ⟨S6x12288x512, .bf16⟩
  | .local _ .vmem, ⟨2, _⟩ => ⟨S6x512x12288, .bf16⟩
  | .local _ .vmem, ⟨3, _⟩ => ⟨S6x12288x512, .bf16⟩
  | .local _ .vmem, ⟨4, _⟩ => ⟨S512x512, .fp8e4m3⟩
  | .local _ .vmem, ⟨5, _⟩ => ⟨S512, .f32⟩
  | .local _ .vmem, ⟨6, _⟩ => ⟨S512, .f32⟩
  | .local _ .vmem, ⟨7, _⟩ => ⟨S6x12288x512, .bf16⟩
  | .local _ .vmem, ⟨8, _⟩ => ⟨S6x12288x512, .bf16⟩
  | .local _ .vmem, ⟨9, _⟩ => ⟨S6x12288x512, .fp8e4m3⟩
  | .local _ .vmem, ⟨10, _⟩ => ⟨S6x16x12288, .f32⟩
  | _, _ => ⟨S6x512x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | "score_scale" => some (((Real.sqrt 512)⁻¹ : ℝ) : EReal)
  | _ => none

abbrev grid0 : Pipeline.Grid := .none

abbrev stage0_0 : Fin 1 → Memref sig .tc .vmem S6x512x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x12288x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x512x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x12288x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x12288x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x12288x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x12288x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x16x12288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Projections.lean ====
abbrev S6x12288x512 : Shape := ⟨3, ![6, 12288, 512]⟩
abbrev S6x32 : Shape := ⟨2, ![6, 32]⟩
abbrev S512 : Shape := ⟨1, ![512]⟩
abbrev S512x512 : Shape := ⟨2, ![512, 512]⟩
abbrev S6x32x1x1 : Shape := ⟨4, ![6, 32, 1, 1]⟩
abbrev S6x32x16x128 : Shape := ⟨4, ![6, 32, 16, 128]⟩
abbrev S6x512x128 : Shape := ⟨3, ![6, 512, 128]⟩
abbrev S512x1 : Shape := ⟨2, ![512, 1]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩
abbrev S1x512 : Shape := ⟨2, ![1, 512]⟩
abbrev S6x16x12288 : Shape := ⟨3, ![6, 16, 12288]⟩
abbrev S6x512x12288 : Shape := ⟨3, ![6, 512, 12288]⟩
abbrev S1x512x512 : Shape := ⟨3, ![1, 512, 512]⟩
abbrev S1x512x128 : Shape := ⟨3, ![1, 512, 128]⟩
abbrev S1x16x512 : Shape := ⟨3, ![1, 16, 512]⟩
abbrev S1x128x512 : Shape := ⟨3, ![1, 128, 512]⟩
abbrev S128x512 : Shape := ⟨2, ![128, 512]⟩
abbrev S16x32x128 : Shape := ⟨3, ![16, 32, 128]⟩
abbrev S16x128 : Shape := ⟨2, ![16, 128]⟩
abbrev S16x1x128 : Shape := ⟨3, ![16, 1, 128]⟩
abbrev S1x16x128 : Shape := ⟨3, ![1, 16, 128]⟩

abbrev nBuf : Space → Nat
  | .hbm => 38
  | .vmem => 25
  | .smem => 0
  | _ => 0

abbrev bufTy : (tb : Table) → Fin (tcTables nBuf tb) → BufTy
  | .hbm, ⟨0, _⟩ => ⟨S6x12288x512, .bf16⟩
  | .hbm, ⟨1, _⟩ => ⟨S6x32, .f32⟩
  | .hbm, ⟨2, _⟩ => ⟨S6x32, .f32⟩
  | .hbm, ⟨3, _⟩ => ⟨S512, .f32⟩
  | .hbm, ⟨4, _⟩ => ⟨S512, .f32⟩
  | .hbm, ⟨5, _⟩ => ⟨S512x512, .fp8e4m3⟩
  | .hbm, ⟨6, _⟩ => ⟨S512x512, .fp8e4m3⟩
  | .hbm, ⟨7, _⟩ => ⟨S512x512, .fp8e4m3⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S6x32x1x1, .f32⟩
  | .hbm, ⟨14, _⟩ => ⟨S6x32x16x128, .f32⟩
  | .hbm, ⟨15, _⟩ => ⟨S6x512x128, .f32⟩
  | .hbm, ⟨16, _⟩ => ⟨S6x32x1x1, .f32⟩
  | .hbm, ⟨17, _⟩ => ⟨S6x32x16x128, .f32⟩
  | .hbm, ⟨18, _⟩ => ⟨S6x512x128, .f32⟩
  | .hbm, ⟨19, _⟩ => ⟨S512x1, .f32⟩
  | .hbm, ⟨20, _⟩ => ⟨S512x128, .f32⟩
  | .hbm, ⟨21, _⟩ => ⟨S512x1, .f32⟩
  | .hbm, ⟨22, _⟩ => ⟨S512x128, .f32⟩
  | .hbm, ⟨23, _⟩ => ⟨S512x512, .fp8e4m3⟩
  | .hbm, ⟨24, _⟩ => ⟨S512x512, .fp8e4m3⟩
  | .hbm, ⟨25, _⟩ => ⟨S1024x512, .fp8e4m3⟩
  | .hbm, ⟨26, _⟩ => ⟨S1024, .f32⟩
  | .hbm, ⟨27, _⟩ => ⟨S1024x1, .f32⟩
  | .hbm, ⟨28, _⟩ => ⟨S1024x128, .f32⟩
  | .hbm, ⟨29, _⟩ => ⟨S1024, .f32⟩
  | .hbm, ⟨30, _⟩ => ⟨S1024x1, .f32⟩
  | .hbm, ⟨31, _⟩ => ⟨S1024x128, .f32⟩
  | .hbm, ⟨32, _⟩ => ⟨S1x512, .f32⟩
  | .hbm, ⟨33, _⟩ => ⟨S6x12288x512, .fp8e4m3⟩
  | .hbm, ⟨34, _⟩ => ⟨S6x16x12288, .f32⟩
  | .hbm, ⟨35, _⟩ => ⟨S6x512x12288, .bf16⟩
  | .hbm, ⟨36, _⟩ => ⟨S6x12288x512, .bf16⟩
  | .hbm, ⟨37, _⟩ => ⟨S6x512x12288, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S512x128, .f32⟩
  | .local _ .vmem, ⟨7, _⟩ => ⟨S512x128, .f32⟩
  | .local _ .vmem, ⟨8, _⟩ => ⟨S1024x512, .fp8e4m3⟩
  | .local _ .vmem, ⟨9, _⟩ => ⟨S512x512, .fp8e4m3⟩
  | .local _ .vmem, ⟨10, _⟩ => ⟨S1024x128, .f32⟩
  | .local _ .vmem, ⟨11, _⟩ => ⟨S1024x128, .f32⟩
  | .local _ .vmem, ⟨12, _⟩ => ⟨S1x512, .f32⟩
  | .local _ .vmem, ⟨13, _⟩ => ⟨S1x512x512, .fp8e4m3⟩
  | .local _ .vmem, ⟨14, _⟩ => ⟨S1x512x512, .fp8e4m3⟩
  | .local _ .vmem, ⟨15, _⟩ => ⟨S1x16x512, .f32⟩
  | .local _ .vmem, ⟨16, _⟩ => ⟨S1x16x512, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S512x512, .bf16⟩
  | .local _ .vmem, ⟨24, _⟩ => ⟨S512x512, .bf16⟩
  | _, _ => ⟨S6x12288x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![6, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjectionsReferenceIdeal.lean ====
abbrev S6x12288x512 : Shape := ⟨3, ![6, 12288, 512]⟩
abbrev S6x32 : Shape := ⟨2, ![6, 32]⟩
abbrev S512 : Shape := ⟨1, ![512]⟩
abbrev S512x512 : Shape := ⟨2, ![512, 512]⟩
abbrev S6x16x12288 : Shape := ⟨3, ![6, 16, 12288]⟩
abbrev S6x512x12288 : Shape := ⟨3, ![6, 512, 12288]⟩
abbrev S6x12288x32x16 : Shape := ⟨4, ![6, 12288, 32, 16]⟩
abbrev S6x1x32x1 : Shape := ⟨4, ![6, 1, 32, 1]⟩
abbrev S1x1x512 : Shape := ⟨3, ![1, 1, 512]⟩
abbrev S6x12288x16x32 : Shape := ⟨4, ![6, 12288, 16, 32]⟩
abbrev S6x12288x16 : Shape := ⟨3, ![6, 12288, 16]⟩
abbrev S6x12288x16x1 : Shape := ⟨4, ![6, 12288, 16, 1]⟩

abbrev nBuf : Space → Nat
  | .hbm => 18
  | .vmem => 18
  | .smem => 0
  | _ => 0

abbrev bufTy : (tb : Table) → Fin (tcTables nBuf tb) → BufTy
  | .hbm, ⟨0, _⟩ => ⟨S6x12288x512, .bf16⟩
  | .hbm, ⟨1, _⟩ => ⟨S6x32, .f32⟩
  | .hbm, ⟨2, _⟩ => ⟨S6x32, .f32⟩
  | .hbm, ⟨3, _⟩ => ⟨S512, .f32⟩
  | .hbm, ⟨4, _⟩ => ⟨S512, .f32⟩
  | .hbm, ⟨5, _⟩ => ⟨S512x512, .fp8e4m3⟩
  | .hbm, ⟨6, _⟩ => ⟨S512x512, .fp8e4m3⟩
  | .hbm, ⟨7, _⟩ => ⟨S512x512, .fp8e4m3⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S6x12288x512, .fp8e4m3⟩
  | .hbm, ⟨14, _⟩ => ⟨S6x16x12288, .f32⟩
  | .hbm, ⟨15, _⟩ => ⟨S6x512x12288, .bf16⟩
  | .hbm, ⟨16, _⟩ => ⟨S6x12288x512, .bf16⟩
  | .hbm, ⟨17, _⟩ => ⟨S6x512x12288, .bf16⟩
  | .local _ .vmem, ⟨0, _⟩ => ⟨S6x12288x512, .bf16⟩
  | .local _ .vmem, ⟨1, _⟩ => ⟨S6x32, .f32⟩
  | .local _ .vmem, ⟨2, _⟩ => ⟨S6x32, .f32⟩
  | .local _ .vmem, ⟨3, _⟩ => ⟨S512, .f32⟩
  | .local _ .vmem, ⟨4, _⟩ => ⟨S512, .f32⟩
  | .local _ .vmem, ⟨5, _⟩ => ⟨S512x512, .fp8e4m3⟩
  | .local _ .vmem, ⟨6, _⟩ => ⟨S512x512, .fp8e4m3⟩
  | .local _ .vmem, ⟨7, _⟩ => ⟨S512x512, .fp8e4m3⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S6x12288x512, .fp8e4m3⟩
  | .local _ .vmem, ⟨14, _⟩ => ⟨S6x16x12288, .f32⟩
  | .local _ .vmem, ⟨15, _⟩ => ⟨S6x512x12288, .bf16⟩
  | .local _ .vmem, ⟨16, _⟩ => ⟨S6x12288x512, .bf16⟩
  | .local _ .vmem, ⟨17, _⟩ => ⟨S6x512x12288, .bf16⟩
  | _, _ => ⟨S6x12288x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S6x12288x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x12288x512 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x16x12288 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6x512x12288 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S6x12288x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x512x12288 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Statistics.lean ====
abbrev S6x12288x512 : Shape := ⟨3, ![6, 12288, 512]⟩
abbrev S6x512x128 : Shape := ⟨3, ![6, 512, 128]⟩
abbrev S1x12288x512 : Shape := ⟨3, ![1, 12288, 512]⟩
abbrev S1x512x128 : Shape := ⟨3, ![1, 512, 128]⟩
abbrev S8x512 : Shape := ⟨2, ![8, 512]⟩
abbrev S1x64x512 : Shape := ⟨3, ![1, 64, 512]⟩
abbrev S64x512 : Shape := ⟨2, ![64, 512]⟩
abbrev S8x128 : Shape := ⟨2, ![8, 128]⟩
abbrev S8 : Shape := ⟨1, ![8]⟩
abbrev S8x1 : Shape := ⟨2, ![8, 1]⟩
abbrev S8x1x128 : Shape := ⟨3, ![8, 1, 128]⟩
abbrev S8x16x128 : Shape := ⟨3, ![8, 16, 128]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S6x12288x512, .bf16⟩
  | .hbm, ⟨1, _⟩ => ⟨S6x512x128, .f32⟩
  | .hbm, ⟨2, _⟩ => ⟨S6x512x128, .f32⟩
  | .local _ .vmem, ⟨0, _⟩ => ⟨S1x12288x512, .bf16⟩
  | .local _ .vmem, ⟨1, _⟩ => ⟨S1x12288x512, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | _, _ => ⟨S6x12288x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) (c0_i32_92 : BitVec 32) : Fin 3 → Nat :=
  let c0_93 : Index := 0#32
  let c0_i32 : BitVec 32 := 0#32
  let c1_i32 : BitVec 32 := 1#32
  let arg4 : BitVec 32 := Scf.iv c0_i32 c1_i32 k0_t1
  let c64_i32_91 : BitVec 32 := 64#32
  let v265 : BitVec 32 := Scalar.muli arg4 c64_i32_91
  let v266 : BitVec 32 := Scalar.addi c0_i32_92 v265
  let v267 : Index := Scalar.indexCast v266
  let c0_94 : Index := 0#32
  ![0, v267.toNat, 0]
@[reducible] def k0_t2_loop : Scf.Loop 32 :=
  let c0_i32_43 : BitVec 32 := 0#32
  let c64_i32_44 : BitVec 32 := 64#32
  let v140 : BitVec 32 := Scalar.addi c0_i32_43 c64_i32_44
  let c1_i32_45 : BitVec 32 := 1#32
  ⟨c0_i32_43, v140, c1_i32_45⟩
def k0_off2 (k0_t2 : Fin k0_t2_loop.trips) (c0_i32_92 : BitVec 32) : Fin 3 → Nat :=
  let c0_93 : Index := 0#32
  let c0_i32_43 : BitVec 32 := 0#32
  let c1_i32_45 : BitVec 32 := 1#32
  let arg4 : BitVec 32 := Scf.iv c0_i32_43 c1_i32_45 k0_t2
  let c64_i32_91 : BitVec 32 := 64#32
  let v265 : BitVec 32 := Scalar.muli arg4 c64_i32_91
  let v266 : BitVec 32 := Scalar.addi c0_i32_92 v265
  let v267 : Index := Scalar.indexCast v266
  let c0_94 : Index := 0#32
  ![0, v267.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12288x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== StatisticsIdeal.lean ====
variable {F : FTy → Type} [FloatOps F] [Named F]
def κ : String → Option EReal := fun
  | "inv_n" => some ((196608⁻¹ : ℝ) : EReal)
  | _ => none
-- ==== StatisticsReferenceIdeal.lean ====
abbrev S6x12288x512 : Shape := ⟨3, ![6, 12288, 512]⟩
abbrev S6x12288x32x16 : Shape := ⟨4, ![6, 12288, 32, 16]⟩
abbrev S_ : Shape := ⟨0, ![]⟩
abbrev S6x32 : Shape := ⟨2, ![6, 32]⟩
abbrev S6x1x32x1 : Shape := ⟨4, ![6, 1, 32, 1]⟩
abbrev S6x32x1x1 : Shape := ⟨4, ![6, 32, 1, 1]⟩
abbrev S6x32x16x128 : Shape := ⟨4, ![6, 32, 16, 128]⟩
abbrev S6x512x128 : Shape := ⟨3, ![6, 512, 128]⟩

abbrev nBuf : Space → Nat
  | .hbm => 28
  | .vmem => 0
  | .smem => 0
  | _ => 0

abbrev bufTy : (tb : Table) → Fin (tcTables nBuf tb) → BufTy
  | .hbm, ⟨0, _⟩ => ⟨S6x12288x512, .bf16⟩
  | .hbm, ⟨1, _⟩ => ⟨S6x12288x512, .f32⟩
  | .hbm, ⟨2, _⟩ => ⟨S6x12288x32x16, .f32⟩
  | .hbm, ⟨3, _⟩ => ⟨S_, .f32⟩
  | .hbm, ⟨4, _⟩ => ⟨S6x32, .f32⟩
  | .hbm, ⟨5, _⟩ => ⟨S6x1x32x1, .f32⟩
  | .hbm, ⟨6, _⟩ => ⟨S_, .f32⟩
  | .hbm, ⟨7, _⟩ => ⟨S6x1x32x1, .f32⟩
  | .hbm, ⟨8, _⟩ => ⟨S6x1x32x1, .f32⟩
  | .hbm, ⟨9, _⟩ => ⟨S6x12288x32x16, .f32⟩
  | .hbm, ⟨10, _⟩ => ⟨S6x12288x32x16, .f32⟩
  | .hbm, ⟨11, _⟩ => ⟨S6x12288x32x16, .f32⟩
  | .hbm, ⟨12, _⟩ => ⟨S_, .f32⟩
  | .hbm, ⟨13, _⟩ => ⟨S6x32, .f32⟩
  | .hbm, ⟨14, _⟩ => ⟨S6x1x32x1, .f32⟩
  | .hbm, ⟨15, _⟩ => ⟨S_, .f32⟩
  | .hbm, ⟨16, _⟩ => ⟨S6x1x32x1, .f32⟩
  | .hbm, ⟨17, _⟩ => ⟨S6x1x32x1, .f32⟩
  | .hbm, ⟨18, _⟩ => ⟨S6x32x1x1, .f32⟩
  | .hbm, ⟨19, _⟩ => ⟨S6x32x16x128, .f32⟩
  | .hbm, ⟨20, _⟩ => ⟨S6x512x128, .f32⟩
  | .hbm, ⟨21, _⟩ => ⟨S_, .f32⟩
  | .hbm, ⟨22, _⟩ => ⟨S6x1x32x1, .f32⟩
  | .hbm, ⟨23, _⟩ => ⟨S6x1x32x1, .f32⟩
  | .hbm, ⟨24, _⟩ => ⟨S6x1x32x1, .f32⟩
  | .hbm, ⟨25, _⟩ => ⟨S6x32x1x1, .f32⟩
  | .hbm, ⟨26, _⟩ => ⟨S6x32x16x128, .f32⟩
  | .hbm, ⟨27, _⟩ => ⟨S6x512x128, .f32⟩
  | _, _ => ⟨S6x12288x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Proof.Words.lean ====
/-
  THE KERNEL'S WORDS AS ONE RECURSION. The body visits its 24 key chunks one after another in unrolled code, so the frame run
  names several words per chunk. Here each is identified with one of three sequences: `M n` the running maximum, `L n` the
  running sum, `A n` the running weighted values after chunk `n` (each over the chunk's scores `S n`). The tail - dividing
  by the sum and quantising, in four tiles of 128 queries - is identified with one definition used four times.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KVal

open Cert.KernelIdeal Cert.KernelIdeal.Gen Idealize.ShloMosaic Idealize.ShloMosaic.TcCoe Idealize.SL.Sem

variable {F : FTy → Type} [FloatOps F] [Named F]

/-- Chunk `n` of the keys: rows `512 n ..` of the block. -/
def kc (x1 : Vec F S1x12288x512 .bf16) (n : ℕ) : Vec F S1x512x512 .bf16 :=
  fun y => x1 (ix3 0 ⟨(512 * n + (y 1).val) % 12288, Nat.mod_lt _ (by decide)⟩ (y 2))

/-- Chunk `n` of the values: columns `512 n ..` of the block. -/
def vc (x2 : Vec F S1x512x12288 .bf16) (n : ℕ) : Vec F S1x512x512 .bf16 :=
  fun y => x2 (ix3 0 (y 1) ⟨(512 * n + (y 2).val) % 12288, Nat.mod_lt _ (by decide)⟩)

/-- The scores of chunk `n`, key by query. -/
def S (x0 : Vec F S1x512x512 .bf16) (x1 : Vec F S1x12288x512 .bf16) (n : ℕ) : FVec F S512x512 .f32 := k0_pay2 (kc x1 n) x0

/-- The running maximum (times the scale) after chunk `n`. -/
def M (x0 : Vec F S1x512x512 .bf16) (x1 : Vec F S1x12288x512 .bf16) : ℕ → FVec F S1x512 .f32
  | 0 => k0_pay4 (kc x1 0) x0
  | n + 1 => k0_pay10 (S x0 x1 (n + 1)) (M x0 x1 n)

/-- The running sum of the exponentials after chunk `n`. -/
def L (x0 : Vec F S1x512x512 .bf16) (x1 : Vec F S1x12288x512 .bf16) : ℕ → FVec F S1x512 .f32
  | 0 => k0_pay6 (kc x1 0) x0
  | n + 1 => k0_pay13 (S x0 x1 (n + 1)) (M x0 x1 n) (L x0 x1 n)

/-- The running weighted values after chunk `n`, channel by query. -/
def A (x0 : Vec F S1x512x512 .bf16) (x1 : Vec F S1x12288x512 .bf16) (x2 : Vec F S1x512x12288 .bf16) : ℕ → FVec F S512x512 .f32
  | 0 => k0_pay7 (kc x1 0) x0 (vc x2 0)
  | n + 1 => k0_pay14 (S x0 x1 (n + 1)) (M x0 x1 n) (vc x2 (n + 1)) (A x0 x1 x2 n)

theorem hz2 : (![0, 0] : Fin 2 → Nat) = fun _ => 0 := funext fun a => by fin_cases a <;> rfl
theorem hz3 : (![0, 0, 0] : Fin 3 → Nat) = fun _ => 0 := funext fun a => by fin_cases a <;> rfl

section
variable {arg3 : Memref sig .tc .vmem S1x12288x512 .bf16} (harg3 : arg3.IsWhole) (x1 : Vec F S1x12288x512 .bf16)
variable {arg4 : Memref sig .tc .vmem S1x512x12288 .bf16} (harg4 : arg4.IsWhole) (x2 : Vec F S1x512x12288 .bf16)
variable {arg2 : Memref sig .tc .vmem S1x512x512 .bf16} (harg2 : arg2.IsWhole) (x0 : Vec F S1x512x512 .bf16)

theorem q_ld (inb) : View.readAt (Elt F) arg2.view (Rect.unit ![0, 0, 0] S1x512x512.size inb).toLoadRect (harg2.unread x0) = x0 := by
  rw [View.readAt_eq_ld, harg2.read_unread, View.ld_unit_zero (S := S1x512x512) hz3]

theorem k_ld (o n : ℕ) (ho : o = 512 * n) (hn : n < 24) (inb) :
    View.readAt (Elt F) arg3.view (Rect.unit (s := S1x12288x512) ![0, o, 0] S1x512x512.size inb).toLoadRect (harg3.unread x1) = kc x1 n := by
  rw [View.readAt_eq_ld, harg3.read_unread, View.ld_unit]
  funext y
  refine congrArg x1 (funext fun a => Fin.ext ?_)
  subst ho
  have h1 : (y 1).val < 512 := (y 1).isLt
  have h0 : (y 0).val < 1 := (y 0).isLt
  fin_cases a
  · show 0 + (y 0).val = 0; omega
  · show 512 * n + (y 1).val = (512 * n + (y 1).val) % 12288; omega
  · show 0 + (y 2).val = (y 2).val; omega

theorem v_ld (o n : ℕ) (ho : o = 512 * n) (hn : n < 24) (inb) :
    View.readAt (Elt F) arg4.view (Rect.unit (s := S1x512x12288) ![0, 0, o] S1x512x512.size inb).toLoadRect (harg4.unread x2) = vc x2 n := by
  rw [View.readAt_eq_ld, harg4.read_unread, View.ld_unit]
  funext y
  refine congrArg x2 (funext fun a => Fin.ext ?_)
  subst ho
  have h1 : (y 2).val < 512 := (y 2).isLt
  have h0 : (y 0).val < 1 := (y 0).isLt
  fin_cases a
  · show 0 + (y 0).val = 0; omega
  · show 0 + (y 1).val = (y 1).val; omega
  · show 512 * n + (y 2).val = (512 * n + (y 2).val) % 12288; omega
end

/-- A store of the whole buffer covers it. -/
theorem cov_head (inb) (w : S512x512.Idx → Elt F .f32) (L : List (View.Piece (Elt F) S512x512 .f32)) (y : S512x512.Idx) :
    ∃ p ∈ ((⟨Rect.unit ![0, 0] S512x512.size inb, w⟩ : View.Piece (Elt F) S512x512 .f32) :: L), y ∈ p.1.set := by
  refine ⟨(⟨Rect.unit ![0, 0] S512x512.size inb, w⟩ : View.Piece (Elt F) S512x512 .f32), List.mem_cons_self .., ?_⟩
  exact View.mem_set_unit_zero (S := S512x512) hz2 inb y

/-- A load of the whole buffer reads what the last store of the whole buffer left. -/
theorem readCov_head (v : View sig .tc .vmem S512x512 .f32) (inb inb') (w : S512x512.Idx → Elt F .f32) (L : List (View.Piece (Elt F) S512x512 .f32)) :
    v.readCov ((⟨Rect.unit ![0, 0] S512x512.size inb, w⟩ : View.Piece (Elt F) S512x512 .f32) :: L) (Rect.unit (s := S512x512) ![0, 0] S512x512.size inb').toLoadRect = w := by
  rw [View.readCov_eq_canon_ld _ _ _ (cov_head inb w L),
    View.canon_cons_unit_zero (S := S512x512) hz2, View.ld_unit_zero (S := S512x512) hz2]

/-- A load of part of the buffer reads that part of what the last store of the whole buffer left. -/
theorem readCov_part (v : View sig .tc .vmem S512x512 .f32) (inb) (w : S512x512.Idx → Elt F .f32) (L : List (View.Piece (Elt F) S512x512 .f32)) (r : Rect S512x512) :
    v.readCov ((⟨Rect.unit ![0, 0] S512x512.size inb, w⟩ : View.Piece (Elt F) S512x512 .f32) :: L) r.toLoadRect = View.ld w r := by
  rw [View.readCov_eq_canon_ld _ _ _ (cov_head inb w L),
    View.canon_cons_unit_zero (S := S512x512) hz2]

section
variable (c : Dev nD)
  (arg2 : Memref sig .tc .vmem S1x512x512 .bf16) (harg2 : arg2.IsWhole)
  (arg3 : Memref sig .tc .vmem S1x12288x512 .bf16) (harg3 : arg3.IsWhole)
  (arg4 : Memref sig .tc .vmem S1x512x12288 .bf16) (harg4 : arg4.IsWhole)
  (arg13 : Memref sig .tc .vmem S512x512 .f32)
  (x0 : Vec F S1x512x512 .bf16) (x1 : Vec F S1x12288x512 .bf16) (x2 : Vec F S1x512x12288 .bf16)

theorem s_1 : kernelRun0_A.sl.r c arg2 harg2 arg3 harg3 x0 x1 = S x0 x1 1 := by
  unfold kernelRun0_A.sl.r
  simp only [k_ld harg3 x1 512 1 (by decide) (by decide), q_ld harg2 x0]
  rfl
theorem s_2 : kernelRun0_A.sl.r_4 c arg2 harg2 arg3 harg3 x0 x1 = S x0 x1 2 := by
  unfold kernelRun0_A.sl.r_4
  simp only [kernelRun0_A.sl.r_3, q_ld harg2 x0, k_ld harg3 x1 1024 2 (by decide) (by decide)]
  rfl
theorem s_3 : kernelRun0_A.sl.r_7 c arg2 harg2 arg3 harg3 x0 x1 = S x0 x1 3 := by
  unfold kernelRun0_A.sl.r_7
  simp only [k_ld harg3 x1 1536 3 (by decide) (by decide), q_ld harg2 x0]
  rfl
theorem s_4 : kernelRun0_A.sl.r_10 c arg2 harg2 arg3 harg3 x0 x1 = S x0 x1 4 := by
  unfold kernelRun0_A.sl.r_10
  simp only [k_ld harg3 x1 2048 4 (by decide) (by decide), q_ld harg2 x0]
  rfl
theorem s_5 : kernelRun0_A.sl.r_13 c arg2 harg2 arg3 harg3 x0 x1 = S x0 x1 5 := by
  unfold kernelRun0_A.sl.r_13
  simp only [k_ld harg3 x1 2560 5 (by decide) (by decide), q_ld harg2 x0]
  rfl
theorem s_6 : kernelRun0_A.sl.r_18 c arg2 harg2 arg3 harg3 x0 x1 = S x0 x1 6 := by
  unfold kernelRun0_A.sl.r_18
  simp only [k_ld harg3 x1 3072 6 (by decide) (by decide), q_ld harg2 x0]
  rfl
theorem s_7 : kernelRun0_A.sl.r_23 c arg2 harg2 arg3 harg3 x0 x1 = S x0 x1 7 := by
  unfold kernelRun0_A.sl.r_23
  simp only [k_ld harg3 x1 3584 7 (by decide) (by decide), q_ld harg2 x0]
  rfl
theorem s_8 : kernelRun0_A.sl.r_28 c arg2 harg2 arg3 harg3 x0 x1 = S x0 x1 8 := by
  unfold kernelRun0_A.sl.r_28
  simp only [k_ld harg3 x1 4096 8 (by decide) (by decide), q_ld harg2 x0]
  rfl
theorem s_9 : kernelRun0_A.sl.r_31 c arg2 harg2 arg3 harg3 x0 x1 = S x0 x1 9 := by
  unfold kernelRun0_A.sl.r_31
  simp only [k_ld harg3 x1 4608 9 (by decide) (by decide), q_ld harg2 x0]
  rfl
theorem s_10 : kernelRun0_A.sl.r_36 c arg2 harg2 arg3 harg3 x0 x1 = S x0 x1 10 := by
  unfold kernelRun0_A.sl.r_36
  simp only [kernelRun0_A.sl.r_34, kernelRun0_A.sl.r_35, k_ld harg3 x1 5120 10 (by decide) (by decide), q_ld harg2 x0]
  rfl
theorem s_11 : kernelRun0_A.sl.r_39 c arg2 harg2 arg3 harg3 x0 x1 = S x0 x1 11 := by
  unfold kernelRun0_A.sl.r_39
  simp only [k_ld harg3 x1 5632 11 (by decide) (by decide), q_ld harg2 x0]
  rfl
theorem s_12 : kernelRun0_A.sl.r_43 c arg2 harg2 arg3 harg3 x0 x1 = S x0 x1 12 := by
  unfold kernelRun0_A.sl.r_43
  simp only [k_ld harg3 x1 6144 12 (by decide) (by decide), q_ld harg2 x0]
  rfl
theorem s_13 : kernelRun0_A.sl.r_47 c arg2 harg2 arg3 harg3 x0 x1 = S x0 x1 13 := by
  unfold kernelRun0_A.sl.r_47
  simp only [k_ld harg3 x1 6656 13 (by decide) (by decide), q_ld harg2 x0]
  rfl
theorem s_14 : kernelRun0_A.sl.r_52 c arg2 harg2 arg3 harg3 x0 x1 = S x0 x1 14 := by
  unfold kernelRun0_A.sl.r_52
  simp only [k_ld harg3 x1 7168 14 (by decide) (by decide), q_ld harg2 x0]
  rfl
theorem s_15 : kernelRun0_A.sl.r_57 c arg2 harg2 arg3 harg3 x0 x1 = S x0 x1 15 := by
  unfold kernelRun0_A.sl.r_57
  simp only [k_ld harg3 x1 7680 15 (by decide) (by decide), q_ld harg2 x0]
  rfl
theorem s_16 : kernelRun0_A.sl.r_61 c arg2 harg2 arg3 harg3 x0 x1 = S x0 x1 16 := by
  unfold kernelRun0_A.sl.r_61
  simp only [k_ld harg3 x1 8192 16 (by decide) (by decide), q_ld harg2 x0]
  rfl
theorem s_17 : kernelRun0_A.sl.r_65 c arg2 harg2 arg3 harg3 x0 x1 = S x0 x1 17 := by
  unfold kernelRun0_A.sl.r_65
  simp only [kernelRun0_A.sl.r_64, q_ld harg2 x0, k_ld harg3 x1 8704 17 (by decide) (by decide)]
  rfl
theorem s_18 : kernelRun0_A.sl.r_68 c arg2 harg2 arg3 harg3 x0 x1 = S x0 x1 18 := by
  unfold kernelRun0_A.sl.r_68
  simp only [k_ld harg3 x1 9216 18 (by decide) (by decide), q_ld harg2 x0]
  rfl
theorem s_19 : kernelRun0_A.sl.r_71 c arg2 harg2 arg3 harg3 x0 x1 = S x0 x1 19 := by
  unfold kernelRun0_A.sl.r_71
  simp only [k_ld harg3 x1 9728 19 (by decide) (by decide), q_ld harg2 x0]
  rfl
theorem s_20 : kernelRun0_A.sl.r_74 c arg2 harg2 arg3 harg3 x0 x1 = S x0 x1 20 := by
  unfold kernelRun0_A.sl.r_74
  simp only [k_ld harg3 x1 10240 20 (by decide) (by decide), q_ld harg2 x0]
  rfl
theorem s_21 : kernelRun0_A.sl.r_79 c arg2 harg2 arg3 harg3 x0 x1 = S x0 x1 21 := by
  unfold kernelRun0_A.sl.r_79
  simp only [k_ld harg3 x1 10752 21 (by decide) (by decide), q_ld harg2 x0]
  rfl
theorem s_22 : kernelRun0_A.sl.r_84 c arg2 harg2 arg3 harg3 x0 x1 = S x0 x1 22 := by
  unfold kernelRun0_A.sl.r_84
  simp only [k_ld harg3 x1 11264 22 (by decide) (by decide), q_ld harg2 x0]
  rfl
theorem s_23 : kernelRun0_A.sl.r_89 c arg2 harg2 arg3 harg3 x0 x1 = S x0 x1 23 := by
  unfold kernelRun0_A.sl.r_89
  simp only [k_ld harg3 x1 11776 23 (by decide) (by decide), q_ld harg2 x0]
  rfl
theorem m_0 : kernelRun0_A.sl.r_1 c arg2 harg2 arg3 harg3 x0 x1 = M x0 x1 0 := by
  unfold kernelRun0_A.sl.r_1
  simp only [k_ld harg3 x1 0 0 (by decide) (by decide), q_ld harg2 x0]
  rfl
theorem m_1 : kernelRun0_A.sl.r_5 c arg2 harg2 arg3 harg3 x0 x1 = M x0 x1 1 := by
  unfold kernelRun0_A.sl.r_5
  simp only [s_1, m_0]
  rfl
theorem m_2 : kernelRun0_A.sl.r_8 c arg2 harg2 arg3 harg3 x0 x1 = M x0 x1 2 := by
  unfold kernelRun0_A.sl.r_8
  simp only [s_2, m_1]
  rfl
theorem m_3 : kernelRun0_A.sl.r_11 c arg2 harg2 arg3 harg3 x0 x1 = M x0 x1 3 := by
  unfold kernelRun0_A.sl.r_11
  simp only [s_2, m_1, s_3]
  rfl
theorem m_4 : kernelRun0_A.sl.r_14 c arg2 harg2 arg3 harg3 x0 x1 = M x0 x1 4 := by
  unfold kernelRun0_A.sl.r_14
  simp only [s_4, m_3]
  rfl
theorem m_5 : kernelRun0_A.sl.r_19 c arg2 harg2 arg3 harg3 x0 x1 = M x0 x1 5 := by
  unfold kernelRun0_A.sl.r_19
  simp only [s_5, m_4]
  rfl
theorem m_6 : kernelRun0_A.sl.r_24 c arg2 harg2 arg3 harg3 x0 x1 = M x0 x1 6 := by
  unfold kernelRun0_A.sl.r_24
  simp only [s_6, m_5]
  rfl
theorem m_7 : kernelRun0_A.sl.r_29 c arg2 harg2 arg3 harg3 x0 x1 = M x0 x1 7 := by
  unfold kernelRun0_A.sl.r_29
  simp only [s_7, m_6]
  rfl
theorem m_8 : kernelRun0_A.sl.r_32 c arg2 harg2 arg3 harg3 x0 x1 = M x0 x1 8 := by
  unfold kernelRun0_A.sl.r_32
  simp only [s_8, m_7]
  rfl
theorem m_9 : kernelRun0_A.sl.r_37 c arg2 harg2 arg3 harg3 x0 x1 = M x0 x1 9 := by
  unfold kernelRun0_A.sl.r_37
  simp only [s_9, m_8]
  rfl
theorem m_10 : kernelRun0_A.sl.r_41 c arg2 harg2 arg3 harg3 x0 x1 = M x0 x1 10 := by
  unfold kernelRun0_A.sl.r_41
  simp only [kernelRun0_A.sl.r_40, kernelRun0_A.sl.r_34, kernelRun0_A.sl.r_35, m_9, k_ld harg3 x1 5120 10 (by decide) (by decide), q_ld harg2 x0]
  rfl
theorem m_11 : kernelRun0_A.sl.r_44 c arg2 harg2 arg3 harg3 x0 x1 = M x0 x1 11 := by
  unfold kernelRun0_A.sl.r_44
  simp only [kernelRun0_A.sl.r_40, kernelRun0_A.sl.r_34, kernelRun0_A.sl.r_35, m_9, s_11, k_ld harg3 x1 5120 10 (by decide) (by decide), q_ld harg2 x0]
  rfl
theorem m_12 : kernelRun0_A.sl.r_48 c arg2 harg2 arg3 harg3 x0 x1 = M x0 x1 12 := by
  unfold kernelRun0_A.sl.r_48
  simp only [s_12, m_11]
  rfl
theorem m_13 : kernelRun0_A.sl.r_53 c arg2 harg2 arg3 harg3 x0 x1 = M x0 x1 13 := by
  unfold kernelRun0_A.sl.r_53
  simp only [s_13, m_12]
  rfl
theorem m_14 : kernelRun0_A.sl.r_58 c arg2 harg2 arg3 harg3 x0 x1 = M x0 x1 14 := by
  unfold kernelRun0_A.sl.r_58
  simp only [s_14, m_13]
  rfl
theorem m_15 : kernelRun0_A.sl.r_62 c arg2 harg2 arg3 harg3 x0 x1 = M x0 x1 15 := by
  unfold kernelRun0_A.sl.r_62
  simp only [s_15, m_14]
  rfl
theorem m_16 : kernelRun0_A.sl.r_66 c arg2 harg2 arg3 harg3 x0 x1 = M x0 x1 16 := by
  unfold kernelRun0_A.sl.r_66
  simp only [s_16, m_15]
  rfl
theorem m_17 : kernelRun0_A.sl.r_69 c arg2 harg2 arg3 harg3 x0 x1 = M x0 x1 17 := by
  unfold kernelRun0_A.sl.r_69
  simp only [s_17, m_16]
  rfl
theorem m_18 : kernelRun0_A.sl.r_72 c arg2 harg2 arg3 harg3 x0 x1 = M x0 x1 18 := by
  unfold kernelRun0_A.sl.r_72
  simp only [s_17, m_16, s_18]
  rfl
theorem m_19 : kernelRun0_A.sl.r_75 c arg2 harg2 arg3 harg3 x0 x1 = M x0 x1 19 := by
  unfold kernelRun0_A.sl.r_75
  simp only [s_19, m_18]
  rfl
theorem m_20 : kernelRun0_A.sl.r_80 c arg2 harg2 arg3 harg3 x0 x1 = M x0 x1 20 := by
  unfold kernelRun0_A.sl.r_80
  simp only [s_20, m_19]
  rfl
theorem m_21 : kernelRun0_A.sl.r_85 c arg2 harg2 arg3 harg3 x0 x1 = M x0 x1 21 := by
  unfold kernelRun0_A.sl.r_85
  simp only [s_21, m_20]
  rfl
theorem m_22 : kernelRun0_A.sl.r_90 c arg2 harg2 arg3 harg3 x0 x1 = M x0 x1 22 := by
  unfold kernelRun0_A.sl.r_90
  simp only [s_22, m_21]
  rfl
theorem l_0 : kernelRun0_A.sl.r_2 c arg2 harg2 arg3 harg3 x0 x1 = L x0 x1 0 := by
  unfold kernelRun0_A.sl.r_2
  simp only [k_ld harg3 x1 0 0 (by decide) (by decide), q_ld harg2 x0]
  rfl
theorem l_1 : kernelRun0_A.sl.r_6 c arg2 harg2 arg3 harg3 x0 x1 = L x0 x1 1 := by
  unfold kernelRun0_A.sl.r_6
  simp only [s_1, m_0, l_0]
  rfl
theorem l_2 : kernelRun0_A.sl.r_9 c arg2 harg2 arg3 harg3 x0 x1 = L x0 x1 2 := by
  unfold kernelRun0_A.sl.r_9
  simp only [s_2, m_1, l_1]
  rfl
theorem l_3 : kernelRun0_A.sl.r_12 c arg2 harg2 arg3 harg3 x0 x1 = L x0 x1 3 := by
  unfold kernelRun0_A.sl.r_12
  simp only [s_3, m_2, l_2, m_3]
  rfl
theorem l_4 : kernelRun0_A.sl.r_17 c arg2 harg2 arg3 harg3 x0 x1 = L x0 x1 4 := by
  unfold kernelRun0_A.sl.r_17
  simp only [kernelRun0_A.sl.r_16, m_3, l_3, m_4, s_4]
  rfl
theorem l_6 : kernelRun0_A.sl.r_26 c arg2 harg2 arg3 harg3 x0 x1 = L x0 x1 6 := by
  unfold kernelRun0_A.sl.r_26
  simp only [kernelRun0_A.sl.r_20, kernelRun0_A.sl.r_22, l_4, s_6, m_5, s_5, m_4]
  rfl
theorem l_7 : kernelRun0_A.sl.r_30 c arg2 harg2 arg3 harg3 x0 x1 = L x0 x1 7 := by
  unfold kernelRun0_A.sl.r_30
  simp only [s_7, m_6, l_6]
  rfl
theorem l_8 : kernelRun0_A.sl.r_33 c arg2 harg2 arg3 harg3 x0 x1 = L x0 x1 8 := by
  unfold kernelRun0_A.sl.r_33
  simp only [s_8, m_7, l_7]
  rfl
theorem l_9 : kernelRun0_A.sl.r_38 c arg2 harg2 arg3 harg3 x0 x1 = L x0 x1 9 := by
  unfold kernelRun0_A.sl.r_38
  simp only [s_9, m_8, l_8]
  rfl
theorem l_10 : kernelRun0_A.sl.r_42 c arg2 harg2 arg3 harg3 x0 x1 = L x0 x1 10 := by
  unfold kernelRun0_A.sl.r_42
  simp only [kernelRun0_A.sl.r_40, kernelRun0_A.sl.r_34, kernelRun0_A.sl.r_35, s_10, m_9, l_9, k_ld harg3 x1 5120 10 (by decide) (by decide), q_ld harg2 x0]
  rfl
theorem l_11 : kernelRun0_A.sl.r_46 c arg2 harg2 arg3 harg3 x0 x1 = L x0 x1 11 := by
  unfold kernelRun0_A.sl.r_46
  simp only [kernelRun0_A.sl.r_45, kernelRun0_A.sl.r_40, kernelRun0_A.sl.r_34, kernelRun0_A.sl.r_35, m_10, l_10, m_11, m_9, s_11, k_ld harg3 x1 5120 10 (by decide) (by decide), q_ld harg2 x0]
  rfl
theorem l_13 : kernelRun0_A.sl.r_56 c arg2 harg2 arg3 harg3 x0 x1 = L x0 x1 13 := by
  unfold kernelRun0_A.sl.r_56
  simp only [kernelRun0_A.sl.r_50, m_11, l_11, s_13, m_12, s_12]
  rfl
theorem l_14 : kernelRun0_A.sl.r_59 c arg2 harg2 arg3 harg3 x0 x1 = L x0 x1 14 := by
  unfold kernelRun0_A.sl.r_59
  simp only [s_14, m_13, l_13]
  rfl
theorem l_15 : kernelRun0_A.sl.r_63 c arg2 harg2 arg3 harg3 x0 x1 = L x0 x1 15 := by
  unfold kernelRun0_A.sl.r_63
  simp only [s_15, m_14, l_14]
  rfl
theorem l_16 : kernelRun0_A.sl.r_67 c arg2 harg2 arg3 harg3 x0 x1 = L x0 x1 16 := by
  unfold kernelRun0_A.sl.r_67
  simp only [s_16, m_15, l_15]
  rfl
theorem l_17 : kernelRun0_A.sl.r_70 c arg2 harg2 arg3 harg3 x0 x1 = L x0 x1 17 := by
  unfold kernelRun0_A.sl.r_70
  simp only [s_17, m_16, l_16]
  rfl
theorem l_18 : kernelRun0_A.sl.r_73 c arg2 harg2 arg3 harg3 x0 x1 = L x0 x1 18 := by
  unfold kernelRun0_A.sl.r_73
  simp only [s_18, m_17, l_17, m_18]
  rfl
theorem l_19 : kernelRun0_A.sl.r_78 c arg2 harg2 arg3 harg3 x0 x1 = L x0 x1 19 := by
  unfold kernelRun0_A.sl.r_78
  simp only [kernelRun0_A.sl.r_77, m_18, l_18, m_19, s_19]
  rfl
theorem l_21 : kernelRun0_A.sl.r_87 c arg2 harg2 arg3 harg3 x0 x1 = L x0 x1 21 := by
  unfold kernelRun0_A.sl.r_87
  simp only [kernelRun0_A.sl.r_81, kernelRun0_A.sl.r_83, l_19, s_21, m_20, s_20, m_19]
  rfl
theorem l_22 : kernelRun0_A.sl.r_91 c arg2 harg2 arg3 harg3 x0 x1 = L x0 x1 22 := by
  unfold kernelRun0_A.sl.r_91
  simp only [s_22, m_21, l_21]
  rfl

/-- One over the sum of all exponentials. -/
def il (x0 : Vec F S1x512x512 .bf16) (x1 : Vec F S1x12288x512 .bf16) : FVec F S1x512 .f32 :=
  divf (broadcast S1x512 (Scalar.ofBits .f32 0x3F800000#32)) (L x0 x1 23)

theorem il_eq : kernelRun0_A.sl.r_92 c arg2 harg2 arg3 harg3 x0 x1 = il x0 x1 := by
  unfold kernelRun0_A.sl.r_92
  simp only [s_23, m_22, l_22]
  rfl
theorem a_0 : kernelRun0_A.sl.v53 c arg2 harg2 arg3 harg3 arg4 harg4 arg13 x0 x1 x2 = A x0 x1 x2 0 := by
  unfold kernelRun0_A.sl.v53 kernelRun0_A.sl.HS0_1
  rw [View.readCov_unit_zero (S := S512x512) _ hz2]
  simp only [k_ld harg3 x1 0 0 (by decide) (by decide), q_ld harg2 x0, v_ld harg4 x2 0 0 (by decide) (by decide)]
  rfl
theorem a_1 : kernelRun0_A.sl.v85 c arg2 harg2 arg3 harg3 arg4 harg4 arg13 x0 x1 x2 = A x0 x1 x2 1 := by
  unfold kernelRun0_A.sl.v85 kernelRun0_A.sl.HS0_2
  rw [readCov_head]
  simp only [s_1, m_0, a_0, v_ld harg4 x2 512 1 (by decide) (by decide)]
  rfl
theorem a_2 : kernelRun0_A.sl.v117 c arg2 harg2 arg3 harg3 arg4 harg4 arg13 x0 x1 x2 = A x0 x1 x2 2 := by
  unfold kernelRun0_A.sl.v117 kernelRun0_A.sl.HS0_3
  rw [readCov_head]
  simp only [s_2, m_1, a_1, v_ld harg4 x2 1024 2 (by decide) (by decide)]
  rfl
theorem a_3 : kernelRun0_A.sl.v149 c arg2 harg2 arg3 harg3 arg4 harg4 arg13 x0 x1 x2 = A x0 x1 x2 3 := by
  unfold kernelRun0_A.sl.v149 kernelRun0_A.sl.HS0_4
  rw [readCov_head]
  simp only [s_3, m_2, m_3, a_2, v_ld harg4 x2 1536 3 (by decide) (by decide)]
  rfl
theorem a_4 : kernelRun0_A.sl.v181 c arg2 harg2 arg3 harg3 arg4 harg4 arg13 x0 x1 x2 = A x0 x1 x2 4 := by
  unfold kernelRun0_A.sl.v181 kernelRun0_A.sl.HS0_5
  rw [readCov_head]
  simp only [kernelRun0_A.sl.r_15, m_3, m_4, s_4, a_3, v_ld harg4 x2 2048 4 (by decide) (by decide)]
  rfl
theorem a_5 : kernelRun0_A.sl.v213 c arg2 harg2 arg3 harg3 arg4 harg4 arg13 x0 x1 x2 = A x0 x1 x2 5 := by
  unfold kernelRun0_A.sl.v213 kernelRun0_A.sl.HS0_6
  rw [readCov_head]
  simp only [kernelRun0_A.sl.r_21, kernelRun0_A.sl.r_22, s_5, m_4, v_ld harg4 x2 2560 5 (by decide) (by decide), a_4]
  rfl
theorem a_6 : kernelRun0_A.sl.v245 c arg2 harg2 arg3 harg3 arg4 harg4 arg13 x0 x1 x2 = A x0 x1 x2 6 := by
  unfold kernelRun0_A.sl.v245 kernelRun0_A.sl.HS0_7
  rw [readCov_head]
  simp only [kernelRun0_A.sl.r_25, kernelRun0_A.sl.r_27, s_6, m_5, v_ld harg4 x2 3072 6 (by decide) (by decide), a_5]
  rfl
theorem a_7 : kernelRun0_A.sl.v277 c arg2 harg2 arg3 harg3 arg4 harg4 arg13 x0 x1 x2 = A x0 x1 x2 7 := by
  unfold kernelRun0_A.sl.v277 kernelRun0_A.sl.HS0_8
  rw [readCov_head]
  simp only [s_7, m_6, a_6, v_ld harg4 x2 3584 7 (by decide) (by decide)]
  rfl
theorem a_8 : kernelRun0_A.sl.v309 c arg2 harg2 arg3 harg3 arg4 harg4 arg13 x0 x1 x2 = A x0 x1 x2 8 := by
  unfold kernelRun0_A.sl.v309 kernelRun0_A.sl.HS0_9
  rw [readCov_head]
  simp only [s_8, m_7, a_7, v_ld harg4 x2 4096 8 (by decide) (by decide)]
  rfl
theorem a_9 : kernelRun0_A.sl.v341 c arg2 harg2 arg3 harg3 arg4 harg4 arg13 x0 x1 x2 = A x0 x1 x2 9 := by
  unfold kernelRun0_A.sl.v341 kernelRun0_A.sl.HS0_10
  rw [readCov_head]
  simp only [s_9, m_8, a_8, v_ld harg4 x2 4608 9 (by decide) (by decide)]
  rfl
theorem a_10 : kernelRun0_A.sl.v373 c arg2 harg2 arg3 harg3 arg4 harg4 arg13 x0 x1 x2 = A x0 x1 x2 10 := by
  unfold kernelRun0_A.sl.v373 kernelRun0_A.sl.HS0_11
  rw [readCov_head]
  simp only [kernelRun0_A.sl.r_40, kernelRun0_A.sl.r_34, kernelRun0_A.sl.r_35, s_10, m_9, k_ld harg3 x1 5120 10 (by decide) (by decide), q_ld harg2 x0, a_9, v_ld harg4 x2 5120 10 (by decide) (by decide)]
  rfl
theorem a_11 : kernelRun0_A.sl.v405 c arg2 harg2 arg3 harg3 arg4 harg4 arg13 x0 x1 x2 = A x0 x1 x2 11 := by
  unfold kernelRun0_A.sl.v405 kernelRun0_A.sl.HS0_12
  rw [readCov_head]
  simp only [kernelRun0_A.sl.r_45, kernelRun0_A.sl.r_40, kernelRun0_A.sl.r_34, kernelRun0_A.sl.r_35, m_10, m_11, m_9, s_11, k_ld harg3 x1 5120 10 (by decide) (by decide), q_ld harg2 x0, a_10, v_ld harg4 x2 5632 11 (by decide) (by decide)]
  rfl
theorem a_12 : kernelRun0_A.sl.v437 c arg2 harg2 arg3 harg3 arg4 harg4 arg13 x0 x1 x2 = A x0 x1 x2 12 := by
  unfold kernelRun0_A.sl.v437 kernelRun0_A.sl.HS0_13
  rw [readCov_head]
  simp only [kernelRun0_A.sl.r_49, kernelRun0_A.sl.r_51, m_11, m_12, s_12, v_ld harg4 x2 6144 12 (by decide) (by decide), a_11]
  rfl
theorem a_13 : kernelRun0_A.sl.v469 c arg2 harg2 arg3 harg3 arg4 harg4 arg13 x0 x1 x2 = A x0 x1 x2 13 := by
  unfold kernelRun0_A.sl.v469 kernelRun0_A.sl.HS0_14
  rw [readCov_head]
  simp only [kernelRun0_A.sl.r_54, kernelRun0_A.sl.r_55, s_13, m_12, v_ld harg4 x2 6656 13 (by decide) (by decide), a_12]
  rfl
theorem a_14 : kernelRun0_A.sl.v501 c arg2 harg2 arg3 harg3 arg4 harg4 arg13 x0 x1 x2 = A x0 x1 x2 14 := by
  unfold kernelRun0_A.sl.v501 kernelRun0_A.sl.HS0_15
  rw [readCov_head]
  simp only [kernelRun0_A.sl.r_60, s_14, m_13, a_13, v_ld harg4 x2 7168 14 (by decide) (by decide)]
  rfl
theorem a_15 : kernelRun0_A.sl.v533 c arg2 harg2 arg3 harg3 arg4 harg4 arg13 x0 x1 x2 = A x0 x1 x2 15 := by
  unfold kernelRun0_A.sl.v533 kernelRun0_A.sl.HS0_16
  rw [readCov_head]
  simp only [s_15, m_14, a_14, v_ld harg4 x2 7680 15 (by decide) (by decide)]
  rfl
theorem a_16 : kernelRun0_A.sl.v565 c arg2 harg2 arg3 harg3 arg4 harg4 arg13 x0 x1 x2 = A x0 x1 x2 16 := by
  unfold kernelRun0_A.sl.v565 kernelRun0_A.sl.HS0_17
  rw [readCov_head]
  simp only [s_16, m_15, a_15, v_ld harg4 x2 8192 16 (by decide) (by decide)]
  rfl
theorem a_17 : kernelRun0_A.sl.v597 c arg2 harg2 arg3 harg3 arg4 harg4 arg13 x0 x1 x2 = A x0 x1 x2 17 := by
  unfold kernelRun0_A.sl.v597 kernelRun0_A.sl.HS0_18
  rw [readCov_head]
  simp only [s_17, m_16, a_16, v_ld harg4 x2 8704 17 (by decide) (by decide)]
  rfl
theorem a_18 : kernelRun0_A.sl.v629 c arg2 harg2 arg3 harg3 arg4 harg4 arg13 x0 x1 x2 = A x0 x1 x2 18 := by
  unfold kernelRun0_A.sl.v629 kernelRun0_A.sl.HS0_19
  rw [readCov_head]
  simp only [s_18, m_17, m_18, a_17, v_ld harg4 x2 9216 18 (by decide) (by decide)]
  rfl
theorem a_19 : kernelRun0_A.sl.v661 c arg2 harg2 arg3 harg3 arg4 harg4 arg13 x0 x1 x2 = A x0 x1 x2 19 := by
  unfold kernelRun0_A.sl.v661 kernelRun0_A.sl.HS0_20
  rw [readCov_head]
  simp only [kernelRun0_A.sl.r_76, m_18, m_19, s_19, a_18, v_ld harg4 x2 9728 19 (by decide) (by decide)]
  rfl
theorem a_20 : kernelRun0_A.sl.v693 c arg2 harg2 arg3 harg3 arg4 harg4 arg13 x0 x1 x2 = A x0 x1 x2 20 := by
  unfold kernelRun0_A.sl.v693 kernelRun0_A.sl.HS0_21
  rw [readCov_head]
  simp only [kernelRun0_A.sl.r_82, kernelRun0_A.sl.r_83, s_20, m_19, v_ld harg4 x2 10240 20 (by decide) (by decide), a_19]
  rfl
theorem a_21 : kernelRun0_A.sl.v725 c arg2 harg2 arg3 harg3 arg4 harg4 arg13 x0 x1 x2 = A x0 x1 x2 21 := by
  unfold kernelRun0_A.sl.v725 kernelRun0_A.sl.HS0_22
  rw [readCov_head]
  simp only [kernelRun0_A.sl.r_86, kernelRun0_A.sl.r_88, s_21, m_20, v_ld harg4 x2 10752 21 (by decide) (by decide), a_20]
  rfl
theorem a_22 : kernelRun0_A.sl.v752 c arg2 harg2 arg3 harg3 arg4 harg4 arg13 x0 x1 x2 = A x0 x1 x2 22 := by
  unfold kernelRun0_A.sl.v752 kernelRun0_A.sl.HS0_23
  rw [readCov_head]
  simp only [s_22, m_21, a_21, v_ld harg4 x2 11264 22 (by decide) (by decide)]
  rfl
theorem t_0 : kernelRun0_A.sl.v761 c arg2 harg2 arg3 harg3 arg4 harg4 arg13 x0 x1 x2 = View.ld (A x0 x1 x2 23) (Rect.unit (s := S512x512) ![0, 0] S512x128.size inb_S512x512_S512x128_0_0) := by
  unfold kernelRun0_A.sl.v761 kernelRun0_A.sl.HS0_24
  rw [readCov_part]
  simp only [s_23, m_22, a_22, v_ld harg4 x2 11776 23 (by decide) (by decide)]
  rfl
theorem t_1 : kernelRun0_A.sl.v887 c arg2 harg2 arg3 harg3 arg4 harg4 arg13 x0 x1 x2 = View.ld (A x0 x1 x2 23) (Rect.unit (s := S512x512) ![0, 128] S512x128.size inb_S512x512_S512x128_0_128) := by
  unfold kernelRun0_A.sl.v887 kernelRun0_A.sl.HS0_24
  rw [readCov_part]
  simp only [s_23, m_22, a_22, v_ld harg4 x2 11776 23 (by decide) (by decide)]
  rfl
theorem t_2 : kernelRun0_A.sl.v1013 c arg2 harg2 arg3 harg3 arg4 harg4 arg13 x0 x1 x2 = View.ld (A x0 x1 x2 23) (Rect.unit (s := S512x512) ![0, 256] S512x128.size inb_S512x512_S512x128_0_256) := by
  unfold kernelRun0_A.sl.v1013 kernelRun0_A.sl.HS0_24
  rw [readCov_part]
  simp only [s_23, m_22, a_22, v_ld harg4 x2 11776 23 (by decide) (by decide)]
  rfl
theorem t_3 : kernelRun0_A.sl.v1139 c arg2 harg2 arg3 harg3 arg4 harg4 arg13 x0 x1 x2 = View.ld (A x0 x1 x2 23) (Rect.unit (s := S512x512) ![0, 384] S512x128.size inb_S512x512_S512x128_0_384) := by
  unfold kernelRun0_A.sl.v1139 kernelRun0_A.sl.HS0_24
  rw [readCov_part]
  simp only [s_23, m_22, a_22, v_ld harg4 x2 11776 23 (by decide) (by decide)]
  rfl

/-- The exponent field found by halving, as the first tile writes it. -/
def fld (r : FVec F S16x1x128 .f32) : IVec S16x1x128 32 := k0_pay169 r k0_pay167 k0_pay168
/-- The scale of each group, as the first tile writes it. -/
def scl (r : FVec F S16x1x128 .f32) : FVec F S16x1x128 .f32 := k0_pay172 r (fld r) k0_pay170
/-- The scaled values, as the first tile writes them. -/
def scd (o : FVec F S16x32x128 .f32) (r : FVec F S16x1x128 .f32) : FVec F S16x32x128 .f32 := k0_pay173 o r (fld r) k0_pay170
/-- The group maximum over 448, as the first tile writes it. -/
def rat (o : FVec F S16x32x128 .f32) : FVec F S16x1x128 .f32 :=
  mulf (shapeCast S16x1x128 (multiReduction .maximumf [1] S16x128 (absf o) 0xFF800000#32 reduces_S16x32x128_S16x128 (.inl rfl) rfl)
    shapeCasts_S16x128_S16x1x128) (broadcast S16x1x128 (Scalar.ofBits .f32 0x3B124925#32))
/-- The attention values of one tile, by groups of 32 channels. -/
def grp (a : Vec F S512x128 .f32) (w : FVec F S1x128 .f32) : FVec F S16x32x128 .f32 :=
  shapeCast S16x32x128 (mulf a (broadcastTo S512x128 w broadcasts_S1x128_S512x128)) shapeCasts_S512x128_S16x32x128
/-- The lower clip bound. -/
def lo : F .f32 := Scalar.ofBits .f32 0xC3E00000#32

/-- Tile 0 of the attention values: queries `0 ..`. -/
def o_0 (x0 : Vec F S1x512x512 .bf16) (x1 : Vec F S1x12288x512 .bf16) (x2 : Vec F S1x512x12288 .bf16) : FVec F S16x32x128 .f32 :=
  grp (View.ld (A x0 x1 x2 23) (Rect.unit (s := S512x512) ![0, 0] S512x128.size inb_S512x512_S512x128_0_0))
    (extractStridedSlice S1x128 ![0, 0] (il x0 x1) slices_S1x512_o0_0_S1x128)

/-- Tile 1 of the attention values: queries `128 ..`. -/
def o_1 (x0 : Vec F S1x512x512 .bf16) (x1 : Vec F S1x12288x512 .bf16) (x2 : Vec F S1x512x12288 .bf16) : FVec F S16x32x128 .f32 :=
  grp (View.ld (A x0 x1 x2 23) (Rect.unit (s := S512x512) ![0, 128] S512x128.size inb_S512x512_S512x128_0_128))
    (extractStridedSlice S1x128 ![0, 128] (il x0 x1) slices_S1x512_o0_128_S1x128)

/-- Tile 2 of the attention values: queries `256 ..`. -/
def o_2 (x0 : Vec F S1x512x512 .bf16) (x1 : Vec F S1x12288x512 .bf16) (x2 : Vec F S1x512x12288 .bf16) : FVec F S16x32x128 .f32 :=
  grp (View.ld (A x0 x1 x2 23) (Rect.unit (s := S512x512) ![0, 256] S512x128.size inb_S512x512_S512x128_0_256))
    (extractStridedSlice S1x128 ![0, 256] (il x0 x1) slices_S1x512_o0_256_S1x128)

/-- Tile 3 of the attention values: queries `384 ..`. -/
def o_3 (x0 : Vec F S1x512x512 .bf16) (x1 : Vec F S1x12288x512 .bf16) (x2 : Vec F S1x512x12288 .bf16) : FVec F S16x32x128 .f32 :=
  grp (View.ld (A x0 x1 x2 23) (Rect.unit (s := S512x512) ![0, 384] S512x128.size inb_S512x512_S512x128_0_384))
    (extractStridedSlice S1x128 ![0, 384] (il x0 x1) slices_S1x512_o0_384_S1x128)

theorem o0_eq : kernelRun0_A.sl.r_93 c arg2 harg2 arg3 harg3 arg4 harg4 arg13 x0 x1 x2 = o_0 x0 x1 x2 := by
  unfold kernelRun0_A.sl.r_93
  simp only [s_23, m_22, l_22, t_0]
  rfl
theorem r0_eq : kernelRun0_A.sl.r_94 c arg2 harg2 arg3 harg3 arg4 harg4 arg13 x0 x1 x2 = rat (o_0 x0 x1 x2) := by
  unfold kernelRun0_A.sl.r_94
  simp only [s_23, m_22, l_22, t_0]
  rfl
theorem f0_eq : kernelRun0_A.sl.r_95 c arg2 harg2 arg3 harg3 arg4 harg4 arg13 x0 x1 x2 = fld (rat (o_0 x0 x1 x2)) := by
  unfold kernelRun0_A.sl.r_95
  simp only [r0_eq]
  rfl
theorem sc0_eq : kernelRun0_A.sl.r_96 c arg2 harg2 arg3 harg3 arg4 harg4 arg13 x0 x1 x2 = scl (rat (o_0 x0 x1 x2)) := by
  unfold kernelRun0_A.sl.r_96
  simp only [r0_eq, f0_eq]
  rfl
theorem sd0_eq : kernelRun0_A.sl.r_97 c arg2 harg2 arg3 harg3 arg4 harg4 arg13 x0 x1 x2 = scd (o_0 x0 x1 x2) (rat (o_0 x0 x1 x2)) := by
  unfold kernelRun0_A.sl.r_97
  simp only [o0_eq, r0_eq, f0_eq]
  rfl
theorem o1_eq : kernelRun0_A.sl.r_98 c arg2 harg2 arg3 harg3 arg4 harg4 arg13 x0 x1 x2 = o_1 x0 x1 x2 := by
  unfold kernelRun0_A.sl.r_98
  simp only [il_eq, t_1]
  rfl
theorem r1_eq : kernelRun0_A.sl.r_99 c arg2 harg2 arg3 harg3 arg4 harg4 arg13 x0 x1 x2 = rat (o_1 x0 x1 x2) := by
  unfold kernelRun0_A.sl.r_99
  simp only [il_eq, t_1]
  rfl
theorem sc1_eq : kernelRun0_A.sl.r_102 c arg2 harg2 arg3 harg3 arg4 harg4 arg13 x0 x1 x2 = scl (rat (o_1 x0 x1 x2)) := by
  unfold kernelRun0_A.sl.r_102
  simp only [kernelRun0_A.sl.r_100, kernelRun0_A.sl.r_101, r1_eq]
  rfl
theorem o2_eq : kernelRun0_A.sl.r_104 c arg2 harg2 arg3 harg3 arg4 harg4 arg13 x0 x1 x2 = o_2 x0 x1 x2 := by
  unfold kernelRun0_A.sl.r_104
  simp only [il_eq, t_2]
  rfl
theorem r2_eq : kernelRun0_A.sl.r_105 c arg2 harg2 arg3 harg3 arg4 harg4 arg13 x0 x1 x2 = rat (o_2 x0 x1 x2) := by
  unfold kernelRun0_A.sl.r_105
  simp only [il_eq, t_2]
  rfl
theorem sc2_eq : kernelRun0_A.sl.r_108 c arg2 harg2 arg3 harg3 arg4 harg4 arg13 x0 x1 x2 = scl (rat (o_2 x0 x1 x2)) := by
  unfold kernelRun0_A.sl.r_108
  simp only [kernelRun0_A.sl.r_107, kernelRun0_A.sl.r_106, r2_eq, il_eq, t_2]
  rfl
theorem o3_eq : kernelRun0_A.sl.r_112 c arg2 harg2 arg3 harg3 arg4 harg4 arg13 x0 x1 x2 = o_3 x0 x1 x2 := by
  unfold kernelRun0_A.sl.r_112
  simp only [il_eq, t_3]
  rfl
theorem r3_eq : kernelRun0_A.sl.r_113 c arg2 harg2 arg3 harg3 arg4 harg4 arg13 x0 x1 x2 = rat (o_3 x0 x1 x2) := by
  unfold kernelRun0_A.sl.r_113
  simp only [il_eq, t_3]
  rfl
theorem sc3_eq : kernelRun0_A.sl.r_118 c arg2 harg2 arg3 harg3 arg4 harg4 arg13 x0 x1 x2 = scl (rat (o_3 x0 x1 x2)) := by
  unfold kernelRun0_A.sl.r_118
  simp only [kernelRun0_A.sl.r_116, kernelRun0_A.sl.r_114, kernelRun0_A.sl.r_115, kernelRun0_A.sl.r_117, r3_eq, il_eq, t_3]
  rfl
theorem wide_0 : k0_pay175 (kernelRun0_A.sl.r_96 c arg2 harg2 arg3 harg3 arg4 harg4 arg13 x0 x1 x2) (kernelRun0_A.sl.r_97 c arg2 harg2 arg3 harg3 arg4 harg4 arg13 x0 x1 x2) kernelRun0_A.sl.cst_454 = k0_pay175 (scl (rat (o_0 x0 x1 x2))) (scd (o_0 x0 x1 x2) (rat (o_0 x0 x1 x2))) lo := by
  simp only [kernelRun0_A.sl.cst_454, sc0_eq, sd0_eq]
  rfl
theorem code_0 : k0_pay176 (kernelRun0_A.sl.r_97 c arg2 harg2 arg3 harg3 arg4 harg4 arg13 x0 x1 x2) kernelRun0_A.sl.cst_454 = k0_pay176 (scd (o_0 x0 x1 x2) (rat (o_0 x0 x1 x2))) lo := by
  simp only [kernelRun0_A.sl.cst_454, sd0_eq]
  rfl
theorem scale_0 : k0_pay177 (kernelRun0_A.sl.r_96 c arg2 harg2 arg3 harg3 arg4 harg4 arg13 x0 x1 x2) = k0_pay177 (scl (rat (o_0 x0 x1 x2))) := by
  simp only [sc0_eq]

theorem wide_1 : k0_pay188 (kernelRun0_A.sl.r_102 c arg2 harg2 arg3 harg3 arg4 harg4 arg13 x0 x1 x2) (kernelRun0_A.sl.r_103 c arg2 harg2 arg3 harg3 arg4 harg4 arg13 x0 x1 x2) = k0_pay175 (scl (rat (o_1 x0 x1 x2))) (scd (o_1 x0 x1 x2) (rat (o_1 x0 x1 x2))) lo := by
  simp only [kernelRun0_A.sl.r_103, kernelRun0_A.sl.r_100, kernelRun0_A.sl.r_101, sc1_eq, o1_eq, r1_eq]
  rfl
theorem code_1 : k0_pay189 (kernelRun0_A.sl.r_103 c arg2 harg2 arg3 harg3 arg4 harg4 arg13 x0 x1 x2) = k0_pay176 (scd (o_1 x0 x1 x2) (rat (o_1 x0 x1 x2))) lo := by
  simp only [kernelRun0_A.sl.r_103, kernelRun0_A.sl.r_100, kernelRun0_A.sl.r_101, o1_eq, r1_eq]
  rfl
theorem scale_1 : k0_pay190 (kernelRun0_A.sl.r_102 c arg2 harg2 arg3 harg3 arg4 harg4 arg13 x0 x1 x2) = k0_pay177 (scl (rat (o_1 x0 x1 x2))) := by
  simp only [sc1_eq]
  rfl
theorem wide_2 : k0_pay200 (kernelRun0_A.sl.r_110 c arg2 harg2 arg3 harg3 arg4 harg4 arg13 x0 x1 x2) (kernelRun0_A.sl.r_111 c arg2 harg2 arg3 harg3 arg4 harg4 arg13 x0 x1 x2) = k0_pay175 (scl (rat (o_2 x0 x1 x2))) (scd (o_2 x0 x1 x2) (rat (o_2 x0 x1 x2))) lo := by
  simp only [kernelRun0_A.sl.r_110, kernelRun0_A.sl.r_107, kernelRun0_A.sl.r_106, kernelRun0_A.sl.r_111, o2_eq, r2_eq, il_eq, t_2]
  rfl
theorem code_2 : k0_pay201 (kernelRun0_A.sl.r_109 c arg2 harg2 arg3 harg3 arg4 harg4 arg13 x0 x1 x2) = k0_pay176 (scd (o_2 x0 x1 x2) (rat (o_2 x0 x1 x2))) lo := by
  simp only [kernelRun0_A.sl.r_109, kernelRun0_A.sl.r_107, kernelRun0_A.sl.r_106, o2_eq, r2_eq, il_eq, t_2]
  rfl
theorem scale_2 : k0_pay202 (kernelRun0_A.sl.r_108 c arg2 harg2 arg3 harg3 arg4 harg4 arg13 x0 x1 x2) = k0_pay177 (scl (rat (o_2 x0 x1 x2))) := by
  simp only [sc2_eq]
  rfl
theorem wide_3 : k0_pay215 (kernelRun0_A.sl.r_120 c arg2 harg2 arg3 harg3 arg4 harg4 arg13 x0 x1 x2) = k0_pay175 (scl (rat (o_3 x0 x1 x2))) (scd (o_3 x0 x1 x2) (rat (o_3 x0 x1 x2))) lo := by
  simp only [kernelRun0_A.sl.r_120, kernelRun0_A.sl.r_116, kernelRun0_A.sl.r_114, kernelRun0_A.sl.r_115, kernelRun0_A.sl.r_117, o3_eq, r3_eq, il_eq, t_3]
  rfl
theorem code_3 : k0_pay216 (kernelRun0_A.sl.r_119 c arg2 harg2 arg3 harg3 arg4 harg4 arg13 x0 x1 x2) = k0_pay176 (scd (o_3 x0 x1 x2) (rat (o_3 x0 x1 x2))) lo := by
  simp only [kernelRun0_A.sl.r_119, kernelRun0_A.sl.r_116, kernelRun0_A.sl.r_114, kernelRun0_A.sl.r_115, kernelRun0_A.sl.r_117, o3_eq, r3_eq, il_eq, t_3]
  rfl
theorem scale_3 : k0_pay217 (kernelRun0_A.sl.r_118 c arg2 harg2 arg3 harg3 arg4 harg4 arg13 x0 x1 x2) = k0_pay177 (scl (rat (o_3 x0 x1 x2))) := by
  simp only [sc3_eq]
  rfl
end

end Cert.KVal

end
-- ==== Proof.Softmax.lean ====
/-
  THE MATHEMATICS OF ONE ATTENTION ROW, over the extended reals at finite arguments. A running maximum, a running sum and a
  running weighted sum, rescaled chunk by chunk in base two (`online`), end at the plain weighted mean (`online_final`),
  which is also what the reference's whole-row softmax gives (`row`). `mean` is that number.
-/
module

public import Idealize.ShloMosaic.Lib.Pointwise

@[expose] public section

noncomputable section

namespace Cert.Attn

open Idealize.ShloMosaic

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

/-- The maximum of finitely many reals, folded from minus infinity, is a real. -/
theorem fold_max_coe {ι : Type*} (s : Finset ι) (hs : s.Nonempty) (f : ι → ℝ) :
    ∃ x : ℝ, s.fold max (⊥ : EReal) (fun k => (f k : EReal)) = x := by
  classical
  induction hs using Finset.Nonempty.cons_induction with
  | singleton a => exact ⟨f a, by simp⟩
  | cons a s ha hs ih =>
    obtain ⟨x, hx⟩ := ih
    exact ⟨max (f a) x, by rw [Finset.fold_cons, hx, coe_max]⟩

theorem exp2_real (r : ℝ) : Ideal.exp2 (r : EReal) = (((2 : ℝ) ^ r : ℝ) : EReal) := rfl

/-- A chunked running softmax: the three running quantities after chunk `n`, with some real `x` for the maximum. -/
theorem online {K : ℕ} [NeZero K] (c : ℝ) (s v : ℕ → Fin K → ℝ) (mS lS aS : ℕ → EReal)
    (m0 : mS 0 = Finset.univ.fold max (⊥ : EReal) (fun k => (s 0 k : EReal)) * (c : EReal))
    (m1 : ∀ n, mS (n + 1) = max (mS n) (Finset.univ.fold max (⊥ : EReal) (fun k => (s (n + 1) k : EReal)) * (c : EReal)))
    (l0 : lS 0 = ∑ k, Ideal.exp2 ((s 0 k : EReal) * c - mS 0))
    (l1 : ∀ n, lS (n + 1) = lS n * Ideal.exp2 (mS n - mS (n + 1)) + ∑ k, Ideal.exp2 ((s (n + 1) k : EReal) * c - mS (n + 1)))
    (a0 : aS 0 = ∑ k, (v 0 k : EReal) * Ideal.exp2 ((s 0 k : EReal) * c - mS 0))
    (a1 : ∀ n, aS (n + 1) = aS n * Ideal.exp2 (mS n - mS (n + 1))
      + ∑ k, (v (n + 1) k : EReal) * Ideal.exp2 ((s (n + 1) k : EReal) * c - mS (n + 1))) (n : ℕ) :
    ∃ x : ℝ, mS n = x
      ∧ lS n = ((∑ i ∈ Finset.range (n + 1), ∑ k, (2 : ℝ) ^ (s i k * c - x) : ℝ) : EReal)
      ∧ aS n = ((∑ i ∈ Finset.range (n + 1), ∑ k, v i k * (2 : ℝ) ^ (s i k * c - x) : ℝ) : EReal) := by
  have hne : (Finset.univ : Finset (Fin K)).Nonempty := ⟨0, Finset.mem_univ _⟩
  have he (i : ℕ) (x : ℝ) (k : Fin K) : Ideal.exp2 ((s i k : EReal) * c - (x : EReal)) = (((2 : ℝ) ^ (s i k * c - x) : ℝ) : EReal) := by
    rw [← EReal.coe_mul, ← EReal.coe_sub, exp2_real]
  induction n with
  | zero =>
    obtain ⟨y, hy⟩ := fold_max_coe Finset.univ hne (s 0)
    have hm : mS 0 = ((y * c : ℝ) : EReal) := by rw [m0, hy, EReal.coe_mul]
    refine ⟨y * c, hm, ?_, ?_⟩
    · rw [l0, hm]; simp only [he]; rw [← coe_sum]; simp
    · rw [a0, hm]; simp only [he]; simp only [← EReal.coe_mul]; rw [← coe_sum]; simp
  | succ n ih =>
    obtain ⟨x, hx, hl, ha⟩ := ih
    obtain ⟨y, hy⟩ := fold_max_coe Finset.univ hne (s (n + 1))
    have hm : mS (n + 1) = ((max x (y * c) : ℝ) : EReal) := by rw [m1, hx, hy, ← EReal.coe_mul, coe_max]
    have hr (i : ℕ) (k : Fin K) : (2 : ℝ) ^ (s i k * c - x) * (2 : ℝ) ^ (x - max x (y * c)) = (2 : ℝ) ^ (s i k * c - max x (y * c)) := by
      rw [← Real.rpow_add two_pos]; congr 1; ring
    refine ⟨max x (y * c), hm, ?_, ?_⟩
    · rw [l1, hl, hx, hm]
      simp only [he]
      rw [← EReal.coe_sub, exp2_real, ← coe_sum, ← EReal.coe_mul, ← EReal.coe_add, Finset.sum_range_succ _ (n + 1), Finset.sum_mul]
      simp only [Finset.sum_mul, hr]
    · rw [a1, ha, hx, hm]
      simp only [he]; simp only [← EReal.coe_mul]
      rw [← EReal.coe_sub, exp2_real, ← coe_sum, ← EReal.coe_mul, ← EReal.coe_add, Finset.sum_range_succ _ (n + 1), Finset.sum_mul]
      simp only [Finset.sum_mul, mul_assoc, hr]

/-- The mean of `v` under the weights `w`. -/
def mean {ι : Type*} (t : Finset ι) (w v : ι → ℝ) : ℝ := (∑ j ∈ t, v j * w j) / ∑ j ∈ t, w j

/-- A mean lies within the bound of its values. -/
theorem abs_mean_le {ι : Type*} (t : Finset ι) (ht : t.Nonempty) (w v : ι → ℝ) (hw : ∀ j, 0 < w j) (B : ℝ) (hv : ∀ j, |v j| ≤ B) :
    |mean t w v| ≤ B := by
  have hp : 0 < ∑ j ∈ t, w j := Finset.sum_pos (fun j _ => hw j) ht
  rw [mean, abs_div, abs_of_pos hp, div_le_iff₀ hp, Finset.mul_sum]
  refine (Finset.abs_sum_le_sum_abs _ _).trans (Finset.sum_le_sum fun j _ => ?_)
  rw [abs_mul, abs_of_pos (hw j)]
  exact mul_le_mul_of_nonneg_right (hv j) (hw j).le

/-- Division of one by a nonzero real, then a product: the quotient. -/
theorem mul_div_one (a l : ℝ) (hl : l ≠ 0) : (a : EReal) * Ideal.div 1 (l : EReal) = ((a / l : ℝ) : EReal) := by
  rw [Ideal.div_coe hl, one_mul, ← EReal.coe_mul]; congr 1; ring

/-- A common factor of all the weights cancels. -/
theorem mean_shift {ι : Type*} (t : Finset ι) (w w' v : ι → ℝ) (u : ℝ) (hu : u ≠ 0) (h : ∀ j, w' j = w j * u) : mean t w' v = mean t w v := by
  unfold mean
  simp only [h, ← mul_assoc]
  rw [← Finset.sum_mul, ← Finset.sum_mul, mul_div_mul_right _ _ hu]

/-- What the running softmax ends at: the mean over all chunks. -/
theorem online_final {K : ℕ} [NeZero K] (c : ℝ) (s v : ℕ → Fin K → ℝ) (n : ℕ) (a l : EReal)
    (h : ∃ x : ℝ, l = ((∑ i ∈ Finset.range (n + 1), ∑ k, (2 : ℝ) ^ (s i k * c - x) : ℝ) : EReal)
      ∧ a = ((∑ i ∈ Finset.range (n + 1), ∑ k, v i k * (2 : ℝ) ^ (s i k * c - x) : ℝ) : EReal)) :
    a * Ideal.div 1 l = ((mean (Finset.range (n + 1) ×ˢ (Finset.univ : Finset (Fin K))) (fun p => (2 : ℝ) ^ (s p.1 p.2 * c)) (fun p => v p.1 p.2) : ℝ) : EReal) := by
  obtain ⟨x, rfl, rfl⟩ := h
  have hp : 0 < ∑ i ∈ Finset.range (n + 1), ∑ k : Fin K, (2 : ℝ) ^ (s i k * c - x) :=
    Finset.sum_pos (fun i _ => Finset.sum_pos (fun k _ => Real.rpow_pos_of_pos two_pos _) ⟨0, Finset.mem_univ _⟩) ⟨0, by simp⟩
  rw [mul_div_one _ _ hp.ne']
  congr 1
  rw [← mean_shift _ _ (fun p => (2 : ℝ) ^ (s p.1 p.2 * c - x)) _ ((2 : ℝ) ^ (-x)) (Real.rpow_pos_of_pos two_pos _).ne'
    (fun p => by rw [← Real.rpow_add two_pos]; rfl)]
  rw [mean, Finset.sum_product, Finset.sum_product]

/-- The reference's softmax row: the maximum subtracted, exponentials divided by their sum, the weighted sum of the values. -/
theorem row {ι : Type*} [Fintype ι] [Nonempty ι] (q : ℝ) (s v : ι → ℝ) :
    ∑ j, Ideal.div (Ideal.exp ((s j : EReal) * q - Finset.univ.fold max (⊥ : EReal) (fun j => (s j : EReal) * q)))
        (∑ j, Ideal.exp ((s j : EReal) * q - Finset.univ.fold max (⊥ : EReal) (fun j => (s j : EReal) * q))) * (v j : EReal)
      = ((mean Finset.univ (fun j => Real.exp (s j * q)) v : ℝ) : EReal) := by
  have hne : (Finset.univ : Finset ι).Nonempty := Finset.univ_nonempty
  obtain ⟨y, hy⟩ := fold_max_coe Finset.univ hne (fun j => s j * q)
  simp only [← EReal.coe_mul, hy, ← EReal.coe_sub, Ideal.exp_coe, ← coe_sum]
  have hp : 0 < ∑ j, Real.exp (s j * q - y) := Finset.sum_pos (fun j _ => Real.exp_pos _) hne
  simp only [Ideal.div_coe hp.ne', ← EReal.coe_mul, ← coe_sum]
  congr 1
  rw [← mean_shift _ _ (fun j => Real.exp (s j * q - y)) _ (Real.exp (-y)) (Real.exp_pos _).ne'
    (fun j => by rw [← Real.exp_add]; rfl), mean, Finset.sum_div]
  exact Finset.sum_congr rfl fun j _ => by ring

/-- The chunked mean is the whole one, chunk by chunk of the same keys, the weights written in base two. -/
theorem mean_chunks {K n N : ℕ} (hN : N = (n + 1) * K) (c q : ℝ) (hc : c * Real.log 2 = q) (s v : ℕ → Fin K → ℝ) (s' v' : Fin N → ℝ)
    (hs : ∀ (i : Fin (n + 1)) (k : Fin K) (h : i.val * K + k.val < N), s i k = s' ⟨i.val * K + k.val, h⟩)
    (hv : ∀ (i : Fin (n + 1)) (k : Fin K) (h : i.val * K + k.val < N), v i k = v' ⟨i.val * K + k.val, h⟩) :
    mean (Finset.range (n + 1) ×ˢ (Finset.univ : Finset (Fin K))) (fun p => (2 : ℝ) ^ (s p.1 p.2 * c)) (fun p => v p.1 p.2)
      = mean Finset.univ (fun j => Real.exp (s' j * q)) v' := by
  have hw (x : ℝ) : (2 : ℝ) ^ (x * c) = Real.exp (x * q) := by
    rw [Real.rpow_def_of_pos two_pos, ← hc]; congr 1; ring
  have key (f : ℕ → Fin K → ℝ) (f' : Fin N → ℝ)
      (h : ∀ (i : Fin (n + 1)) (k : Fin K) (h : i.val * K + k.val < N), f i k = f' ⟨i.val * K + k.val, h⟩) :
      ∑ i ∈ Finset.range (n + 1), ∑ k, f i k = ∑ j, f' j := by
    rw [Finset.sum_range]
    subst hN
    rw [← Fintype.sum_prod_type']
    refine Fintype.sum_equiv finProdFinEquiv _ _ fun p => ?_
    have hb : p.1.val * K + p.2.val < (n + 1) * K := by
      have := (finProdFinEquiv p).isLt
      rw [finProdFinEquiv_apply_val] at this
      calc p.1.val * K + p.2.val = p.2.val + K * p.1.val := by ring
        _ < _ := this
    rw [h p.1 p.2 hb]
    congr 1
    apply Fin.ext
    rw [finProdFinEquiv_apply_val]
    show p.1.val * K + p.2.val = _
    ring
  unfold mean
  rw [Finset.sum_product, Finset.sum_product]
  simp only [hw]
  rw [key (fun i k => v i k * Real.exp (s i k * q)) (fun j => v' j * Real.exp (s' j * q)) (fun i k h => by rw [hs i k h, hv i k h]),
    key (fun i k => Real.exp (s i k * q)) (fun j => Real.exp (s' j * q)) (fun i k h => by rw [hs i k h])]

end Cert.Attn

end
-- ==== Proof.Scale.lean ====
/-
  THE POWER-OF-TWO SCALE OF ONE GROUP. The kernel finds the exponent field of the ratio `r` (group maximum over 448) by
  halving: it keeps the largest `e` such that the float with exponent field `e` and nothing else is at most `r`. The
  reference takes `floor (log r / log 2) + 1`. Both scales, and both inverse scales, are the same powers of two
  (`scale_eq`, `inv_eq`), for every `r` from zero to below `2 ^ 126`.
-/
module

public import Idealize.ShloMosaic.Lib.Pointwise

@[expose] public section

set_option maxRecDepth 16384

noncomputable section

namespace Cert.Scale

open Idealize.ShloMosaic

/-- The float of exponent field `e`: the bits `e` shifted into place. -/
def pw (e : BitVec 32) : EReal := Ideal.ofBits .f32 (IntOp.shli .vector e 23#32)

/-- One halving step: add `w` to the field if the float there is still at most `r`. -/
def step (r : EReal) (w e : BitVec 32) : BitVec 32 := if pw (IntOp.addi e w) ≤ r then IntOp.addi e w else e

/-- The exponent field of `r`. -/
def field (r : EReal) : BitVec 32 :=
  step r 1#32 (step r 2#32 (step r 4#32 (step r 8#32 (step r 16#32 (step r 32#32 (step r 64#32 (step r 128#32 0#32)))))))

/-- The scale's exponent: the field minus 126, zero for a zero field. -/
def expo (r : EReal) : BitVec 32 := if field r = 0#32 then 0#32 else IntOp.subi (field r) 126#32

/-- The kernel's scale and inverse scale. -/
def scale (r : EReal) : EReal := pw (IntOp.addi (expo r) 127#32)
def inv (r : EReal) : EReal := pw (IntOp.subi 127#32 (expo r))

/-- The reference's exponent, with `ln2` for the logarithm of two. -/
def rexpo (ln2 r : EReal) : EReal :=
  if r < Ideal.ofBits .f32 0x00800000#32 then 0 else Ideal.liftRound Int.floor (Ideal.div (Ideal.log r) ln2) + 1

theorem bits_pw : ∀ e : Fin 256, let b := IntOp.shli .vector (BitVec.ofNat 32 e.val) 23#32
    b.extractLsb' 31 1 = 0#1 ∧ (b.extractLsb' 23 8).toNat = e.val ∧ (b.extractLsb' 0 23).toNat = 0 := by
  decide +kernel

theorem pw_zero : pw (BitVec.ofNat 32 0) = 0 := by
  have h := bits_pw ⟨0, by decide⟩
  simp only at h
  unfold pw Ideal.ofBits Ideal.ieee
  simp only [Nat.reduceAdd, h]
  simp

theorem pw_top : pw (BitVec.ofNat 32 255) = ⊤ := by
  have h := bits_pw ⟨255, by decide⟩
  simp only at h
  unfold pw Ideal.ofBits Ideal.ieee
  simp only [Nat.reduceAdd, h]
  simp

theorem pw_mid (e : ℕ) (h0 : 0 < e) (h1 : e < 255) : pw (BitVec.ofNat 32 e) = (((2 : ℝ) ^ ((e : ℤ) - 127) : ℝ) : EReal) := by
  have h := bits_pw ⟨e, by omega⟩
  simp only at h
  unfold pw Ideal.ofBits Ideal.ieee
  simp only [Nat.reduceAdd, h]
  rw [if_neg (by omega), if_neg (by omega)]
  congr 1
  have : ((2 : ℝ) ^ ((e : ℤ) - 127)) = (2 : ℝ) ^ (23 : ℤ) * (2 : ℝ) ^ ((e : ℤ) - 127 - 23) := by
    rw [← zpow_add₀ (by norm_num)]; congr 1; ring
  rw [this]
  norm_num

/-- The halving: below `2 ^ k`-multiples, the field found so far is at most right and its next block is too much. -/
theorem step_spec (r : ℝ) (e w : ℕ) (he : e + 2 * w ≤ 256) (hw : 0 < w)
    (lo : pw (BitVec.ofNat 32 e) ≤ r) (hi : e + 2 * w < 256 → (r : EReal) < pw (BitVec.ofNat 32 (e + 2 * w))) :
    ∃ e' : ℕ, step r (BitVec.ofNat 32 w) (BitVec.ofNat 32 e) = BitVec.ofNat 32 e' ∧ e' + w ≤ 256
      ∧ pw (BitVec.ofNat 32 e') ≤ r ∧ (e' + w < 256 → (r : EReal) < pw (BitVec.ofNat 32 (e' + w))) := by
  have ha : IntOp.addi (BitVec.ofNat 32 e) (BitVec.ofNat 32 w) = BitVec.ofNat 32 (e + w) := (BitVec.ofNat_add ..).symm
  unfold step
  rw [ha]
  by_cases h : pw (BitVec.ofNat 32 (e + w)) ≤ (r : EReal)
  · rw [if_pos h]
    exact ⟨e + w, rfl, by omega, h, fun h' => by rw [show e + w + w = e + 2 * w by ring]; exact hi (by omega)⟩
  · rw [if_neg h]
    exact ⟨e, rfl, by omega, lo, fun _ => not_le.mp h⟩

theorem field_spec (r : ℝ) (h0 : 0 ≤ r) : ∃ e : ℕ, field r = BitVec.ofNat 32 e ∧ e + 1 < 256
    ∧ pw (BitVec.ofNat 32 e) ≤ (r : EReal) ∧ (r : EReal) < pw (BitVec.ofNat 32 (e + 1)) := by
  have z : pw (BitVec.ofNat 32 0) ≤ (r : EReal) := by rw [pw_zero]; exact_mod_cast h0
  obtain ⟨e1, q1, b1, l1, u1⟩ := step_spec r 0 128 (by omega) (by omega) z (fun h => absurd h (by omega))
  obtain ⟨e2, q2, b2, l2, u2⟩ := step_spec r e1 64 (by omega) (by omega) l1 u1
  obtain ⟨e3, q3, b3, l3, u3⟩ := step_spec r e2 32 (by omega) (by omega) l2 u2
  obtain ⟨e4, q4, b4, l4, u4⟩ := step_spec r e3 16 (by omega) (by omega) l3 u3
  obtain ⟨e5, q5, b5, l5, u5⟩ := step_spec r e4 8 (by omega) (by omega) l4 u4
  obtain ⟨e6, q6, b6, l6, u6⟩ := step_spec r e5 4 (by omega) (by omega) l5 u5
  obtain ⟨e7, q7, b7, l7, u7⟩ := step_spec r e6 2 (by omega) (by omega) l6 u6
  obtain ⟨e8, q8, b8, l8, u8⟩ := step_spec r e7 1 (by omega) (by omega) l7 u7
  have hlt : e8 + 1 < 256 := by
    by_contra hc
    have : e8 = 255 := by omega
    rw [this, pw_top] at l8
    exact absurd l8 (not_le.mpr (EReal.coe_lt_top r))
  refine ⟨e8, ?_, hlt, l8, u8 hlt⟩
  unfold field
  rw [q1, q2, q3, q4, q5, q6, q7, q8]

theorem thr : Ideal.ofBits .f32 0x00800000#32 = (((2 : ℝ) ^ (-126 : ℤ) : ℝ) : EReal) := by
  have := pw_mid 1 (by omega) (by omega)
  norm_num [pw, IntOp.shli] at this ⊢
  exact this

/-- Where the exponent of `r` lies: either the kernel's exponent and the reference's are both zero, or both are the
    same integer `d` between -124 and 126. -/
theorem expo_cases (r : ℝ) (h0 : 0 ≤ r) (h1 : r < (2 : ℝ) ^ (126 : ℤ)) :
    (expo r = 0#32 ∧ rexpo ((Real.log 2 : ℝ) : EReal) r = 0)
    ∨ ∃ e : ℕ, 0 < e ∧ e < 253 ∧ expo r = BitVec.ofNat 32 e - 126#32 ∧ rexpo ((Real.log 2 : ℝ) : EReal) r = ((((e : ℤ) - 126 : ℤ) : ℝ) : EReal) := by
  obtain ⟨e, hf, hlt, lo, hi⟩ := field_spec r h0
  by_cases he : e = 0
  · left
    subst he
    rw [pw_mid 1 (by omega) (by omega)] at hi
    refine ⟨by unfold expo; rw [hf]; rfl, ?_⟩
    unfold rexpo
    rw [if_pos]
    rw [thr]
    refine lt_of_lt_of_eq hi ?_
    norm_num
  · right
    have hpos : 0 < e := Nat.pos_of_ne_zero he
    rw [pw_mid e hpos (by omega)] at lo
    have lo' : (2 : ℝ) ^ ((e : ℤ) - 127) ≤ r := by exact_mod_cast lo
    have he253 : e < 253 := by
      by_contra hc
      have : (2 : ℝ) ^ (126 : ℤ) ≤ (2 : ℝ) ^ ((e : ℤ) - 127) := zpow_le_zpow_right₀ (by norm_num) (by omega)
      exact absurd (lt_of_lt_of_le h1 (this.trans lo')) (lt_irrefl _)
    rw [pw_mid (e + 1) (by omega) (by omega)] at hi
    have hi' : r < (2 : ℝ) ^ (((e + 1 : ℕ) : ℤ) - 127) := by exact_mod_cast hi
    have rpos : 0 < r := lt_of_lt_of_le (zpow_pos (by norm_num) _) lo'
    have hl2 : 0 < Real.log 2 := Real.log_pos (by norm_num)
    refine ⟨e, hpos, he253, ?_, ?_⟩
    · unfold expo
      rw [hf, if_neg]
      · rfl
      · intro h
        have := congrArg BitVec.toNat h
        rw [BitVec.toNat_ofNat, Nat.mod_eq_of_lt (by omega)] at this
        exact he (by simpa using this)
    · unfold rexpo
      rw [if_neg]
      · rw [Ideal.log_coe, if_neg (not_le.mpr rpos), Ideal.div_coe hl2.ne', ← EReal.coe_mul, Ideal.liftRound_coe]
        have hfl : ⌊Real.log r * (1 / Real.log 2)⌋ = (e : ℤ) - 127 := by
          rw [Int.floor_eq_iff, mul_one_div]
          constructor
          · rw [le_div_iff₀ hl2, ← Real.log_zpow]
            exact Real.log_le_log (zpow_pos (by norm_num) _) lo'
          · rw [div_lt_iff₀ hl2]
            have : (((e : ℤ) - 127 : ℤ) : ℝ) + 1 = ((((e + 1 : ℕ) : ℤ) - 127 : ℤ) : ℝ) := by push_cast; ring
            rw [this, ← Real.log_zpow]
            exact Real.log_lt_log rpos hi'
        rw [hfl, ← EReal.coe_one, ← EReal.coe_add]
        congr 1
        push_cast
        ring
      · rw [thr, not_lt]
        refine le_trans ?_ lo
        exact_mod_cast zpow_le_zpow_right₀ (by norm_num : (1 : ℝ) ≤ 2) (by omega : (-126 : ℤ) ≤ (e : ℤ) - 127)

theorem exp2_int (d : ℤ) : Ideal.exp2 (((d : ℝ)) : EReal) = (((2 : ℝ) ^ d : ℝ) : EReal) := by
  rw [Ideal.exp2_coe]; congr 1; exact Real.rpow_intCast 2 d

theorem exp2_zero : Ideal.exp2 0 = 1 := by
  have := exp2_int 0
  simpa using this

theorem pw_127 : pw 127#32 = 1 := by
  have := pw_mid 127 (by omega) (by omega)
  norm_num at this
  exact this

theorem scale_eq (r : ℝ) (h0 : 0 ≤ r) (h1 : r < (2 : ℝ) ^ (126 : ℤ)) :
    scale r = Ideal.exp2 (rexpo ((Real.log 2 : ℝ) : EReal) r) := by
  unfold scale
  rcases expo_cases r h0 h1 with ⟨h, h'⟩ | ⟨e, hp, hlt, h, h'⟩
  · rw [h, h', exp2_zero]; exact pw_127
  · rw [h, h', exp2_int]
    have : IntOp.addi (BitVec.ofNat 32 e - 126#32) 127#32 = BitVec.ofNat 32 (e + 1) := by
      apply BitVec.eq_of_toNat_eq
      simp only [IntOp.addi, BitVec.toNat_add, BitVec.toNat_sub, BitVec.toNat_ofNat]
      omega
    rw [this, pw_mid (e + 1) (by omega) (by omega)]
    congr 2
    push_cast
    ring

theorem inv_eq (r : ℝ) (h0 : 0 ≤ r) (h1 : r < (2 : ℝ) ^ (126 : ℤ)) :
    inv r = Ideal.exp2 (0 - rexpo ((Real.log 2 : ℝ) : EReal) r) := by
  unfold inv
  rcases expo_cases r h0 h1 with ⟨h, h'⟩ | ⟨e, hp, hlt, h, h'⟩
  · rw [h, h', sub_zero, exp2_zero]; exact pw_127
  · have hs : (0 : EReal) - ((((e : ℤ) - 126 : ℤ) : ℝ) : EReal) = (((126 - (e : ℤ) : ℤ) : ℝ) : EReal) := by
      rw [← EReal.coe_zero, ← EReal.coe_sub]; congr 1; push_cast; ring
    rw [h, h', hs, exp2_int]
    have : IntOp.subi 127#32 (BitVec.ofNat 32 e - 126#32) = BitVec.ofNat 32 (253 - e) := by
      apply BitVec.eq_of_toNat_eq
      simp only [IntOp.subi, BitVec.toNat_sub, BitVec.toNat_ofNat]
      omega
    rw [this, pw_mid (253 - e) (by omega) (by omega)]
    congr 2
    omega

end Cert.Scale

end
-- ==== Proof.KPoint.lean ====
/-
  THE KERNEL'S BLOCK AT AN INDEX, over the extended reals: the recursion of `Words` read element by element, and - at finite
  queries, keys and values - its end as the softmax mean of `Softmax`.
-/
module

public import proofs.«01_k».proof.Proof.Words
public import proofs.«01_k».proof.Proof.Softmax
public import proofs.«01_k».proof.Proof.Scale

@[expose] public section

set_option maxRecDepth 16384

noncomputable section

namespace Cert.KVal

open Cert.KernelIdeal Cert.KernelIdeal.Gen Idealize.ShloMosaic Idealize.ShloMosaic.TcCoe Idealize.SL.Sem

variable (x0 : Vec Ideal S1x512x512 .bf16) (x1 : Vec Ideal S1x12288x512 .bf16) (x2 : Vec Ideal S1x512x12288 .bf16)

/-- The score scale in base two, as a real. -/
def cs : ℝ := (Real.sqrt 512)⁻¹ * (Real.log 2)⁻¹

theorem named_cs : (Named.named κ "score_scale_log2e" 0x3D8293EE#32 : Ideal .f32) = ((cs : ℝ) : EReal) := rfl

theorem bot_bits : Ideal.ofBits .f32 0xFF800000#32 = ⊥ := by
  unfold Ideal.ofBits Ideal.ieee
  have h1 : BitVec.extractLsb' (8 + 23) 1 (0xFF800000#32) = 1#1 := by decide
  have h2 : (BitVec.extractLsb' 23 8 (0xFF800000#32)).toNat = 255 := by decide
  have h3 : (BitVec.extractLsb' 0 23 (0xFF800000#32)).toNat = 0 := by decide
  simp only [h1, h2, h3]
  simp

theorem one_bits : Ideal.ofBits .f32 0x3F800000#32 = 1 := Ideal.ofBits_one_f32

theorem S_at (n : ℕ) (k i : Fin 512) : S x0 x1 n (ix2 k i)
    = ∑ d : Fin 512, x1 (ix3 0 ⟨(512 * n + k.val) % 12288, Nat.mod_lt _ (by decide)⟩ d) * x0 (ix3 0 d i) := by
  pointwise [S, k0_pay2, kc]

theorem pay10_at (s : FVec Ideal S512x512 .f32) (m : FVec Ideal S1x512 .f32) (i : Fin 512) : k0_pay10 s m (ix2 0 i)
    = max (m (ix2 0 i)) (Finset.univ.fold max (⊥ : EReal) (fun k : Fin 512 => s (ix2 k i)) * ((cs : ℝ) : EReal)) := by
  rw [← bot_bits, ← named_cs]
  pointwise [k0_pay10]

theorem pay11_at (s : FVec Ideal S512x512 .f32) (m : FVec Ideal S1x512 .f32) (k i : Fin 512) : k0_pay11 s m (ix2 k i)
    = Ideal.exp2 (s (ix2 k i) * ((cs : ℝ) : EReal) - k0_pay10 s m (ix2 0 i)) := by
  rw [← named_cs]
  unfold k0_pay11
  pointwise
  rfl

theorem M_zero (i : Fin 512) : M x0 x1 0 (ix2 0 i)
    = Finset.univ.fold max (⊥ : EReal) (fun k : Fin 512 => S x0 x1 0 (ix2 k i)) * ((cs : ℝ) : EReal) := by
  rw [← bot_bits, ← named_cs]
  show k0_pay4 (kc x1 0) x0 (ix2 0 i) = _
  unfold k0_pay4
  rw [show k0_pay2 (kc x1 0) x0 = S x0 x1 0 from rfl]
  pointwise

theorem M_succ (n : ℕ) (i : Fin 512) : M x0 x1 (n + 1) (ix2 0 i)
    = max (M x0 x1 n (ix2 0 i)) (Finset.univ.fold max (⊥ : EReal) (fun k : Fin 512 => S x0 x1 (n + 1) (ix2 k i)) * ((cs : ℝ) : EReal)) :=
  pay10_at _ _ i

theorem pay5_at (k i : Fin 512) : k0_pay5 (kc x1 0) x0 (ix2 k i)
    = Ideal.exp2 (S x0 x1 0 (ix2 k i) * ((cs : ℝ) : EReal) - M x0 x1 0 (ix2 0 i)) := by
  rw [← named_cs]
  unfold k0_pay5
  rw [show k0_pay2 (kc x1 0) x0 = S x0 x1 0 from rfl, show k0_pay4 (kc x1 0) x0 = M x0 x1 0 from rfl]
  pointwise
  rfl

theorem L_zero (i : Fin 512) : L x0 x1 0 (ix2 0 i)
    = ∑ k : Fin 512, Ideal.exp2 (S x0 x1 0 (ix2 k i) * ((cs : ℝ) : EReal) - M x0 x1 0 (ix2 0 i)) := by
  simp only [← pay5_at]
  show k0_pay6 (kc x1 0) x0 (ix2 0 i) = _
  unfold k0_pay6
  pointwise

theorem L_succ (n : ℕ) (i : Fin 512) : L x0 x1 (n + 1) (ix2 0 i)
    = L x0 x1 n (ix2 0 i) * Ideal.exp2 (M x0 x1 n (ix2 0 i) - M x0 x1 (n + 1) (ix2 0 i))
      + ∑ k : Fin 512, Ideal.exp2 (S x0 x1 (n + 1) (ix2 k i) * ((cs : ℝ) : EReal) - M x0 x1 (n + 1) (ix2 0 i)) := by
  rw [show M x0 x1 (n + 1) = k0_pay10 (S x0 x1 (n + 1)) (M x0 x1 n) from rfl]
  simp only [← pay11_at]
  show k0_pay13 (S x0 x1 (n + 1)) (M x0 x1 n) (L x0 x1 n) (ix2 0 i) = _
  unfold k0_pay13 k0_pay12
  pointwise
  rfl

theorem A_zero (d i : Fin 512) : A x0 x1 x2 0 (ix2 d i)
    = ∑ k : Fin 512, vc x2 0 (ix3 0 d k) * Ideal.exp2 (S x0 x1 0 (ix2 k i) * ((cs : ℝ) : EReal) - M x0 x1 0 (ix2 0 i)) := by
  simp only [← pay5_at]
  show k0_pay7 (kc x1 0) x0 (vc x2 0) (ix2 d i) = _
  unfold k0_pay7
  pointwise

theorem A_succ (n : ℕ) (d i : Fin 512) : A x0 x1 x2 (n + 1) (ix2 d i)
    = A x0 x1 x2 n (ix2 d i) * Ideal.exp2 (M x0 x1 n (ix2 0 i) - M x0 x1 (n + 1) (ix2 0 i))
      + ∑ k : Fin 512, vc x2 (n + 1) (ix3 0 d k) * Ideal.exp2 (S x0 x1 (n + 1) (ix2 k i) * ((cs : ℝ) : EReal) - M x0 x1 (n + 1) (ix2 0 i)) := by
  rw [show M x0 x1 (n + 1) = k0_pay10 (S x0 x1 (n + 1)) (M x0 x1 n) from rfl]
  simp only [← pay11_at]
  show k0_pay14 (S x0 x1 (n + 1)) (M x0 x1 n) (vc x2 (n + 1)) (A x0 x1 x2 n) (ix2 d i) = _
  unfold k0_pay14 k0_pay12
  pointwise
  rfl

theorem il_at (i : Fin 512) : il x0 x1 (ix2 0 i) = Ideal.div 1 (L x0 x1 23 (ix2 0 i)) := by
  rw [← one_bits]
  unfold il
  pointwise

/-- The score of query `i` against key `j` of the block, at finite queries `q` and keys `k`. -/
def score (q : S1x512x512.Idx → ℝ) (k : S1x12288x512.Idx → ℝ) (i : Fin 512) (j : Fin 12288) : ℝ :=
  ∑ d : Fin 512, q (ix3 0 d i) * k (ix3 0 j d)

/-- THE BLOCK'S ATTENTION at finite arguments: the softmax mean of the values. -/
theorem attn_at (q : S1x512x512.Idx → ℝ) (k : S1x12288x512.Idx → ℝ) (v : S1x512x12288.Idx → ℝ)
    (h0 : ∀ j, x0 j = (q j : EReal)) (h1 : ∀ j, x1 j = (k j : EReal)) (h2 : ∀ j, x2 j = (v j : EReal)) (d i : Fin 512) :
    A x0 x1 x2 23 (ix2 d i) * il x0 x1 (ix2 0 i)
      = ((Attn.mean Finset.univ (fun j => Real.exp (score q k i j * (Real.sqrt 512)⁻¹)) (fun j => v (ix3 0 d j)) : ℝ) : EReal) := by
  have hs (n : ℕ) (a : Fin 512) : S x0 x1 n (ix2 a i) = ((score q k i ⟨(512 * n + a.val) % 12288, Nat.mod_lt _ (by decide)⟩ : ℝ) : EReal) := by
    rw [S_at, score, Attn.coe_sum]
    refine Finset.sum_congr rfl fun d _ => ?_
    rw [h0, h1, EReal.coe_mul, mul_comm]
  have hv (n : ℕ) (a : Fin 512) : vc x2 n (ix3 0 d a) = ((v (ix3 0 d ⟨(512 * n + a.val) % 12288, Nat.mod_lt _ (by decide)⟩) : ℝ) : EReal) := h2 _
  obtain ⟨x, -, hl, ha⟩ := Attn.online (K := 512) cs
    (fun n a => score q k i ⟨(512 * n + a.val) % 12288, Nat.mod_lt _ (by decide)⟩)
    (fun n a => v (ix3 0 d ⟨(512 * n + a.val) % 12288, Nat.mod_lt _ (by decide)⟩))
    (fun n => M x0 x1 n (ix2 0 i)) (fun n => L x0 x1 n (ix2 0 i)) (fun n => A x0 x1 x2 n (ix2 d i))
    (by rw [M_zero]; simp only [hs]) (fun n => by rw [M_succ]; simp only [hs])
    (by rw [L_zero]; simp only [hs]) (fun n => by rw [L_succ]; simp only [hs])
    (by rw [A_zero]; simp only [hs, hv]) (fun n => by rw [A_succ]; simp only [hs, hv]) 23
  rw [il_at, Attn.online_final cs _ _ 23 _ _ ⟨x, hl, ha⟩]
  congr 1
  refine Attn.mean_chunks (K := 512) (n := 23) (N := 12288) (by norm_num) cs (Real.sqrt 512)⁻¹ ?_
    (fun n a => score q k i ⟨(512 * n + a.val) % 12288, Nat.mod_lt _ (by decide)⟩)
    (fun n a => v (ix3 0 d ⟨(512 * n + a.val) % 12288, Nat.mod_lt _ (by decide)⟩))
    (fun j => score q k i j) (fun j => v (ix3 0 d j)) (fun n a h => ?_) (fun n a h => ?_)
  · unfold cs
    have : Real.log 2 ≠ 0 := (Real.log_pos (by norm_num)).ne'
    field_simp
  · congr 1; apply Fin.ext; show (512 * n.val + a.val) % 12288 = n.val * 512 + a.val; omega
  · congr 2; apply Fin.ext; show (512 * n.val + a.val) % 12288 = n.val * 512 + a.val; omega

end Cert.KVal

end
-- ==== Proof.Quant.lean ====
/-
  THE QUANTISER AND THE PROJECTION, stated once over the extended reals for one query's attention values `o` (512 channels in
  16 groups of 32), as both programs compute them.
-/
module

public import proofs.«01_k».proof.Proof.Softmax
public import proofs.«01_k».proof.Proof.Scale

@[expose] public section

noncomputable section

namespace Cert.Quant

open Idealize.ShloMosaic

/-- The channel `e` of group `g`. -/
def ch (g : Fin 16) (e : Fin 32) : Fin 512 := ⟨g.val * 32 + e.val, by omega⟩
/-- The group of a channel. -/
def gr (c : Fin 512) : Fin 16 := ⟨c.val / 32, by omega⟩

/-- The largest magnitude of a group, over 448. -/
def ratio (o : Fin 512 → ℝ) (g : Fin 16) : EReal :=
  Finset.univ.fold max (⊥ : EReal) (fun e : Fin 32 => max ((o (ch g e) : ℝ) : EReal) (-((o (ch g e) : ℝ) : EReal)))
    * Ideal.ofBits .f32 0x3B124925#32

/-- The scale of a group, a power of two, and its inverse. -/
def qs (o : Fin 512 → ℝ) (g : Fin 16) : EReal := Ideal.exp2 (Scale.rexpo ((Real.log 2 : ℝ) : EReal) (ratio o g))
def qi (o : Fin 512 → ℝ) (g : Fin 16) : EReal := Ideal.exp2 (0 - Scale.rexpo ((Real.log 2 : ℝ) : EReal) (ratio o g))

/-- The clip to plus and minus 448. -/
def clip (x : EReal) : EReal := min (Ideal.ofBits .f32 0x43E00000#32) (max (Ideal.ofBits .f32 0xC3E00000#32) x)

/-- The code of a channel, and the value it stands for. -/
def code (o : Fin 512 → ℝ) (c : Fin 512) : EReal := clip (((o c : ℝ) : EReal) * qi o (gr c))
def deq (o : Fin 512 → ℝ) (c : Fin 512) : EReal := code o c * qs o (gr c)

/-- The projection of the decoded values through the weight column `w`, its scale and its bias. -/
def proj (o : Fin 512 → ℝ) (w : Fin 512 → EReal) (s b : EReal) : EReal := (∑ x, deq o x * w x) * s + b

theorem fold_range {ι : Type*} (s : Finset ι) (hs : s.Nonempty) (f : ι → ℝ) (B : ℝ) (h0 : ∀ k, 0 ≤ f k) (h1 : ∀ k, f k ≤ B) :
    ∃ x : ℝ, s.fold max (⊥ : EReal) (fun k => (f k : EReal)) = x ∧ 0 ≤ x ∧ x ≤ B := by
  obtain ⟨x, hx⟩ := Attn.fold_max_coe s hs f
  refine ⟨x, hx, ?_, ?_⟩
  · obtain ⟨k, hk⟩ := hs
    have : (0 : EReal) ≤ (x : EReal) := by
      rw [← hx]
      exact Finset.le_fold_max (0 : EReal) |>.2 (Or.inr ⟨k, hk, EReal.coe_nonneg.2 (h0 k)⟩)
    exact EReal.coe_nonneg.1 this
  · have : (x : EReal) ≤ (B : EReal) := by
      rw [← hx, Finset.fold_max_le]
      exact ⟨bot_le, fun k _ => EReal.coe_le_coe_iff.2 (h1 k)⟩
    exact EReal.coe_le_coe_iff.1 this

theorem over448 : Ideal.ofBits .f32 0x3B124925#32 = (((9586981 : ℝ) * (2 : ℝ) ^ (-32 : ℤ) : ℝ) : EReal) := by
  unfold Ideal.ofBits Ideal.ieee
  have h1 : BitVec.extractLsb' (8 + 23) 1 (0x3B124925#32) = 0#1 := by decide
  have h2 : (BitVec.extractLsb' 23 8 (0x3B124925#32)).toNat = 118 := by decide
  have h3 : (BitVec.extractLsb' 0 23 (0x3B124925#32)).toNat = 1198373 := by decide
  simp only [h1, h2, h3]
  norm_num

theorem maxf32 : Ideal.ofBits .f32 0x7F7FFFFF#32 = (((16777215 : ℝ) * (2 : ℝ) ^ (104 : ℤ) : ℝ) : EReal) := by
  unfold Ideal.ofBits Ideal.ieee
  have h1 : BitVec.extractLsb' (8 + 23) 1 (0x7F7FFFFF#32) = 0#1 := by decide
  have h2 : (BitVec.extractLsb' 23 8 (0x7F7FFFFF#32)).toNat = 254 := by decide
  have h3 : (BitVec.extractLsb' 0 23 (0x7F7FFFFF#32)).toNat = 8388607 := by decide
  simp only [h1, h2, h3]
  norm_num

/-- At attention values below `2 ^ 128` in magnitude the ratio is a real from zero to below `2 ^ 126`. -/
theorem ratio_range (o : Fin 512 → ℝ) (ho : ∀ c, |o c| ≤ (2 : ℝ) ^ (128 : ℤ)) (g : Fin 16) :
    ∃ r : ℝ, ratio o g = r ∧ 0 ≤ r ∧ r < (2 : ℝ) ^ (126 : ℤ) := by
  obtain ⟨x, hx, h0, h1⟩ := fold_range (Finset.univ : Finset (Fin 32)) Finset.univ_nonempty (fun e => |o (ch g e)|) _
    (fun _ => abs_nonneg _) (fun e => ho _)
  have he : ∀ e, max ((o (ch g e) : ℝ) : EReal) (-((o (ch g e) : ℝ) : EReal)) = ((|o (ch g e)| : ℝ) : EReal) := fun e => by
    rw [← EReal.coe_neg, abs_eq_max_neg]
    exact (EReal.coe_strictMono.monotone.map_max).symm
  refine ⟨x * ((9586981 : ℝ) * (2 : ℝ) ^ (-32 : ℤ)), ?_, by positivity, ?_⟩
  · rw [ratio, over448]
    simp only [he]
    rw [hx, ← EReal.coe_mul]
  · calc x * ((9586981 : ℝ) * (2 : ℝ) ^ (-32 : ℤ)) ≤ (2 : ℝ) ^ (128 : ℤ) * ((9586981 : ℝ) * (2 : ℝ) ^ (-32 : ℤ)) :=
        mul_le_mul_of_nonneg_right h1 (by positivity)
      _ < (2 : ℝ) ^ (126 : ℤ) := by norm_num

theorem scale_qs (o : Fin 512 → ℝ) (ho : ∀ c, |o c| ≤ (2 : ℝ) ^ (128 : ℤ)) (g : Fin 16) : Scale.scale (ratio o g) = qs o g := by
  obtain ⟨r, hr, h0, h1⟩ := ratio_range o ho g
  rw [qs, hr]
  exact Scale.scale_eq r h0 h1

theorem inv_qi (o : Fin 512 → ℝ) (ho : ∀ c, |o c| ≤ (2 : ℝ) ^ (128 : ℤ)) (g : Fin 16) : Scale.inv (ratio o g) = qi o g := by
  obtain ⟨r, hr, h0, h1⟩ := ratio_range o ho g
  rw [qi, hr]
  exact Scale.inv_eq r h0 h1

end Cert.Quant

end
-- ==== Proof.KTail.lean ====
/-
  ONE TILE OF 128 QUERIES at an index: from its attention values as reals, the codes, the scales and the decoded values that
  the kernel's block stores, each the quantiser of `Quant`.
-/
module

public import proofs.«01_k».proof.Proof.KPoint
public import proofs.«01_k».proof.Proof.Quant

@[expose] public section

set_option maxRecDepth 16384

noncomputable section

namespace Cert.KVal

open Cert.KernelIdeal Cert.KernelIdeal.Gen Idealize.ShloMosaic Idealize.ShloMosaic.TcCoe Idealize.SL.Sem

/-- One step of the search for the exponent field, on a whole tile. -/
def stepV {s : Shape} (r : FVec Ideal s .f32) (w : BitVec 32) (e : IVec s 32) : IVec s 32 :=
  select (cmpf .oge r (bitcastToFloat .f32 (shli (addi e (broadcast s w)) (broadcast s 23#32)))) (addi e (broadcast s w)) e

/-- The exponent from the field, on a whole tile. -/
def expoV {s : Shape} (e : IVec s 32) : IVec s 32 :=
  select (cmpi .eq e (broadcast s 0#32)) (broadcast s 0#32) (subi e (broadcast s 126#32))

theorem stepV_at {s : Shape} (r : FVec Ideal s .f32) (w : BitVec 32) (e : IVec s 32) (i : s.Idx) :
    stepV r w e i = Scale.step (r i) w (e i) := by
  unfold Scale.step Scale.pw stepV
  pointwise

theorem expoV_at {s : Shape} (e : IVec s 32) (i : s.Idx) :
    expoV e i = if e i = 0#32 then 0#32 else IntOp.subi (e i) 126#32 := by
  show Scalar.select (IntOp.cmpi .eq (e i) 0#32) (0#32) (IntOp.subi (e i) 126#32) = _
  by_cases h : e i = 0#32
  · simp [IntOp.cmpi, Scalar.select, h]
  · have hb : (e i == 0#32) = false := by simpa using h
    simp [IntOp.cmpi, Scalar.select, h, hb]

theorem pay171_eq (r : FVec Ideal S16x1x128 .f32) : k0_pay171 r (fld r) k0_pay170
    = expoV (stepV r 1#32 (stepV r 2#32 (stepV r 4#32 (stepV r 8#32 (stepV r 16#32 (stepV r 32#32 (stepV r 64#32
        (stepV r 128#32 (broadcast S16x1x128 0#32))))))))) := rfl

theorem pay171_at (r : FVec Ideal S16x1x128 .f32) (i : S16x1x128.Idx) : k0_pay171 r (fld r) k0_pay170 i = Scale.expo (r i) := by
  rw [pay171_eq, expoV_at]
  simp only [stepV_at]
  rfl

theorem scl_at (r : FVec Ideal S16x1x128 .f32) (g : Fin 16) (n : Fin 128) : scl r (ix3 g 0 n) = Scale.scale (r (ix3 g 0 n)) := by
  have h : scl r (ix3 g 0 n) = Ideal.ofBits .f32 (IntOp.shli .vector (IntOp.addi (k0_pay171 r (fld r) k0_pay170 (ix3 g 0 n)) 127#32) 23#32) := by
    unfold scl k0_pay172
    generalize k0_pay171 r (fld r) k0_pay170 = e
    pointwise
  rw [h, pay171_at]
  rfl

theorem scd_at (o : FVec Ideal S16x32x128 .f32) (r : FVec Ideal S16x1x128 .f32) (g : Fin 16) (e : Fin 32) (n : Fin 128) :
    scd o r (ix3 g e n) = o (ix3 g e n) * Scale.inv (r (ix3 g 0 n)) := by
  have h : scd o r (ix3 g e n)
      = o (ix3 g e n) * Ideal.ofBits .f32 (IntOp.shli .vector (IntOp.subi 127#32 (k0_pay171 r (fld r) k0_pay170 (ix3 g 0 n))) 23#32) := by
    unfold scd k0_pay173
    generalize k0_pay171 r (fld r) k0_pay170 = e
    pointwise
  rw [h, pay171_at]
  rfl

theorem rat_at (o : FVec Ideal S16x32x128 .f32) (g : Fin 16) (n : Fin 128) : rat o (ix3 g 0 n)
    = Finset.univ.fold max (⊥ : EReal) (fun e : Fin 32 => max (o (ix3 g e n)) (-(o (ix3 g e n)))) * Ideal.ofBits .f32 0x3B124925#32 := by
  rw [← bot_bits]
  pointwise [rat]
  rfl

theorem code_at (o : FVec Ideal S16x32x128 .f32) (n : Fin 128) (c : Fin 512) :
    k0_pay176 o lo (ix3 0 n c) = Quant.clip (o (ix3 ⟨c.val / 32, by omega⟩ ⟨c.val % 32, by omega⟩ n)) := by
  unfold Quant.clip
  pointwise [k0_pay176, k0_pay174, lo]

theorem wide_at (s : FVec Ideal S16x1x128 .f32) (o : FVec Ideal S16x32x128 .f32) (n : Fin 128) (c : Fin 512) :
    k0_pay175 s o lo (ix2 n c) = Quant.clip (o (ix3 ⟨c.val / 32, by omega⟩ ⟨c.val % 32, by omega⟩ n)) * s (ix3 ⟨c.val / 32, by omega⟩ 0 n) := by
  unfold Quant.clip
  pointwise [k0_pay175, k0_pay174, lo]

theorem scale_at (s : FVec Ideal S16x1x128 .f32) (g : Fin 16) (n : Fin 128) : k0_pay177 s (ix3 0 g n) = s (ix3 g 0 n) := by
  pointwise [k0_pay177]

section Tile

variable (T : FVec Ideal S16x32x128 .f32) (o : Fin 128 → Fin 512 → ℝ)
  (hT : ∀ g e n, T (ix3 g e n) = ((o n (Quant.ch g e) : ℝ) : EReal)) (ho : ∀ n c, |o n c| ≤ (2 : ℝ) ^ (128 : ℤ))

include hT

theorem tile_rat (g : Fin 16) (n : Fin 128) : rat T (ix3 g 0 n) = Quant.ratio (o n) g := by
  rw [rat_at, Quant.ratio]
  simp only [hT]

theorem tile_T (n : Fin 128) (c : Fin 512) : T (ix3 ⟨c.val / 32, by omega⟩ ⟨c.val % 32, by omega⟩ n) = ((o n c : ℝ) : EReal) := by
  rw [hT]
  congr 2
  apply Fin.ext
  show c.val / 32 * 32 + c.val % 32 = c.val
  omega

include ho

theorem tile_scl (g : Fin 16) (n : Fin 128) : scl (rat T) (ix3 g 0 n) = Quant.qs (o n) g := by
  rw [scl_at, tile_rat T o hT, Quant.scale_qs _ (ho n)]

theorem tile_scale (g : Fin 16) (n : Fin 128) : k0_pay177 (scl (rat T)) (ix3 0 g n) = Quant.qs (o n) g := by
  rw [scale_at, tile_scl T o hT ho]

theorem tile_code (n : Fin 128) (c : Fin 512) : k0_pay176 (scd T (rat T)) lo (ix3 0 n c) = Quant.code (o n) c := by
  rw [code_at, scd_at, tile_T T o hT, tile_rat T o hT, Quant.inv_qi _ (ho n)]
  rfl

theorem tile_wide (n : Fin 128) (c : Fin 512) : k0_pay175 (scl (rat T)) (scd T (rat T)) lo (ix2 n c) = Quant.deq (o n) c := by
  rw [wide_at, scd_at, tile_T T o hT, tile_rat T o hT, Quant.inv_qi _ (ho n), tile_scl T o hT ho]
  rfl

end Tile

/-- The attention value of the block's query `i`, channel `d`. -/
def batt (q : S1x512x512.Idx → ℝ) (k : S1x12288x512.Idx → ℝ) (v : S1x512x12288.Idx → ℝ) (i d : Fin 512) : ℝ :=
  Attn.mean Finset.univ (fun j => Real.exp (score q k i j * (Real.sqrt 512)⁻¹)) (fun j => v (ix3 0 d j))

section Block

variable (x0 : Vec Ideal S1x512x512 .bf16) (x1 : Vec Ideal S1x12288x512 .bf16) (x2 : Vec Ideal S1x512x12288 .bf16)

theorem grp_at (a : Vec Ideal S512x128 .f32) (w : FVec Ideal S1x128 .f32) (g : Fin 16) (e : Fin 32) (n : Fin 128) :
    grp a w (ix3 g e n) = a (ix2 (Quant.ch g e) n) * w (ix2 0 n) := by
  unfold Quant.ch
  pointwise [grp]

theorem tile0_ld (a : Vec Ideal S512x512 .f32) (c : Fin 512) (n : Fin 128) :
    View.ld a (Rect.unit (s := S512x512) ![0, 0] S512x128.size inb_S512x512_S512x128_0_0) (ix2 c n) = a (ix2 c ⟨n.val, by omega⟩) := by
  refine congrArg a (funext fun b => Fin.ext ?_)
  match b with
  | ⟨0, _⟩ => show 0 + 1 * c.val = c.val; omega
  | ⟨1, _⟩ => show 0 + 1 * n.val = n.val; omega

theorem tile0_sl (w : FVec Ideal S1x512 .f32) (n : Fin 128) :
    extractStridedSlice S1x128 ![0, 0] w slices_S1x512_o0_0_S1x128 (ix2 0 n) = w (ix2 0 ⟨n.val, by omega⟩) := by
  pointwise

theorem tile1_ld (a : Vec Ideal S512x512 .f32) (c : Fin 512) (n : Fin 128) :
    View.ld a (Rect.unit (s := S512x512) ![0, 128] S512x128.size inb_S512x512_S512x128_0_128) (ix2 c n) = a (ix2 c ⟨128 + n.val, by omega⟩) := by
  refine congrArg a (funext fun b => Fin.ext ?_)
  match b with
  | ⟨0, _⟩ => show 0 + 1 * c.val = c.val; omega
  | ⟨1, _⟩ => show 128 + 1 * n.val = 128 + n.val; omega

theorem tile1_sl (w : FVec Ideal S1x512 .f32) (n : Fin 128) :
    extractStridedSlice S1x128 ![0, 128] w slices_S1x512_o0_128_S1x128 (ix2 0 n) = w (ix2 0 ⟨128 + n.val, by omega⟩) := by
  pointwise

theorem tile2_ld (a : Vec Ideal S512x512 .f32) (c : Fin 512) (n : Fin 128) :
    View.ld a (Rect.unit (s := S512x512) ![0, 256] S512x128.size inb_S512x512_S512x128_0_256) (ix2 c n) = a (ix2 c ⟨256 + n.val, by omega⟩) := by
  refine congrArg a (funext fun b => Fin.ext ?_)
  match b with
  | ⟨0, _⟩ => show 0 + 1 * c.val = c.val; omega
  | ⟨1, _⟩ => show 256 + 1 * n.val = 256 + n.val; omega

theorem tile2_sl (w : FVec Ideal S1x512 .f32) (n : Fin 128) :
    extractStridedSlice S1x128 ![0, 256] w slices_S1x512_o0_256_S1x128 (ix2 0 n) = w (ix2 0 ⟨256 + n.val, by omega⟩) := by
  pointwise

theorem tile3_ld (a : Vec Ideal S512x512 .f32) (c : Fin 512) (n : Fin 128) :
    View.ld a (Rect.unit (s := S512x512) ![0, 384] S512x128.size inb_S512x512_S512x128_0_384) (ix2 c n) = a (ix2 c ⟨384 + n.val, by omega⟩) := by
  refine congrArg a (funext fun b => Fin.ext ?_)
  match b with
  | ⟨0, _⟩ => show 0 + 1 * c.val = c.val; omega
  | ⟨1, _⟩ => show 384 + 1 * n.val = 384 + n.val; omega

theorem tile3_sl (w : FVec Ideal S1x512 .f32) (n : Fin 128) :
    extractStridedSlice S1x128 ![0, 384] w slices_S1x512_o0_384_S1x128 (ix2 0 n) = w (ix2 0 ⟨384 + n.val, by omega⟩) := by
  pointwise

variable (q : S1x512x512.Idx → ℝ) (k : S1x12288x512.Idx → ℝ) (v : S1x512x12288.Idx → ℝ)
    (h0 : ∀ j, x0 j = (q j : EReal)) (h1 : ∀ j, x1 j = (k j : EReal)) (h2 : ∀ j, x2 j = (v j : EReal))
include h0 h1 h2

/-- The tile of queries from 0: its values are the block's attention. -/
theorem o0_at (g : Fin 16) (e : Fin 32) (n : Fin 128) :
    o_0 x0 x1 x2 (ix3 g e n) = ((batt q k v ⟨n.val, by omega⟩ (Quant.ch g e) : ℝ) : EReal) := by
  rw [o_0, grp_at, tile0_ld, tile0_sl, attn_at x0 x1 x2 q k v h0 h1 h2, batt]

/-- The tile of queries from 128: its values are the block's attention. -/
theorem o1_at (g : Fin 16) (e : Fin 32) (n : Fin 128) :
    o_1 x0 x1 x2 (ix3 g e n) = ((batt q k v ⟨128 + n.val, by omega⟩ (Quant.ch g e) : ℝ) : EReal) := by
  rw [o_1, grp_at, tile1_ld, tile1_sl, attn_at x0 x1 x2 q k v h0 h1 h2, batt]

/-- The tile of queries from 256: its values are the block's attention. -/
theorem o2_at (g : Fin 16) (e : Fin 32) (n : Fin 128) :
    o_2 x0 x1 x2 (ix3 g e n) = ((batt q k v ⟨256 + n.val, by omega⟩ (Quant.ch g e) : ℝ) : EReal) := by
  rw [o_2, grp_at, tile2_ld, tile2_sl, attn_at x0 x1 x2 q k v h0 h1 h2, batt]

/-- The tile of queries from 384: its values are the block's attention. -/
theorem o3_at (g : Fin 16) (e : Fin 32) (n : Fin 128) :
    o_3 x0 x1 x2 (ix3 g e n) = ((batt q k v ⟨384 + n.val, by omega⟩ (Quant.ch g e) : ℝ) : EReal) := by
  rw [o_3, grp_at, tile3_ld, tile3_sl, attn_at x0 x1 x2 q k v h0 h1 h2, batt]

end Block

theorem pay219_at (a : Vec Ideal S512x512 .bf16) (w : Vec Ideal S512x512 .fp8e4m3) (s b : Vec Ideal S1x512 .f32) (i c : Fin 512) :
    k0_pay219 a w s b (ix3 0 i c) = (∑ x : Fin 512, a (ix2 i x) * w (ix2 x c)) * s (ix2 0 c) + b (ix2 0 c) := by
  pointwise [k0_pay219, k0_pay218]

theorem pay220_at (a : Vec Ideal S512x512 .bf16) (w : Vec Ideal S512x512 .fp8e4m3) (s b : Vec Ideal S1x512 .f32) (x : Vec Ideal S1x512x512 .bf16)
    (i c : Fin 512) : k0_pay1 (k0_pay220 a w s b x) (ix3 0 i c) = x (ix3 0 i c) + k0_pay219 a w s b (ix3 0 i c) := by
  rw [pay219_at]
  pointwise [k0_pay1, k0_pay220, k0_pay218]

end Cert.KVal

end
-- ==== Proof.KBlock.lean ====
/-
  THE BLOCK OF ONE GRID POINT at an index: the four tiles of 128 queries put together, for each of the kernel's four outputs.
-/
module

public import proofs.«01_k».proof.Proof.KTail
public import Idealize.ShloMosaic.Lib.Pipeline.ValueKit

@[expose] public section

set_option maxRecDepth 16384

noncomputable section

namespace Cert.KVal

open Cert.KernelIdeal Cert.KernelIdeal.Gen Idealize.ShloMosaic Idealize.ShloMosaic.TcCoe Idealize.SL.Sem

/-- Four stores of 128 rows make up 512 rows. -/
theorem rows4 (W0 W1 W2 W3 : FVec Ideal S128x512 .bf16) (inb0 inb1 inb2 inb3) (f : Fin 512 → Fin 512 → EReal)
    (h0 : ∀ (n : Fin 128) (c : Fin 512), W0 (ix2 n c) = f ⟨n.val, by omega⟩ c)
    (h1 : ∀ (n : Fin 128) (c : Fin 512), W1 (ix2 n c) = f ⟨128 + n.val, by omega⟩ c)
    (h2 : ∀ (n : Fin 128) (c : Fin 512), W2 (ix2 n c) = f ⟨256 + n.val, by omega⟩ c)
    (h3 : ∀ (n : Fin 128) (c : Fin 512), W3 (ix2 n c) = f ⟨384 + n.val, by omega⟩ c)
    (i c : Fin 512) :
    View.canon ([⟨Rect.unit (s := S512x512) ![384, 0] S128x512.size inb3, W3⟩, ⟨Rect.unit (s := S512x512) ![256, 0] S128x512.size inb2, W2⟩, ⟨Rect.unit (s := S512x512) ![128, 0] S128x512.size inb1, W1⟩, ⟨Rect.unit (s := S512x512) ![0, 0] S128x512.size inb0, W0⟩]
      : List (View.Piece (Elt Ideal) S512x512 .bf16)) (ix2 i c) = f i c := by
  have hcover : ∀ y, ∃ p ∈ ([⟨Rect.unit (s := S512x512) ![384, 0] S128x512.size inb3, W3⟩, ⟨Rect.unit (s := S512x512) ![256, 0] S128x512.size inb2, W2⟩, ⟨Rect.unit (s := S512x512) ![128, 0] S128x512.size inb1, W1⟩, ⟨Rect.unit (s := S512x512) ![0, 0] S128x512.size inb0, W0⟩]
      : List (View.Piece (Elt Ideal) S512x512 .bf16)), y ∈ p.1.set := View.cover_of_tiledL _ S128x512.size rfl
  canon_tiles x hx using hcover _
  · refine Eq.trans (congrArg W3 (?_ : x = ix2 (x 0) (x 1))) ((h3 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W2 (?_ : x = ix2 (x 0) (x 1))) ((h2 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W1 (?_ : x = ix2 (x 0) (x 1))) ((h1 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W0 (?_ : x = ix2 (x 0) (x 1))) ((h0 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)

/-- The same for the block of codes. -/
theorem codes4 (W0 W1 W2 W3 : FVec Ideal S1x128x512 .fp8e4m3) (inb0 inb1 inb2 inb3) (f : Fin 512 → Fin 512 → EReal)
    (h0 : ∀ (n : Fin 128) (c : Fin 512), W0 (ix3 0 n c) = f ⟨n.val, by omega⟩ c)
    (h1 : ∀ (n : Fin 128) (c : Fin 512), W1 (ix3 0 n c) = f ⟨128 + n.val, by omega⟩ c)
    (h2 : ∀ (n : Fin 128) (c : Fin 512), W2 (ix3 0 n c) = f ⟨256 + n.val, by omega⟩ c)
    (h3 : ∀ (n : Fin 128) (c : Fin 512), W3 (ix3 0 n c) = f ⟨384 + n.val, by omega⟩ c)
    (i c : Fin 512) :
    View.canon ([⟨Rect.unit (s := S1x512x512) ![0, 384, 0] S1x128x512.size inb3, W3⟩, ⟨Rect.unit (s := S1x512x512) ![0, 256, 0] S1x128x512.size inb2, W2⟩, ⟨Rect.unit (s := S1x512x512) ![0, 128, 0] S1x128x512.size inb1, W1⟩, ⟨Rect.unit (s := S1x512x512) ![0, 0, 0] S1x128x512.size inb0, W0⟩]
      : List (View.Piece (Elt Ideal) S1x512x512 .fp8e4m3)) (ix3 0 i c) = f i c := by
  have hcover : ∀ y, ∃ p ∈ ([⟨Rect.unit (s := S1x512x512) ![0, 384, 0] S1x128x512.size inb3, W3⟩, ⟨Rect.unit (s := S1x512x512) ![0, 256, 0] S1x128x512.size inb2, W2⟩, ⟨Rect.unit (s := S1x512x512) ![0, 128, 0] S1x128x512.size inb1, W1⟩, ⟨Rect.unit (s := S1x512x512) ![0, 0, 0] S1x128x512.size inb0, W0⟩]
      : List (View.Piece (Elt Ideal) S1x512x512 .fp8e4m3)), y ∈ p.1.set := View.cover_of_tiledL _ S1x128x512.size rfl
  canon_tiles x hx using hcover _
  · refine Eq.trans (congrArg W3 (?_ : x = ix3 0 (x 1) (x 2))) ((h3 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W2 (?_ : x = ix3 0 (x 1) (x 2))) ((h2 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W1 (?_ : x = ix3 0 (x 1) (x 2))) ((h1 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W0 (?_ : x = ix3 0 (x 1) (x 2))) ((h0 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)

/-- The same for the block of scales, whose queries are its last axis. -/
theorem scales4 (W0 W1 W2 W3 : FVec Ideal S1x16x128 .f32) (inb0 inb1 inb2 inb3) (f : Fin 512 → Fin 16 → EReal)
    (h0 : ∀ (g : Fin 16) (n : Fin 128), W0 (ix3 0 g n) = f ⟨n.val, by omega⟩ g)
    (h1 : ∀ (g : Fin 16) (n : Fin 128), W1 (ix3 0 g n) = f ⟨128 + n.val, by omega⟩ g)
    (h2 : ∀ (g : Fin 16) (n : Fin 128), W2 (ix3 0 g n) = f ⟨256 + n.val, by omega⟩ g)
    (h3 : ∀ (g : Fin 16) (n : Fin 128), W3 (ix3 0 g n) = f ⟨384 + n.val, by omega⟩ g)
    (g : Fin 16) (i : Fin 512) :
    View.canon ([⟨Rect.unit (s := S1x16x512) ![0, 0, 384] S1x16x128.size inb3, W3⟩, ⟨Rect.unit (s := S1x16x512) ![0, 0, 256] S1x16x128.size inb2, W2⟩, ⟨Rect.unit (s := S1x16x512) ![0, 0, 128] S1x16x128.size inb1, W1⟩, ⟨Rect.unit (s := S1x16x512) ![0, 0, 0] S1x16x128.size inb0, W0⟩]
      : List (View.Piece (Elt Ideal) S1x16x512 .f32)) (ix3 0 g i) = f i g := by
  have hcover : ∀ y, ∃ p ∈ ([⟨Rect.unit (s := S1x16x512) ![0, 0, 384] S1x16x128.size inb3, W3⟩, ⟨Rect.unit (s := S1x16x512) ![0, 0, 256] S1x16x128.size inb2, W2⟩, ⟨Rect.unit (s := S1x16x512) ![0, 0, 128] S1x16x128.size inb1, W1⟩, ⟨Rect.unit (s := S1x16x512) ![0, 0, 0] S1x16x128.size inb0, W0⟩]
      : List (View.Piece (Elt Ideal) S1x16x512 .f32)), y ∈ p.1.set := View.cover_of_tiledL _ S1x16x128.size rfl
  canon_tiles x hx using hcover _
  · refine Eq.trans (congrArg W3 (?_ : x = ix3 0 (x 1) (x 2))) ((h3 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W2 (?_ : x = ix3 0 (x 1) (x 2))) ((h2 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W1 (?_ : x = ix3 0 (x 1) (x 2))) ((h1 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W0 (?_ : x = ix3 0 (x 1) (x 2))) ((h0 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)

end Cert.KVal

end
-- ==== Proof.KOut.lean ====
/-
  WHAT THE BODY LEAVES in each of its four output blocks, at an index: the quantiser and the projection of `Quant` over the
  block's attention values.
-/
module

public import proofs.«01_k».proof.Proof.KBlock
public import Idealize.ShloMosaic.Lib.Pipeline.ValueKit

@[expose] public section

set_option maxRecDepth 16384

noncomputable section

namespace Cert.KVal

open Cert.KernelIdeal Cert.KernelIdeal.Gen Idealize.ShloMosaic Idealize.ShloMosaic.TcCoe Idealize.SL.Sem

/-- A load of the whole of a buffer that four stores of 128 rows fill reads what they left. -/
theorem readCov_rows (b : View sig .tc .vmem S512x512 .bf16) (W0 W1 W2 W3 : FVec Ideal S128x512 .bf16) (inb0 inb1 inb2 inb3 inb) :
    b.readCov ([⟨Rect.unit (s := S512x512) ![384, 0] S128x512.size inb3, W3⟩, ⟨Rect.unit (s := S512x512) ![256, 0] S128x512.size inb2, W2⟩,
      ⟨Rect.unit (s := S512x512) ![128, 0] S128x512.size inb1, W1⟩, ⟨Rect.unit (s := S512x512) ![0, 0] S128x512.size inb0, W0⟩]
      : List (View.Piece (Elt Ideal) S512x512 .bf16)) (Rect.unit (s := S512x512) ![0, 0] S512x512.size inb).toLoadRect
    = View.canon ([⟨Rect.unit (s := S512x512) ![384, 0] S128x512.size inb3, W3⟩, ⟨Rect.unit (s := S512x512) ![256, 0] S128x512.size inb2, W2⟩,
      ⟨Rect.unit (s := S512x512) ![128, 0] S128x512.size inb1, W1⟩, ⟨Rect.unit (s := S512x512) ![0, 0] S128x512.size inb0, W0⟩]
      : List (View.Piece (Elt Ideal) S512x512 .bf16)) := by
  have hcover : ∀ y, ∃ p ∈ ([⟨Rect.unit (s := S512x512) ![384, 0] S128x512.size inb3, W3⟩, ⟨Rect.unit (s := S512x512) ![256, 0] S128x512.size inb2, W2⟩,
      ⟨Rect.unit (s := S512x512) ![128, 0] S128x512.size inb1, W1⟩, ⟨Rect.unit (s := S512x512) ![0, 0] S128x512.size inb0, W0⟩]
      : List (View.Piece (Elt Ideal) S512x512 .bf16)), y ∈ p.1.set := View.cover_of_tiledL _ S128x512.size rfl
  rw [View.readCov_eq_canon_ld _ _ _ hcover, View.ld_unit_zero (S := S512x512) hz2]

/-- A load of the whole of a buffer that holds `x` reads `x`. -/
theorem w_ld {r : Memref sig .tc .vmem S512x512 .fp8e4m3} (hr : r.IsWhole) (x : FVec Ideal S512x512 .fp8e4m3) (inb) :
    View.readAt (Elt Ideal) r.view (Rect.unit ![0, 0] S512x512.size inb).toLoadRect (hr.unread x) = x := by
  rw [View.readAt_eq_ld, hr.read_unread, View.ld_unit_zero (S := S512x512) hz2]
theorem s_ld {r : Memref sig .tc .vmem S1x512 .f32} (hr : r.IsWhole) (x : FVec Ideal S1x512 .f32) (inb) :
    View.readAt (Elt Ideal) r.view (Rect.unit ![0, 0] S1x512.size inb).toLoadRect (hr.unread x) = x := by
  rw [View.readAt_eq_ld, hr.read_unread, View.ld_unit_zero (S := S1x512) hz2]

variable (c : Dev nD) (gi : grid0.Coords)
  (arg2 : Memref sig .tc .vmem S1x512x512 .bf16) (harg2 : arg2.IsWhole)
  (arg3 : Memref sig .tc .vmem S1x12288x512 .bf16) (harg3 : arg3.IsWhole)
  (arg4 : Memref sig .tc .vmem S1x512x12288 .bf16) (harg4 : arg4.IsWhole)
  (arg5 : Memref sig .tc .vmem S1x512x512 .bf16) (harg5 : arg5.IsWhole)
  (arg6 : Memref sig .tc .vmem S512x512 .fp8e4m3) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S1x512x512 .bf16) (harg9 : arg9.IsWhole)
  (arg10 : Memref sig .tc .vmem S1x512x512 .bf16) (harg10 : arg10.IsWhole)
  (arg11 : Memref sig .tc .vmem S1x512x512 .fp8e4m3) (harg11 : arg11.IsWhole)
  (arg12 : Memref sig .tc .vmem S1x16x512 .f32) (harg12 : arg12.IsWhole)
  (arg13 : Memref sig .tc .vmem S512x512 .f32) (harg13 : arg13.IsWhole)
  (arg14 : Memref sig .tc .vmem S512x512 .bf16) (harg14 : arg14.IsWhole)
  (x0 : Vec Ideal S1x512x512 .bf16)
  (x1 : Vec Ideal S1x12288x512 .bf16)
  (x2 : Vec Ideal S1x512x12288 .bf16)
  (x3 : Vec Ideal S1x512x512 .bf16)
  (x4 : Vec Ideal S512x512 .fp8e4m3)
  (x5 : Vec Ideal S1x512 .f32)
  (x6 : Vec Ideal S1x512 .f32)
  (q : S1x512x512.Idx → ℝ) (k : S1x12288x512.Idx → ℝ) (v : S1x512x12288.Idx → ℝ)
  (h0 : ∀ j, x0 j = (q j : EReal)) (h1 : ∀ j, x1 j = (k j : EReal)) (h2 : ∀ j, x2 j = (v j : EReal))
  (hv : ∀ j, |v j| ≤ (2 : ℝ) ^ (128 : ℤ))

include hv in
theorem batt_le (i d : Fin 512) : |batt q k v i d| ≤ (2 : ℝ) ^ (128 : ℤ) :=
  Attn.abs_mean_le _ Finset.univ_nonempty _ _ (fun _ => Real.exp_pos _) _ (fun _ => hv _)

include h0 h1 h2 hv

/-- The block of codes. -/
theorem out9_at (i ch : Fin 512) : out0_A_9 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 0 i ch) = Quant.code (batt q k v i) ch := by
  unfold out0_A_9
  rw [View.read_writes_eq_canon _ _ _ (fun y => cover0_A_9 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)]
  unfold kernelRun0_A
  dsimp only
  rw [code_0 c arg2 harg2 arg3 harg3 arg4 harg4 arg13 x0 x1 x2, code_1 c arg2 harg2 arg3 harg3 arg4 harg4 arg13 x0 x1 x2, code_2 c arg2 harg2 arg3 harg3 arg4 harg4 arg13 x0 x1 x2, code_3 c arg2 harg2 arg3 harg3 arg4 harg4 arg13 x0 x1 x2]
  exact codes4 _ _ _ _ _ _ _ _ (fun i ch => Quant.code (batt q k v i) ch)
    (fun n c => tile_code (o_0 x0 x1 x2) (fun n => batt q k v ⟨n.val, by omega⟩) (o0_at x0 x1 x2 q k v h0 h1 h2) (fun _ _ => batt_le q k v hv _ _) n c)
    (fun n c => tile_code (o_1 x0 x1 x2) (fun n => batt q k v ⟨128 + n.val, by omega⟩) (o1_at x0 x1 x2 q k v h0 h1 h2) (fun _ _ => batt_le q k v hv _ _) n c)
    (fun n c => tile_code (o_2 x0 x1 x2) (fun n => batt q k v ⟨256 + n.val, by omega⟩) (o2_at x0 x1 x2 q k v h0 h1 h2) (fun _ _ => batt_le q k v hv _ _) n c)
    (fun n c => tile_code (o_3 x0 x1 x2) (fun n => batt q k v ⟨384 + n.val, by omega⟩) (o3_at x0 x1 x2 q k v h0 h1 h2) (fun _ _ => batt_le q k v hv _ _) n c) i ch

/-- The block of scales. -/
theorem out10_at (g : Fin 16) (i : Fin 512) : out0_A_10 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 0 g i) = Quant.qs (batt q k v i) g := by
  unfold out0_A_10
  rw [View.read_writes_eq_canon _ _ _ (fun y => cover0_A_10 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)]
  unfold kernelRun0_A
  dsimp only
  rw [scale_0 c arg2 harg2 arg3 harg3 arg4 harg4 arg13 x0 x1 x2, scale_1 c arg2 harg2 arg3 harg3 arg4 harg4 arg13 x0 x1 x2, scale_2 c arg2 harg2 arg3 harg3 arg4 harg4 arg13 x0 x1 x2, scale_3 c arg2 harg2 arg3 harg3 arg4 harg4 arg13 x0 x1 x2]
  exact scales4 _ _ _ _ _ _ _ _ (fun i g => Quant.qs (batt q k v i) g)
    (fun g n => tile_scale (o_0 x0 x1 x2) (fun n => batt q k v ⟨n.val, by omega⟩) (o0_at x0 x1 x2 q k v h0 h1 h2) (fun _ _ => batt_le q k v hv _ _) g n)
    (fun g n => tile_scale (o_1 x0 x1 x2) (fun n => batt q k v ⟨128 + n.val, by omega⟩) (o1_at x0 x1 x2 q k v h0 h1 h2) (fun _ _ => batt_le q k v hv _ _) g n)
    (fun g n => tile_scale (o_2 x0 x1 x2) (fun n => batt q k v ⟨256 + n.val, by omega⟩) (o2_at x0 x1 x2 q k v h0 h1 h2) (fun _ _ => batt_le q k v hv _ _) g n)
    (fun g n => tile_scale (o_3 x0 x1 x2) (fun n => batt q k v ⟨384 + n.val, by omega⟩) (o3_at x0 x1 x2 q k v h0 h1 h2) (fun _ _ => batt_le q k v hv _ _) g n) g i

/-- The decoded values that the projection reads. -/
theorem dec_at (i ch : Fin 512) : kernelRun0_A.sl.v1265 c arg2 harg2 arg3 harg3 arg4 harg4 arg13 arg14 x0 x1 x2 (ix2 i ch) = Quant.deq (batt q k v i) ch := by
  unfold kernelRun0_A.sl.v1265 kernelRun0_A.sl.HS1_4
  rw [readCov_rows]
  rw [wide_0 c arg2 harg2 arg3 harg3 arg4 harg4 arg13 x0 x1 x2, wide_1 c arg2 harg2 arg3 harg3 arg4 harg4 arg13 x0 x1 x2, wide_2 c arg2 harg2 arg3 harg3 arg4 harg4 arg13 x0 x1 x2, wide_3 c arg2 harg2 arg3 harg3 arg4 harg4 arg13 x0 x1 x2]
  exact rows4 _ _ _ _ _ _ _ _ (fun i ch => Quant.deq (batt q k v i) ch)
    (fun n c => tile_wide (o_0 x0 x1 x2) (fun n => batt q k v ⟨n.val, by omega⟩) (o0_at x0 x1 x2 q k v h0 h1 h2) (fun _ _ => batt_le q k v hv _ _) n c)
    (fun n c => tile_wide (o_1 x0 x1 x2) (fun n => batt q k v ⟨128 + n.val, by omega⟩) (o1_at x0 x1 x2 q k v h0 h1 h2) (fun _ _ => batt_le q k v hv _ _) n c)
    (fun n c => tile_wide (o_2 x0 x1 x2) (fun n => batt q k v ⟨256 + n.val, by omega⟩) (o2_at x0 x1 x2 q k v h0 h1 h2) (fun _ _ => batt_le q k v hv _ _) n c)
    (fun n c => tile_wide (o_3 x0 x1 x2) (fun n => batt q k v ⟨384 + n.val, by omega⟩) (o3_at x0 x1 x2 q k v h0 h1 h2) (fun _ _ => batt_le q k v hv _ _) n c) i ch

/-- The block of projections. -/
theorem out8_at (i ch : Fin 512) : out0_A_8 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 0 i ch)
    = Quant.proj (batt q k v i) (fun x => x4 (ix2 x ch)) (x5 (ix2 0 ch)) (x6 (ix2 0 ch)) := by
  unfold out0_A_8
  rw [View.read_writes_eq_canon _ _ _ (fun y => cover0_A_8 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)]
  unfold kernelRun0_A
  dsimp only
  rw [View.canon_unit_zero (S := S1x512x512) hz3, pay219_at]
  simp only [dec_at c arg2 harg2 arg3 harg3 arg4 harg4 arg13 arg14 x0 x1 x2 q k v h0 h1 h2 hv, w_ld harg6 x4, s_ld harg7 x5, s_ld harg8 x6]
  rfl

/-- The block of sums with the residual. -/
theorem out7_at (i ch : Fin 512) : out0_A_7 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 0 i ch)
    = x3 (ix3 0 i ch) + Quant.proj (batt q k v i) (fun x => x4 (ix2 x ch)) (x5 (ix2 0 ch)) (x6 (ix2 0 ch)) := by
  unfold out0_A_7
  rw [View.read_writes_eq_canon _ _ _ (fun y => cover0_A_7 c gi arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y)]
  unfold kernelRun0_A
  dsimp only
  rw [View.canon_unit_zero (S := S1x512x512) hz3]
  unfold kernelRun0_A.sl.r_121
  rw [pay220_at, pay219_at]
  simp only [dec_at c arg2 harg2 arg3 harg3 arg4 harg4 arg13 arg14 x0 x1 x2 q k v h0 h1 h2 hv, q_ld harg5 x3, w_ld harg6 x4, s_ld harg7 x5, s_ld harg8 x6]
  rfl

end Cert.KVal

end
-- ==== Proof.RefPoint.lean ====
/-
  THE REFERENCE AT AN INDEX, over the extended reals: the attention values at finite queries, keys and values are the
  softmax means, and the four results are the quantiser, the projection and the residual sum over them.
-/
module

public import proofs.«01_k».proof.Proof.Gen.ReferenceIdeal.Value
public import proofs.«01_k».proof.Proof.Softmax
public import proofs.«01_k».proof.Proof.Scale

@[expose] public section

set_option maxRecDepth 16384

noncomputable section

namespace Cert.RefVal

open Cert.ReferenceIdeal Cert.ReferenceIdeal.Gen Idealize.ShloMosaic Idealize.SL.Sem

variable (a0 : Vec Ideal S6x512x12288 .bf16) (a1 : Vec Ideal S6x12288x512 .bf16) (a2 : Vec Ideal S6x512x12288 .bf16)

theorem named_root : (Named.named κ "score_scale" 0x3D3504F3#32 : Ideal .f32) = (((Real.sqrt 512)⁻¹ : ℝ) : EReal) := rfl
theorem named_ln2 : (Named.named κ "ln2" 0x3F317218#32 : Ideal .f32) = ((Real.log 2 : ℝ) : EReal) := rfl

theorem bot_bits : Ideal.ofBits .f32 0xFF800000#32 = ⊥ := by
  unfold Ideal.ofBits Ideal.ieee
  have h1 : BitVec.extractLsb' (8 + 23) 1 (0xFF800000#32) = 1#1 := by decide
  have h2 : (BitVec.extractLsb' 23 8 (0xFF800000#32)).toNat = 255 := by decide
  have h3 : (BitVec.extractLsb' 0 23 (0xFF800000#32)).toNat = 0 := by decide
  simp only [h1, h2, h3]
  simp

/-- The score of query `i` against key `j` of batch `b`, at finite queries `q` and keys `k`. -/
def score (q : S6x512x12288.Idx → ℝ) (k : S6x12288x512.Idx → ℝ) (b : Fin 6) (i j : Fin 12288) : ℝ :=
  ∑ d : Fin 512, q (ix3 b d i) * k (ix3 b j d)

/-- The attention value of batch `b`, query `i`, channel `d`. -/
def att (q : S6x512x12288.Idx → ℝ) (k : S6x12288x512.Idx → ℝ) (v : S6x512x12288.Idx → ℝ) (b : Fin 6) (i : Fin 12288) (d : Fin 512) : ℝ :=
  Attn.mean Finset.univ (fun j => Real.exp (score q k b i j * (Real.sqrt 512)⁻¹)) (fun j => v (ix3 b d j))

theorem pay1_read (b : Fin 6) (i : Fin 12288) (g : Fin 16) (e : Fin 32) : k0_pay1 a0 a2 a1 (ix4 b i g e)
    = ∑ j : Fin 12288, Ideal.div
        (Ideal.exp ((∑ d : Fin 512, a0 (ix3 b d i) * a1 (ix3 b j d)) * (((Real.sqrt 512)⁻¹ : ℝ) : EReal)
          - Finset.univ.fold max (⊥ : EReal) (fun j : Fin 12288 => (∑ d : Fin 512, a0 (ix3 b d i) * a1 (ix3 b j d)) * (((Real.sqrt 512)⁻¹ : ℝ) : EReal))))
        (∑ j : Fin 12288, Ideal.exp ((∑ d : Fin 512, a0 (ix3 b d i) * a1 (ix3 b j d)) * (((Real.sqrt 512)⁻¹ : ℝ) : EReal)
          - Finset.univ.fold max (⊥ : EReal) (fun j : Fin 12288 => (∑ d : Fin 512, a0 (ix3 b d i) * a1 (ix3 b j d)) * (((Real.sqrt 512)⁻¹ : ℝ) : EReal))))
        * a2 (ix3 b ⟨g.val * 32 + e.val, by omega⟩ j) := by
  rw [← bot_bits, ← named_root]
  pointwise [k0_pay1]

theorem pay1_at (q : S6x512x12288.Idx → ℝ) (k : S6x12288x512.Idx → ℝ) (v : S6x512x12288.Idx → ℝ)
    (h0 : ∀ j, a0 j = (q j : EReal)) (h1 : ∀ j, a1 j = (k j : EReal)) (h2 : ∀ j, a2 j = (v j : EReal))
    (b : Fin 6) (i : Fin 12288) (g : Fin 16) (e : Fin 32) :
    k0_pay1 a0 a2 a1 (ix4 b i g e) = ((att q k v b i ⟨g.val * 32 + e.val, by omega⟩ : ℝ) : EReal) := by
  have hs (j : Fin 12288) : (∑ d : Fin 512, a0 (ix3 b d i) * a1 (ix3 b j d)) = ((score q k b i j : ℝ) : EReal) := by
    rw [score, Attn.coe_sum]
    exact Finset.sum_congr rfl fun d _ => by rw [h0, h1, EReal.coe_mul]
  rw [pay1_read]
  simp only [hs, h2]
  exact Attn.row _ _ _

/-- The elementwise readings used below, at any shape. -/
theorem exp2_read {s : Shape} (x : FVec Ideal s .f32) (i : s.Idx) : exp2 x i = Ideal.exp2 (x i) := rfl
theorem abs_read {s : Shape} (x : FVec Ideal s .f32) (i : s.Idx) : absf x i = max (x i) (-(x i)) := rfl
theorem mul_read {s : Shape} (x : FVec Ideal s .f32) (w : BitVec 32) (i : s.Idx) :
    mulf x (broadcast s (Scalar.ofBits .f32 w)) i = x i * Ideal.ofBits .f32 w := rfl
theorem neg_read {s : Shape} (x : FVec Ideal s .f32) (i : s.Idx) :
    exp2 (subf (broadcast s (Scalar.ofBits .f32 0x00000000#32)) x) i = Ideal.exp2 (0 - x i) := by
  pointwise
  rfl

/-- The largest of a group of 32. -/
theorem max_read (o : FVec Ideal S6x12288x16x32 .f32) (b : Fin 6) (i : Fin 12288) (g : Fin 16) :
    multiReduction .maximumf [3] S6x12288x16 o 0xFF800000#32 reduces_S6x12288x16x32_S6x12288x16 (.inl rfl) rfl (ix3 b i g)
      = Finset.univ.fold max (⊥ : EReal) (fun e : Fin 32 => o (ix4 b i g e)) := by
  rw [← bot_bits]
  pointwise

/-- The ratio of a group: its largest magnitude over 448. -/
def rat (o : FVec Ideal S6x12288x16x32 .f32) : FVec Ideal S6x12288x16 .f32 :=
  mulf (multiReduction .maximumf [3] S6x12288x16 (absf o) 0xFF800000#32 reduces_S6x12288x16x32_S6x12288x16 (.inl rfl) rfl)
    (broadcast S6x12288x16 (Scalar.ofBits .f32 0x3B124925#32))

/-- The exponent of a group, from its ratio. -/
def expo {s : Shape} (r : FVec Ideal s .f32) : FVec Ideal s .f32 :=
  select (cmpf .olt r (broadcast s (Scalar.ofBits .f32 0x00800000#32))) (broadcast s (Scalar.ofBits .f32 0x00000000#32))
    (addf (floor (divf (log r) (broadcast s (Named.named κ "ln2" 0x3F317218#32)))) (broadcast s (Scalar.ofBits .f32 0x3F800000#32)))

theorem rat_at (o : FVec Ideal S6x12288x16x32 .f32) (b : Fin 6) (i : Fin 12288) (g : Fin 16) : rat o (ix3 b i g)
    = Finset.univ.fold max (⊥ : EReal) (fun e : Fin 32 => max (o (ix4 b i g e)) (-(o (ix4 b i g e)))) * Ideal.ofBits .f32 0x3B124925#32 := by
  unfold rat
  rw [mul_read, max_read]
  simp only [abs_read]

theorem expo_at {s : Shape} (r : FVec Ideal s .f32) (i : s.Idx) :
    expo r i = Scale.rexpo ((Real.log 2 : ℝ) : EReal) (r i) := by
  rw [← named_ln2]
  unfold Scale.rexpo expo
  pointwise

theorem pay2_eq : k0_pay2 a0 a2 a1 = expo (rat (k0_pay1 a0 a2 a1)) := rfl
theorem pay3_eq : k0_pay3 a0 a2 a1 = exp2 (k0_pay2 a0 a2 a1) := rfl
theorem pay4_eq : k0_pay4 a0 a2 a1 = shapeCast S6x12288x16x1
    (exp2 (subf (broadcast S6x12288x16 (Scalar.ofBits .f32 0x00000000#32)) (k0_pay2 a0 a2 a1))) shapeCasts_S6x12288x16_S6x12288x16x1 := rfl

theorem pay3_at (b : Fin 6) (i : Fin 12288) (g : Fin 16) : k0_pay3 a0 a2 a1 (ix3 b i g)
    = Ideal.exp2 (Scale.rexpo ((Real.log 2 : ℝ) : EReal) (rat (k0_pay1 a0 a2 a1) (ix3 b i g))) := by
  rw [pay3_eq, pay2_eq, exp2_read, expo_at]

theorem cast_read (x : FVec Ideal S6x12288x16 .f32) (b : Fin 6) (i : Fin 12288) (g : Fin 16) :
    shapeCast S6x12288x16x1 x shapeCasts_S6x12288x16_S6x12288x16x1 (ix4 b i g 0) = x (ix3 b i g) := by
  pointwise

theorem pay4_at (b : Fin 6) (i : Fin 12288) (g : Fin 16) : k0_pay4 a0 a2 a1 (ix4 b i g 0)
    = Ideal.exp2 (0 - Scale.rexpo ((Real.log 2 : ℝ) : EReal) (rat (k0_pay1 a0 a2 a1) (ix3 b i g))) := by
  rw [pay4_eq, pay2_eq, cast_read, neg_read, expo_at]

/-- The code of a channel: the value times the inverse scale, clipped. -/
def clip (x : EReal) : EReal := min (Ideal.ofBits .f32 0x43E00000#32) (max (Ideal.ofBits .f32 0xC3E00000#32) x)

variable (v19 : FVec Ideal S6x12288x16x32 .f32) (v34 : FVec Ideal S6x12288x16 .f32) (v38 : FVec Ideal S6x12288x16x1 .f32)
  (v52 : Vec Ideal S512x512 .fp8e4m3) (v55 : Vec Ideal S512 .f32) (v59 : Vec Ideal S512 .f32) (v63 : Vec Ideal S6x12288x512 .bf16)

theorem pay9_at (b : Fin 6) (i : Fin 12288) (c : Fin 512) : k0_pay9 v19 v38 (ix3 b i c)
    = clip (v19 (ix4 b i ⟨c.val / 32, by omega⟩ ⟨c.val % 32, by omega⟩) * v38 (ix4 b i ⟨c.val / 32, by omega⟩ 0)) := by
  pointwise [k0_pay9, k0_pay5, clip]

theorem pay6_at (b : Fin 6) (i : Fin 12288) (c : Fin 512) : k0_pay6 v19 v34 v38 v52 v55 v59 (ix3 b i c)
    = (∑ x : Fin 512, clip (v19 (ix4 b i ⟨x.val / 32, by omega⟩ ⟨x.val % 32, by omega⟩) * v38 (ix4 b i ⟨x.val / 32, by omega⟩ 0))
        * v34 (ix3 b i ⟨x.val / 32, by omega⟩) * v52 (ix2 x c)) * v55 (ix1 c) + v59 (ix1 c) := by
  pointwise [k0_pay6, k0_pay5, clip]

theorem pay7_at (b : Fin 6) (i : Fin 12288) (c : Fin 512) : k0_pay7 v19 v34 v38 v52 v55 v59 v63 (ix3 b i c)
    = v63 (ix3 b i c) + k0_pay6 v19 v34 v38 v52 v55 v59 (ix3 b i c) := by
  unfold k0_pay7
  pointwise

theorem pay8_at (b : Fin 6) (i : Fin 12288) (c : Fin 512) : k0_pay8 v19 v34 v38 v52 v55 v59 (ix3 b i c)
    = k0_pay6 v19 v34 v38 v52 v55 v59 (ix3 b i c) := by
  unfold k0_pay8
  pointwise

theorem pay10_at (b : Fin 6) (g : Fin 16) (i : Fin 12288) : k0_pay10 v34 (ix3 b g i) = v34 (ix3 b i g) := by
  pointwise [k0_pay10]

end Cert.RefVal

end
-- ==== Proof.RefOut.lean ====
/-
  THE REFERENCE'S FOUR RESULTS at finite queries, keys and values: at every index the quantiser and the projection
  (Quant.lean) of the softmax means (RefPoint.lean).
-/
module

public import proofs.«01_k».proof.Proof.RefPoint
public import proofs.«01_k».proof.Proof.Quant

@[expose] public section

set_option maxRecDepth 16384

noncomputable section

namespace Cert.RefVal

open Cert.ReferenceIdeal Cert.ReferenceIdeal.Gen Idealize.ShloMosaic Idealize.SL.Sem

theorem z3 : (![0, 0, 0] : Fin 3 → ℕ) = fun _ => 0 := by decide

variable (a0 : Vec Ideal S6x512x12288 .bf16) (a1 : Vec Ideal S6x12288x512 .bf16) (a2 : Vec Ideal S6x512x12288 .bf16)
  (a3 : Vec Ideal S6x12288x512 .bf16) (a4 : Vec Ideal S512x512 .fp8e4m3) (a5 a6 : Vec Ideal S512 .f32)

theorem pay11_eq : k0_pay11 a0 a1 a2 a3 a4 a5 a6 = k0_pay1 a0 a2 a1 := by
  unfold k0_pay11
  rw [View.ld_unit_zero (S := S6x512x12288) z3 _ a0, View.ld_unit_zero (S := S6x512x12288) z3 _ a2, View.ld_unit_zero (S := S6x12288x512) z3 _ a1]
theorem pay12_eq : k0_pay12 a0 a1 a2 a3 a4 a5 a6 = k0_pay3 a0 a2 a1 := by
  unfold k0_pay12
  rw [View.ld_unit_zero (S := S6x512x12288) z3 _ a0, View.ld_unit_zero (S := S6x512x12288) z3 _ a2, View.ld_unit_zero (S := S6x12288x512) z3 _ a1]
theorem pay13_eq : k0_pay13 a0 a1 a2 a3 a4 a5 a6 = k0_pay4 a0 a2 a1 := by
  unfold k0_pay13
  rw [View.ld_unit_zero (S := S6x512x12288) z3 _ a0, View.ld_unit_zero (S := S6x512x12288) z3 _ a2, View.ld_unit_zero (S := S6x12288x512) z3 _ a1]

variable (q : S6x512x12288.Idx → ℝ) (k : S6x12288x512.Idx → ℝ) (v : S6x512x12288.Idx → ℝ)
    (h0 : ∀ j, a0 j = (q j : EReal)) (h1 : ∀ j, a1 j = (k j : EReal)) (h2 : ∀ j, a2 j = (v j : EReal))

include h0 h1 h2

theorem ratio_at (b : Fin 6) (i : Fin 12288) (g : Fin 16) :
    rat (k0_pay1 a0 a2 a1) (ix3 b i g) = Quant.ratio (att q k v b i) g := by
  rw [rat_at]
  simp only [pay1_at a0 a1 a2 q k v h0 h1 h2]
  rfl

theorem qs_at (b : Fin 6) (i : Fin 12288) (g : Fin 16) : k0_pay3 a0 a2 a1 (ix3 b i g) = Quant.qs (att q k v b i) g := by
  rw [pay3_at, ratio_at a0 a1 a2 q k v h0 h1 h2]
  rfl

theorem qi_at (b : Fin 6) (i : Fin 12288) (g : Fin 16) : k0_pay4 a0 a2 a1 (ix4 b i g 0) = Quant.qi (att q k v b i) g := by
  rw [pay4_at, ratio_at a0 a1 a2 q k v h0 h1 h2]
  rfl

/-- The attention value of a channel, read at its group and its place in it. -/
theorem att_at (b : Fin 6) (i : Fin 12288) (c : Fin 512) :
    k0_pay1 a0 a2 a1 (ix4 b i ⟨c.val / 32, by omega⟩ ⟨c.val % 32, by omega⟩) = ((att q k v b i c : ℝ) : EReal) := by
  rw [pay1_at a0 a1 a2 q k v h0 h1 h2]
  have e : (⟨c.val / 32 * 32 + c.val % 32, by omega⟩ : Fin 512) = c := Fin.ext (by show c.val / 32 * 32 + c.val % 32 = c.val; omega)
  exact congrArg (fun d => ((att q k v b i d : ℝ) : EReal)) e

theorem code_at (b : Fin 6) (i : Fin 12288) (c : Fin 512) :
    clip (k0_pay1 a0 a2 a1 (ix4 b i ⟨c.val / 32, by omega⟩ ⟨c.val % 32, by omega⟩) * k0_pay4 a0 a2 a1 (ix4 b i ⟨c.val / 32, by omega⟩ 0))
      = Quant.code (att q k v b i) c := by
  rw [att_at a0 a1 a2 q k v h0 h1 h2, qi_at a0 a1 a2 q k v h0 h1 h2]
  rfl

/-- The codes. -/
theorem G9_at (b : Fin 6) (i : Fin 12288) (c : Fin 512) :
    Value.G9 a0 a1 a2 a3 a4 a5 a6 (ix3 b i c) = Quant.code (att q k v b i) c := by
  unfold Value.G9
  rw [pay11_eq, pay13_eq, pay9_at, code_at a0 a1 a2 q k v h0 h1 h2]

/-- The scales. -/
theorem G10_at (b : Fin 6) (g : Fin 16) (i : Fin 12288) :
    Value.G10 a0 a1 a2 a3 a4 a5 a6 (ix3 b g i) = Quant.qs (att q k v b i) g := by
  unfold Value.G10
  rw [pay12_eq, pay10_at, qs_at a0 a1 a2 q k v h0 h1 h2]

theorem proj_at (b : Fin 6) (i : Fin 12288) (c : Fin 512) :
    k0_pay6 (k0_pay1 a0 a2 a1) (k0_pay3 a0 a2 a1) (k0_pay4 a0 a2 a1) a4 a5 a6 (ix3 b i c)
      = Quant.proj (att q k v b i) (fun x => a4 (ix2 x c)) (a5 (ix1 c)) (a6 (ix1 c)) := by
  rw [pay6_at]
  simp only [code_at a0 a1 a2 q k v h0 h1 h2, qs_at a0 a1 a2 q k v h0 h1 h2]
  rfl

/-- The projections. -/
theorem G8_at (b : Fin 6) (i : Fin 12288) (c : Fin 512) : Value.G8 a0 a1 a2 a3 a4 a5 a6 (ix3 b i c)
    = Quant.proj (att q k v b i) (fun x => a4 (ix2 x c)) (a5 (ix1 c)) (a6 (ix1 c)) := by
  unfold Value.G8
  rw [pay11_eq, pay12_eq, pay13_eq, pay8_at, proj_at a0 a1 a2 a4 a5 a6 q k v h0 h1 h2]

/-- The sums with the residual. -/
theorem G7_at (b : Fin 6) (i : Fin 12288) (c : Fin 512) : Value.G7 a0 a1 a2 a3 a4 a5 a6 (ix3 b i c)
    = a3 (ix3 b i c) + Quant.proj (att q k v b i) (fun x => a4 (ix2 x c)) (a5 (ix1 c)) (a6 (ix1 c)) := by
  unfold Value.G7
  rw [pay11_eq, pay12_eq, pay13_eq, pay7_at, proj_at a0 a1 a2 a4 a5 a6 q k v h0 h1 h2]

end Cert.RefVal

end
-- ==== Proof.KArray.lean ====
/-
  THE KERNEL'S FOUR RESULT ARRAYS at finite queries, keys and values: every grid point writes its block of the reference's
  array, and the blocks cover it.
-/
module

public import proofs.«01_k».proof.Proof.KOut
public import proofs.«01_k».proof.Proof.RefOut
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KArr

open Cert.KernelIdeal Cert.KernelIdeal.Gen Idealize.ShloMosaic Idealize.ShloMosaic.TcCoe Idealize.SL.Sem
open Cert.KVal (batt)

variable (m : (ℓ : Loc nD τ sig) → Buf (Elt Ideal) ℓ) (c : Dev nD)

/-- The batch of a grid point, and the query at place `i` of its tile. -/
def bt (t : Fin cfg0.N) : Fin 6 := ⟨(grid0.coords t 0).val, (grid0.coords t 0).isLt⟩
def qt (t : Fin cfg0.N) (i : Fin 512) : Fin 12288 :=
  ⟨(grid0.coords t 1).val * 512 + i.val, by have : (grid0.coords t 1).val < 24 := (grid0.coords t 1).isLt; omega⟩

theorem idx : ∀ t : Fin cfg0.N,
    win0_0.index t = ![(grid0.coords t 0).val, 0, (grid0.coords t 1).val]
    ∧ win0_1.index t = ![(grid0.coords t 0).val, 0, 0]
    ∧ win0_2.index t = ![(grid0.coords t 0).val, 0, 0]
    ∧ win0_3.index t = ![(grid0.coords t 0).val, (grid0.coords t 1).val, 0]
    ∧ win0_4.index t = ![0, 0]
    ∧ win0_5.index t = ![0, 0]
    ∧ win0_6.index t = ![0, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, 0, (grid0.coords t 1).val] :=
  (by decide +kernel : ∀ t : Fin grid0.N, _)

variable (q : S6x512x12288.Idx → ℝ) (k : S6x12288x512.Idx → ℝ) (v : S6x512x12288.Idx → ℝ)

/-- The blocks of the queries, the keys and the values at a grid point. -/
def qb (t : Fin cfg0.N) : S1x512x512.Idx → ℝ := fun j => q (ix3 (bt t) (j 1) (qt t (j 2)))
def kb (t : Fin cfg0.N) : S1x12288x512.Idx → ℝ := fun j => k (ix3 (bt t) (j 1) (j 2))
def vb (t : Fin cfg0.N) : S1x512x12288.Idx → ℝ := fun j => v (ix3 (bt t) (j 1) (j 2))

theorem batt_eq (t : Fin cfg0.N) (i : Fin 512) : batt (qb q t) (kb k t) (vb v t) i = RefVal.att q k v (bt t) (qt t i) := rfl

theorem blk0 (t : Fin cfg0.N) (j : S1x512x512.Idx) :
    (iblk m c 0 t : Vec Ideal S1x512x512 .bf16) j = m ((c : Thread nD τ).loc main_arg0) (ix3 (bt t) (j 1) (qt t (j 2))) := by
  blk_ext [iblk, V, idx t, bt, qt]
theorem blk1 (t : Fin cfg0.N) (j : S1x12288x512.Idx) :
    (iblk m c 1 t : Vec Ideal S1x12288x512 .bf16) j = m ((c : Thread nD τ).loc main_arg1) (ix3 (bt t) (j 1) (j 2)) := by
  blk_ext [iblk, V, idx t, bt, qt]
theorem blk2 (t : Fin cfg0.N) (j : S1x512x12288.Idx) :
    (iblk m c 2 t : Vec Ideal S1x512x12288 .bf16) j = m ((c : Thread nD τ).loc main_arg2) (ix3 (bt t) (j 1) (j 2)) := by
  blk_ext [iblk, V, idx t, bt, qt]
theorem blk3 (t : Fin cfg0.N) (i d : Fin 512) :
    (iblk m c 3 t : Vec Ideal S1x512x512 .bf16) (ix3 0 i d) = m ((c : Thread nD τ).loc main_arg3) (ix3 (bt t) (qt t i) d) := by
  blk_ext [iblk, V, idx t, bt, qt]
theorem blk4 (t : Fin cfg0.N) (x d : Fin 512) :
    (iblk m c 4 t : Vec Ideal S512x512 .fp8e4m3) (ix2 x d) = m ((c : Thread nD τ).loc main_arg4) (ix2 x d) := by
  blk_ext [iblk, V, idx t]
theorem blk5 (t : Fin cfg0.N) (d : Fin 512) :
    (iblk m c 5 t : Vec Ideal S1x512 .f32) (ix2 0 d) = m ((c : Thread nD τ).loc main_arg5) (ix1 d) := by
  blk_simp [iblk, idx t]
  entry_read
  pointwise
  blk_ext [idx t]
theorem blk6 (t : Fin cfg0.N) (d : Fin 512) :
    (iblk m c 6 t : Vec Ideal S1x512 .f32) (ix2 0 d) = m ((c : Thread nD τ).loc main_arg6) (ix1 d) := by
  blk_simp [iblk, idx t]
  entry_read
  pointwise
  blk_ext [idx t]

variable (h0 : ∀ j, m ((c : Thread nD τ).loc main_arg0) j = ((q j : ℝ) : EReal))
  (h1 : ∀ j, m ((c : Thread nD τ).loc main_arg1) j = ((k j : ℝ) : EReal))
  (h2 : ∀ j, m ((c : Thread nD τ).loc main_arg2) j = ((v j : ℝ) : EReal))
  (hv : ∀ j, |v j| ≤ (2 : ℝ) ^ 128)
include h0 h1 h2 hv

omit h0 h1 h2 hv in
theorem outs7 (t : Fin cfg0.N) : (outsAt0 m c t).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) := by
  simp only [outsAt0]

/-- What a grid point leaves in the block of sums. -/
theorem point7 (t : Fin cfg0.N) (i d : Fin 512) :
    (outsAt0 m c t).1 (ix3 0 i d)
      = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t i) d) := by
  rw [outs7]
  refine (KVal.out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (qb q t) (kb k t) (vb v t) (fun j => (blk0 m c t j).trans (h0 _)) (fun j => (blk1 m c t j).trans (h1 _)) (fun j => (blk2 m c t j).trans (h2 _)) (fun j => hv _) i d).trans ?_
  refine Eq.trans ?_ (RefVal.G7_at _ _ _ _ _ _ _ q k v h0 h1 h2 (bt t) (qt t i) d).symm
  simp only [batt_eq, blk3, blk4, blk5, blk6]

theorem block7 (t : Fin cfg0.N) (y : S1x512x512.Idx) :
    (outsAt0 m c t).1 y = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t (y 1)) (y 2)) := by
  have hy : y = ix3 0 (y 1) (y 2) := by blk_ext
  exact (congrArg (outsAt0 m c t).1 hy).trans (point7 m c q k v h0 h1 h2 hv t (y 1) (y 2))

/-- The array of sums after the run. -/
theorem final7 : (dats m 0 c).arrAt 7 cfg0.N = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  have e : (((cfg0.win 7).blk t).view.emb y) = ix3 (bt t) (qt t (y 1)) (y 2) := by
    blk_ext [idx t, bt, qt]
  exact (block7 m c q k v h0 h1 h2 hv t y).trans (congrArg (Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)

omit h0 h1 h2 hv in
theorem outs8 (t : Fin cfg0.N) : (outsAt0 m c t).2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) := by
  simp only [outsAt0]

/-- What a grid point leaves in the block of projections. -/
theorem point8 (t : Fin cfg0.N) (i d : Fin 512) :
    (outsAt0 m c t).2.1 (ix3 0 i d)
      = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t i) d) := by
  rw [outs8]
  refine (KVal.out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (qb q t) (kb k t) (vb v t) (fun j => (blk0 m c t j).trans (h0 _)) (fun j => (blk1 m c t j).trans (h1 _)) (fun j => (blk2 m c t j).trans (h2 _)) (fun j => hv _) i d).trans ?_
  refine Eq.trans ?_ (RefVal.G8_at _ _ _ _ _ _ _ q k v h0 h1 h2 (bt t) (qt t i) d).symm
  simp only [batt_eq, blk4, blk5, blk6]

theorem block8 (t : Fin cfg0.N) (y : S1x512x512.Idx) :
    (outsAt0 m c t).2.1 y = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t (y 1)) (y 2)) := by
  have hy : y = ix3 0 (y 1) (y 2) := by blk_ext
  exact (congrArg (outsAt0 m c t).2.1 hy).trans (point8 m c q k v h0 h1 h2 hv t (y 1) (y 2))

/-- The array of projections after the run. -/
theorem final8 : (dats m 0 c).arrAt 8 cfg0.N = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  have e : (((cfg0.win 8).blk t).view.emb y) = ix3 (bt t) (qt t (y 1)) (y 2) := by
    blk_ext [idx t, bt, qt]
  exact (block8 m c q k v h0 h1 h2 hv t y).trans (congrArg (Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)

omit h0 h1 h2 hv in
theorem outs9 (t : Fin cfg0.N) : (outsAt0 m c t).2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) := by
  simp only [outsAt0]

/-- What a grid point leaves in the block of codes. -/
theorem point9 (t : Fin cfg0.N) (i d : Fin 512) :
    (outsAt0 m c t).2.2.1 (ix3 0 i d)
      = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t i) d) := by
  rw [outs9]
  refine (KVal.out9_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (qb q t) (kb k t) (vb v t) (fun j => (blk0 m c t j).trans (h0 _)) (fun j => (blk1 m c t j).trans (h1 _)) (fun j => (blk2 m c t j).trans (h2 _)) (fun j => hv _) i d).trans ?_
  refine Eq.trans ?_ (RefVal.G9_at _ _ _ _ _ _ _ q k v h0 h1 h2 (bt t) (qt t i) d).symm
  simp only [batt_eq]

theorem block9 (t : Fin cfg0.N) (y : S1x512x512.Idx) :
    (outsAt0 m c t).2.2.1 y = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (qt t (y 1)) (y 2)) := by
  have hy : y = ix3 0 (y 1) (y 2) := by blk_ext
  exact (congrArg (outsAt0 m c t).2.2.1 hy).trans (point9 m c q k v h0 h1 h2 hv t (y 1) (y 2))

/-- The array of codes after the run. -/
theorem final9 : (dats m 0 c).arrAt 9 cfg0.N = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have e : (((cfg0.win 9).blk t).view.emb y) = ix3 (bt t) (qt t (y 1)) (y 2) := by
    blk_ext [idx t, bt, qt]
  exact (block9 m c q k v h0 h1 h2 hv t y).trans (congrArg (Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)

omit h0 h1 h2 hv in
theorem outs10 (t : Fin cfg0.N) : (outsAt0 m c t).2.2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) := by
  simp only [outsAt0]

/-- What a grid point leaves in the block of scales. -/
theorem point10 (t : Fin cfg0.N) (g : Fin 16) (i : Fin 512) :
    (outsAt0 m c t).2.2.2 (ix3 0 g i)
      = Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) g (qt t i)) := by
  rw [outs10]
  refine (KVal.out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (qb q t) (kb k t) (vb v t) (fun j => (blk0 m c t j).trans (h0 _)) (fun j => (blk1 m c t j).trans (h1 _)) (fun j => (blk2 m c t j).trans (h2 _)) (fun j => hv _) g i).trans ?_
  refine Eq.trans ?_ (RefVal.G10_at _ _ _ _ _ _ _ q k v h0 h1 h2 (bt t) g (qt t i)).symm
  simp only [batt_eq]

theorem block10 (t : Fin cfg0.N) (y : S1x16x512.Idx) :
    (outsAt0 m c t).2.2.2 y = Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 (bt t) (y 1) (qt t (y 2))) := by
  have hy : y = ix3 0 (y 1) (y 2) := by blk_ext
  exact (congrArg (outsAt0 m c t).2.2.2 hy).trans (point10 m c q k v h0 h1 h2 hv t (y 1) (y 2))

/-- The array of scales after the run. -/
theorem final10 : (dats m 0 c).arrAt 10 cfg0.N = Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  have e : (((cfg0.win 10).blk t).view.emb y) = ix3 (bt t) (y 1) (qt t (y 2)) := by
    blk_ext [idx t, bt, qt]
  exact (block10 m c q k v h0 h1 h2 hv t y).trans (congrArg (Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)

end Cert.KArr

end
-- ==== Proof.Bounded.lean ====
/-
  WHAT THE PRECONDITION SAYS over the extended reals: queries and keys are real numbers, and values are real numbers of
  magnitude at most 2 ^ 128.
-/
module

public import proofs.«01_k».proof.Proof.Quant
public import proofs.«01_k».proof.Proof.Gen.Pre_bounded

@[expose] public section

set_option maxRecDepth 16384

noncomputable section

namespace Cert.Bounded

open Idealize.ShloMosaic

theorem inf_bits : Ideal.ofBits .f32 0x7F800000#32 = ⊤ := by
  unfold Ideal.ofBits Ideal.ieee
  have h1 : BitVec.extractLsb' (8 + 23) 1 (0x7F800000#32) = 0#1 := by decide
  have h2 : (BitVec.extractLsb' 23 8 (0x7F800000#32)).toNat = 255 := by decide
  have h3 : (BitVec.extractLsb' 0 23 (0x7F800000#32)).toNat = 0 := by decide
  simp only [h1, h2, h3]
  simp

/-- A value whose magnitude stays below a bound is a real number that does. -/
theorem real_of_lt (x : EReal) (h : max x (-x) < ⊤) : ∃ r : ℝ, x = r := by
  refine ⟨x.toReal, (EReal.coe_toReal ?_ ?_).symm⟩
  · rintro rfl; simp at h
  · rintro rfl; simp at h

theorem real_of_le (x : EReal) (B : ℝ) (h : max x (-x) ≤ (B : EReal)) : ∃ r : ℝ, x = r ∧ |r| ≤ B := by
  obtain ⟨r, rfl⟩ := real_of_lt x (h.trans_lt (EReal.coe_lt_top B))
  refine ⟨r, rfl, ?_⟩
  rw [← EReal.coe_neg] at h
  have h1 : r ≤ B := EReal.coe_le_coe_iff.1 ((le_max_left _ _).trans h)
  have h2 : -r ≤ B := EReal.coe_le_coe_iff.1 ((le_max_right _ _).trans h)
  exact abs_le.2 ⟨by linarith, h1⟩

/-- A comparison that holds everywhere, at an index. -/
theorem lt_read {s : Shape} (x y : FVec Ideal s .f32) (h : cmpf .olt x y = fun _ => 1#1) (i : s.Idx) : x i < y i := by
  have e : BitVec.ofBool (decide (x i < y i)) = 1#1 := congrFun h i
  by_contra hn
  rw [decide_eq_false hn] at e
  exact absurd e (by decide)

theorem le_read {s : Shape} (x y : FVec Ideal s .f32) (h : cmpf .ole x y = fun _ => 1#1) (i : s.Idx) : x i ≤ y i := by
  have e : BitVec.ofBool (decide (x i ≤ y i)) = 1#1 := congrFun h i
  by_contra hn
  rw [decide_eq_false hn] at e
  exact absurd e (by decide)

open Cert.Pre_bounded in
theorem reals [Cert.Pre_bounded.Facts] (a0 : FVec Ideal S6x512x12288 .bf16) (a1 : FVec Ideal S6x12288x512 .bf16) (a2 : FVec Ideal S6x512x12288 .bf16)
    (a3 : FVec Ideal S6x12288x512 .bf16) (a4 : FVec Ideal S512x512 .fp8e4m3) (a5 a6 : FVec Ideal S512 .f32)
    (h : (Cert.Pre_bounded.fn a0 a1 a2 a3 a4 a5 a6).1 = (fun _ => 1#1)
      ∧ (Cert.Pre_bounded.fn a0 a1 a2 a3 a4 a5 a6).2.1 = (fun _ => 1#1)
      ∧ (Cert.Pre_bounded.fn a0 a1 a2 a3 a4 a5 a6).2.2 = (fun _ => 1#1)) :
    ∃ (q : S6x512x12288.Idx → ℝ) (k : S6x12288x512.Idx → ℝ) (v : S6x512x12288.Idx → ℝ),
      (∀ j, a0 j = ((q j : ℝ) : EReal)) ∧ (∀ j, a1 j = ((k j : ℝ) : EReal)) ∧ (∀ j, a2 j = ((v j : ℝ) : EReal)) ∧ ∀ j, |v j| ≤ (2 : ℝ) ^ 128 := by
  obtain ⟨e0, e1, e2⟩ := h
  have f0 (j) : ∃ r : ℝ, a0 j = r := by
    refine real_of_lt _ ?_
    have e := lt_read _ _ e0 j
    rw [← inf_bits]
    exact e
  have f1 (j) : ∃ r : ℝ, a1 j = r := by
    refine real_of_lt _ ?_
    have e := lt_read _ _ e1 j
    rw [← inf_bits]
    exact e
  have f2 (j) : ∃ r : ℝ, a2 j = r ∧ |r| ≤ (16777215 : ℝ) * (2 : ℝ) ^ (104 : ℤ) := by
    refine real_of_le _ _ ?_
    have e := le_read _ _ e2 j
    rw [← Quant.maxf32]
    exact e
  choose q hq using f0
  choose k hk using f1
  choose v hv hb using f2
  refine ⟨q, k, v, hq, hk, hv, fun j => (hb j).trans ?_⟩
  norm_num

end Cert.Bounded

end
-- ==== Proof.PTile.lean ====
/-
  THE TILES OF THE PROJECTIONS' BODY. The body normalises and quantises its 512 tokens in four tiles of 128. Every tile does
  the operations of the attention's tail, so its words are identified with those that `KTail` reads.
-/
module

public import proofs.«01_k».proof.Proof.KTail
public import proofs.«01_k».proof.Proof.Gen.ProjectionsIdeal.Frame
public import Idealize.ShloMosaic.Lib.Pipeline.ValueKit

@[expose] public section

set_option maxRecDepth 16384

noncomputable section

namespace Cert.PVal

open Cert.ProjectionsIdeal Cert.ProjectionsIdeal.Gen Idealize.ShloMosaic Idealize.ShloMosaic.TcCoe Idealize.SL.Sem

/-- The normalised values of a tile, by group, place in the group and token. -/
theorem norm_at (v0 : Vec Ideal S1x128x512 .bf16) (v4 v7 : Vec Ideal S1x512x128 .f32) (v10 v13 : Vec Ideal S512x128 .f32)
    (g : Fin 16) (e : Fin 32) (n : Fin 128) : k0_pay2 v0 v4 v7 v10 v13 (ix3 g e n)
      = (v0 (ix3 0 n (Quant.ch g e)) - v4 (ix3 0 (Quant.ch g e) n)) * v7 (ix3 0 (Quant.ch g e) n) * v10 (ix2 (Quant.ch g e) n)
        + v13 (ix2 (Quant.ch g e) n) := by
  unfold Quant.ch
  pointwise [k0_pay2]

/-- The decoded values of a tile, by channel, are those by token. -/
theorem flip_at (X : FVec Ideal S512x128 .bf16) (ch : Fin 512) (n : Fin 128) : k0_pay12 X (ix2 ch n) = k0_pay13 X (ix2 n ch) := by
  pointwise [k0_pay12, k0_pay13]

variable (c : Dev nD)
  (arg2 : Memref sig .tc .vmem S1x512x512 .bf16) (harg2 : arg2.IsWhole)
  (arg3 : Memref sig .tc .vmem S1x512x128 .f32) (harg3 : arg3.IsWhole)
  (arg4 : Memref sig .tc .vmem S1x512x128 .f32) (harg4 : arg4.IsWhole)
  (arg5 : Memref sig .tc .vmem S512x128 .f32) (harg5 : arg5.IsWhole)
  (arg6 : Memref sig .tc .vmem S512x128 .f32) (harg6 : arg6.IsWhole)
  (x0 : Vec Ideal S1x512x512 .bf16)
  (x1 : Vec Ideal S1x512x128 .f32)
  (x2 : Vec Ideal S1x512x128 .f32)
  (x3 : Vec Ideal S512x128 .f32)
  (x4 : Vec Ideal S512x128 .f32)

/-- The four tiles of normalised values. -/
def T0 : FVec Ideal S16x32x128 .f32 := kernelRun0_A.sl.r c arg2 harg2 arg3 harg3 arg4 harg4 arg5 harg5 arg6 harg6 x0 x1 x2 x3 x4
def T1 : FVec Ideal S16x32x128 .f32 := kernelRun0_A.sl.r_9 c arg2 harg2 arg3 harg3 arg4 harg4 arg5 harg5 arg6 harg6 x0 x1 x2 x3 x4
def T2 : FVec Ideal S16x32x128 .f32 := kernelRun0_A.sl.r_17 c arg2 harg2 arg3 harg3 arg4 harg4 arg5 harg5 arg6 harg6 x0 x1 x2 x3 x4
def T3 : FVec Ideal S16x32x128 .f32 := kernelRun0_A.sl.r_25 c arg2 harg2 arg3 harg3 arg4 harg4 arg5 harg5 arg6 harg6 x0 x1 x2 x3 x4

theorem code_0 : k0_pay14 (kernelRun0_A.sl.r_7 c arg2 harg2 arg3 harg3 arg4 harg4 arg5 harg5 arg6 harg6 x0 x1 x2 x3 x4)
    = Cert.KernelIdeal.Gen.k0_pay176 (KVal.scd (T0 c arg2 harg2 arg3 harg3 arg4 harg4 arg5 harg5 arg6 harg6 x0 x1 x2 x3 x4) (KVal.rat (T0 c arg2 harg2 arg3 harg3 arg4 harg4 arg5 harg5 arg6 harg6 x0 x1 x2 x3 x4))) KVal.lo := rfl
theorem scale_0 : k0_pay15 (kernelRun0_A.sl.r_6 c arg2 harg2 arg3 harg3 arg4 harg4 arg5 harg5 arg6 harg6 x0 x1 x2 x3 x4)
    = Cert.KernelIdeal.Gen.k0_pay177 (KVal.scl (KVal.rat (T0 c arg2 harg2 arg3 harg3 arg4 harg4 arg5 harg5 arg6 harg6 x0 x1 x2 x3 x4))) := rfl
theorem row_0 : k0_pay13 (kernelRun0_A.sl.r_8 c arg2 harg2 arg3 harg3 arg4 harg4 arg5 harg5 arg6 harg6 x0 x1 x2 x3 x4)
    = Cert.KernelIdeal.Gen.k0_pay175 (KVal.scl (KVal.rat (T0 c arg2 harg2 arg3 harg3 arg4 harg4 arg5 harg5 arg6 harg6 x0 x1 x2 x3 x4))) (KVal.scd (T0 c arg2 harg2 arg3 harg3 arg4 harg4 arg5 harg5 arg6 harg6 x0 x1 x2 x3 x4) (KVal.rat (T0 c arg2 harg2 arg3 harg3 arg4 harg4 arg5 harg5 arg6 harg6 x0 x1 x2 x3 x4))) KVal.lo := rfl
theorem col_0 (ch : Fin 512) (n : Fin 128) : k0_pay12 (kernelRun0_A.sl.r_8 c arg2 harg2 arg3 harg3 arg4 harg4 arg5 harg5 arg6 harg6 x0 x1 x2 x3 x4) (ix2 ch n)
    = Cert.KernelIdeal.Gen.k0_pay175 (KVal.scl (KVal.rat (T0 c arg2 harg2 arg3 harg3 arg4 harg4 arg5 harg5 arg6 harg6 x0 x1 x2 x3 x4))) (KVal.scd (T0 c arg2 harg2 arg3 harg3 arg4 harg4 arg5 harg5 arg6 harg6 x0 x1 x2 x3 x4) (KVal.rat (T0 c arg2 harg2 arg3 harg3 arg4 harg4 arg5 harg5 arg6 harg6 x0 x1 x2 x3 x4))) KVal.lo (ix2 n ch) :=
  (flip_at (kernelRun0_A.sl.r_8 c arg2 harg2 arg3 harg3 arg4 harg4 arg5 harg5 arg6 harg6 x0 x1 x2 x3 x4) ch n).trans (congrFun (row_0 c arg2 harg2 arg3 harg3 arg4 harg4 arg5 harg5 arg6 harg6 x0 x1 x2 x3 x4) (ix2 n ch))

theorem code_1 : k0_pay28 (kernelRun0_A.sl.r_9 c arg2 harg2 arg3 harg3 arg4 harg4 arg5 harg5 arg6 harg6 x0 x1 x2 x3 x4) (kernelRun0_A.sl.r_15 c arg2 harg2 arg3 harg3 arg4 harg4 arg5 harg5 arg6 harg6 x0 x1 x2 x3 x4)
    = Cert.KernelIdeal.Gen.k0_pay176 (KVal.scd (T1 c arg2 harg2 arg3 harg3 arg4 harg4 arg5 harg5 arg6 harg6 x0 x1 x2 x3 x4) (KVal.rat (T1 c arg2 harg2 arg3 harg3 arg4 harg4 arg5 harg5 arg6 harg6 x0 x1 x2 x3 x4))) KVal.lo := rfl
theorem scale_1 : k0_pay29 (kernelRun0_A.sl.r_14 c arg2 harg2 arg3 harg3 arg4 harg4 arg5 harg5 arg6 harg6 x0 x1 x2 x3 x4)
    = Cert.KernelIdeal.Gen.k0_pay177 (KVal.scl (KVal.rat (T1 c arg2 harg2 arg3 harg3 arg4 harg4 arg5 harg5 arg6 harg6 x0 x1 x2 x3 x4))) := rfl
theorem row_1 : k0_pay27 (kernelRun0_A.sl.r_9 c arg2 harg2 arg3 harg3 arg4 harg4 arg5 harg5 arg6 harg6 x0 x1 x2 x3 x4) (kernelRun0_A.sl.r_14 c arg2 harg2 arg3 harg3 arg4 harg4 arg5 harg5 arg6 harg6 x0 x1 x2 x3 x4) (kernelRun0_A.sl.r_15 c arg2 harg2 arg3 harg3 arg4 harg4 arg5 harg5 arg6 harg6 x0 x1 x2 x3 x4)
    = Cert.KernelIdeal.Gen.k0_pay175 (KVal.scl (KVal.rat (T1 c arg2 harg2 arg3 harg3 arg4 harg4 arg5 harg5 arg6 harg6 x0 x1 x2 x3 x4))) (KVal.scd (T1 c arg2 harg2 arg3 harg3 arg4 harg4 arg5 harg5 arg6 harg6 x0 x1 x2 x3 x4) (KVal.rat (T1 c arg2 harg2 arg3 harg3 arg4 harg4 arg5 harg5 arg6 harg6 x0 x1 x2 x3 x4))) KVal.lo := rfl
theorem col_1 (ch : Fin 512) (n : Fin 128) : k0_pay26 (kernelRun0_A.sl.r_9 c arg2 harg2 arg3 harg3 arg4 harg4 arg5 harg5 arg6 harg6 x0 x1 x2 x3 x4) (kernelRun0_A.sl.r_14 c arg2 harg2 arg3 harg3 arg4 harg4 arg5 harg5 arg6 harg6 x0 x1 x2 x3 x4) (kernelRun0_A.sl.r_15 c arg2 harg2 arg3 harg3 arg4 harg4 arg5 harg5 arg6 harg6 x0 x1 x2 x3 x4) (ix2 ch n)
    = Cert.KernelIdeal.Gen.k0_pay175 (KVal.scl (KVal.rat (T1 c arg2 harg2 arg3 harg3 arg4 harg4 arg5 harg5 arg6 harg6 x0 x1 x2 x3 x4))) (KVal.scd (T1 c arg2 harg2 arg3 harg3 arg4 harg4 arg5 harg5 arg6 harg6 x0 x1 x2 x3 x4) (KVal.rat (T1 c arg2 harg2 arg3 harg3 arg4 harg4 arg5 harg5 arg6 harg6 x0 x1 x2 x3 x4))) KVal.lo (ix2 n ch) :=
  (flip_at (k0_pay25 (kernelRun0_A.sl.r_9 c arg2 harg2 arg3 harg3 arg4 harg4 arg5 harg5 arg6 harg6 x0 x1 x2 x3 x4) (kernelRun0_A.sl.r_14 c arg2 harg2 arg3 harg3 arg4 harg4 arg5 harg5 arg6 harg6 x0 x1 x2 x3 x4) (kernelRun0_A.sl.r_15 c arg2 harg2 arg3 harg3 arg4 harg4 arg5 harg5 arg6 harg6 x0 x1 x2 x3 x4)) ch n).trans (congrFun (row_1 c arg2 harg2 arg3 harg3 arg4 harg4 arg5 harg5 arg6 harg6 x0 x1 x2 x3 x4) (ix2 n ch))

theorem code_2 : k0_pay44 (kernelRun0_A.sl.r_24 c arg2 harg2 arg3 harg3 arg4 harg4 arg5 harg5 arg6 harg6 x0 x1 x2 x3 x4)
    = Cert.KernelIdeal.Gen.k0_pay176 (KVal.scd (T2 c arg2 harg2 arg3 harg3 arg4 harg4 arg5 harg5 arg6 harg6 x0 x1 x2 x3 x4) (KVal.rat (T2 c arg2 harg2 arg3 harg3 arg4 harg4 arg5 harg5 arg6 harg6 x0 x1 x2 x3 x4))) KVal.lo := rfl
theorem scale_2 : k0_pay45 (kernelRun0_A.sl.r_23 c arg2 harg2 arg3 harg3 arg4 harg4 arg5 harg5 arg6 harg6 x0 x1 x2 x3 x4)
    = Cert.KernelIdeal.Gen.k0_pay177 (KVal.scl (KVal.rat (T2 c arg2 harg2 arg3 harg3 arg4 harg4 arg5 harg5 arg6 harg6 x0 x1 x2 x3 x4))) := rfl
theorem row_2 : k0_pay42 (kernelRun0_A.sl.r_17 c arg2 harg2 arg3 harg3 arg4 harg4 arg5 harg5 arg6 harg6 x0 x1 x2 x3 x4) (kernelRun0_A.sl.r_18 c arg2 harg2 arg3 harg3 arg4 harg4 arg5 harg5 arg6 harg6 x0 x1 x2 x3 x4) (kernelRun0_A.sl.r_21 c arg2 harg2 arg3 harg3 arg4 harg4 arg5 harg5 arg6 harg6 x0 x1 x2 x3 x4) (kernelRun0_A.sl.r_22 c arg2 harg2 arg3 harg3 arg4 harg4 arg5 harg5 arg6 harg6 x0 x1 x2 x3 x4)
    = Cert.KernelIdeal.Gen.k0_pay175 (KVal.scl (KVal.rat (T2 c arg2 harg2 arg3 harg3 arg4 harg4 arg5 harg5 arg6 harg6 x0 x1 x2 x3 x4))) (KVal.scd (T2 c arg2 harg2 arg3 harg3 arg4 harg4 arg5 harg5 arg6 harg6 x0 x1 x2 x3 x4) (KVal.rat (T2 c arg2 harg2 arg3 harg3 arg4 harg4 arg5 harg5 arg6 harg6 x0 x1 x2 x3 x4))) KVal.lo := rfl
theorem col_2 (ch : Fin 512) (n : Fin 128) : k0_pay41 (kernelRun0_A.sl.r_17 c arg2 harg2 arg3 harg3 arg4 harg4 arg5 harg5 arg6 harg6 x0 x1 x2 x3 x4) (kernelRun0_A.sl.r_18 c arg2 harg2 arg3 harg3 arg4 harg4 arg5 harg5 arg6 harg6 x0 x1 x2 x3 x4) (kernelRun0_A.sl.r_21 c arg2 harg2 arg3 harg3 arg4 harg4 arg5 harg5 arg6 harg6 x0 x1 x2 x3 x4) (kernelRun0_A.sl.r_22 c arg2 harg2 arg3 harg3 arg4 harg4 arg5 harg5 arg6 harg6 x0 x1 x2 x3 x4) (ix2 ch n)
    = Cert.KernelIdeal.Gen.k0_pay175 (KVal.scl (KVal.rat (T2 c arg2 harg2 arg3 harg3 arg4 harg4 arg5 harg5 arg6 harg6 x0 x1 x2 x3 x4))) (KVal.scd (T2 c arg2 harg2 arg3 harg3 arg4 harg4 arg5 harg5 arg6 harg6 x0 x1 x2 x3 x4) (KVal.rat (T2 c arg2 harg2 arg3 harg3 arg4 harg4 arg5 harg5 arg6 harg6 x0 x1 x2 x3 x4))) KVal.lo (ix2 n ch) :=
  (flip_at (k0_pay40 (kernelRun0_A.sl.r_17 c arg2 harg2 arg3 harg3 arg4 harg4 arg5 harg5 arg6 harg6 x0 x1 x2 x3 x4) (kernelRun0_A.sl.r_18 c arg2 harg2 arg3 harg3 arg4 harg4 arg5 harg5 arg6 harg6 x0 x1 x2 x3 x4) (kernelRun0_A.sl.r_21 c arg2 harg2 arg3 harg3 arg4 harg4 arg5 harg5 arg6 harg6 x0 x1 x2 x3 x4) (kernelRun0_A.sl.r_22 c arg2 harg2 arg3 harg3 arg4 harg4 arg5 harg5 arg6 harg6 x0 x1 x2 x3 x4)) ch n).trans (congrFun (row_2 c arg2 harg2 arg3 harg3 arg4 harg4 arg5 harg5 arg6 harg6 x0 x1 x2 x3 x4) (ix2 n ch))

theorem code_3 : k0_pay59 (kernelRun0_A.sl.r_30 c arg2 harg2 arg3 harg3 arg4 harg4 arg5 harg5 arg6 harg6 x0 x1 x2 x3 x4)
    = Cert.KernelIdeal.Gen.k0_pay176 (KVal.scd (T3 c arg2 harg2 arg3 harg3 arg4 harg4 arg5 harg5 arg6 harg6 x0 x1 x2 x3 x4) (KVal.rat (T3 c arg2 harg2 arg3 harg3 arg4 harg4 arg5 harg5 arg6 harg6 x0 x1 x2 x3 x4))) KVal.lo := rfl
theorem scale_3 : k0_pay60 (kernelRun0_A.sl.r_29 c arg2 harg2 arg3 harg3 arg4 harg4 arg5 harg5 arg6 harg6 x0 x1 x2 x3 x4)
    = Cert.KernelIdeal.Gen.k0_pay177 (KVal.scl (KVal.rat (T3 c arg2 harg2 arg3 harg3 arg4 harg4 arg5 harg5 arg6 harg6 x0 x1 x2 x3 x4))) := rfl
theorem row_3 : k0_pay58 (kernelRun0_A.sl.r_29 c arg2 harg2 arg3 harg3 arg4 harg4 arg5 harg5 arg6 harg6 x0 x1 x2 x3 x4) (kernelRun0_A.sl.r_30 c arg2 harg2 arg3 harg3 arg4 harg4 arg5 harg5 arg6 harg6 x0 x1 x2 x3 x4)
    = Cert.KernelIdeal.Gen.k0_pay175 (KVal.scl (KVal.rat (T3 c arg2 harg2 arg3 harg3 arg4 harg4 arg5 harg5 arg6 harg6 x0 x1 x2 x3 x4))) (KVal.scd (T3 c arg2 harg2 arg3 harg3 arg4 harg4 arg5 harg5 arg6 harg6 x0 x1 x2 x3 x4) (KVal.rat (T3 c arg2 harg2 arg3 harg3 arg4 harg4 arg5 harg5 arg6 harg6 x0 x1 x2 x3 x4))) KVal.lo := rfl
theorem col_3 (ch : Fin 512) (n : Fin 128) : k0_pay57 (kernelRun0_A.sl.r_29 c arg2 harg2 arg3 harg3 arg4 harg4 arg5 harg5 arg6 harg6 x0 x1 x2 x3 x4) (kernelRun0_A.sl.r_30 c arg2 harg2 arg3 harg3 arg4 harg4 arg5 harg5 arg6 harg6 x0 x1 x2 x3 x4) (ix2 ch n)
    = Cert.KernelIdeal.Gen.k0_pay175 (KVal.scl (KVal.rat (T3 c arg2 harg2 arg3 harg3 arg4 harg4 arg5 harg5 arg6 harg6 x0 x1 x2 x3 x4))) (KVal.scd (T3 c arg2 harg2 arg3 harg3 arg4 harg4 arg5 harg5 arg6 harg6 x0 x1 x2 x3 x4) (KVal.rat (T3 c arg2 harg2 arg3 harg3 arg4 harg4 arg5 harg5 arg6 harg6 x0 x1 x2 x3 x4))) KVal.lo (ix2 n ch) :=
  (flip_at (k0_pay56 (kernelRun0_A.sl.r_29 c arg2 harg2 arg3 harg3 arg4 harg4 arg5 harg5 arg6 harg6 x0 x1 x2 x3 x4) (kernelRun0_A.sl.r_30 c arg2 harg2 arg3 harg3 arg4 harg4 arg5 harg5 arg6 harg6 x0 x1 x2 x3 x4)) ch n).trans (congrFun (row_3 c arg2 harg2 arg3 harg3 arg4 harg4 arg5 harg5 arg6 harg6 x0 x1 x2 x3 x4) (ix2 n ch))

/-- Loads of the blocks that a tile reads. -/
theorem b_ld {r : Memref sig .tc .vmem S1x512x128 .f32} (hr : r.IsWhole) (x : FVec Ideal S1x512x128 .f32) (inb) :
    View.readAt (Elt Ideal) r.view (Rect.unit ![0, 0, 0] S1x512x128.size inb).toLoadRect (hr.unread x) = x := by
  rw [View.readAt_eq_ld, hr.read_unread, View.ld_unit_zero (S := S1x512x128) KVal.hz3]
theorem g_ld {r : Memref sig .tc .vmem S512x128 .f32} (hr : r.IsWhole) (x : FVec Ideal S512x128 .f32) (inb) :
    View.readAt (Elt Ideal) r.view (Rect.unit ![0, 0] S512x128.size inb).toLoadRect (hr.unread x) = x := by
  rw [View.readAt_eq_ld, hr.read_unread, View.ld_unit_zero (S := S512x128) KVal.hz2]
theorem x_ld0 {r : Memref sig .tc .vmem S1x512x512 .bf16} (hr : r.IsWhole) (x : FVec Ideal S1x512x512 .bf16) (inb) (n : Fin 128) (ch : Fin 512) :
    View.readAt (Elt Ideal) r.view (Rect.unit (s := S1x512x512) ![0, 0, 0] S1x128x512.size inb).toLoadRect (hr.unread x) (ix3 0 n ch) = x (ix3 0 ⟨n.val, by omega⟩ ch) := by
  rw [View.readAt_eq_ld, hr.read_unread]
  refine congrArg x (funext fun b => Fin.ext ?_)
  match b with
  | ⟨0, _⟩ => rfl
  | ⟨1, _⟩ => show 0 + 1 * n.val = n.val; omega
  | ⟨2, _⟩ => show 0 + 1 * ch.val = ch.val; omega
theorem x_ld1 {r : Memref sig .tc .vmem S1x512x512 .bf16} (hr : r.IsWhole) (x : FVec Ideal S1x512x512 .bf16) (inb) (n : Fin 128) (ch : Fin 512) :
    View.readAt (Elt Ideal) r.view (Rect.unit (s := S1x512x512) ![0, 128, 0] S1x128x512.size inb).toLoadRect (hr.unread x) (ix3 0 n ch) = x (ix3 0 ⟨128 + n.val, by omega⟩ ch) := by
  rw [View.readAt_eq_ld, hr.read_unread]
  refine congrArg x (funext fun b => Fin.ext ?_)
  match b with
  | ⟨0, _⟩ => rfl
  | ⟨1, _⟩ => show 128 + 1 * n.val = 128 + n.val; omega
  | ⟨2, _⟩ => show 0 + 1 * ch.val = ch.val; omega
theorem x_ld2 {r : Memref sig .tc .vmem S1x512x512 .bf16} (hr : r.IsWhole) (x : FVec Ideal S1x512x512 .bf16) (inb) (n : Fin 128) (ch : Fin 512) :
    View.readAt (Elt Ideal) r.view (Rect.unit (s := S1x512x512) ![0, 256, 0] S1x128x512.size inb).toLoadRect (hr.unread x) (ix3 0 n ch) = x (ix3 0 ⟨256 + n.val, by omega⟩ ch) := by
  rw [View.readAt_eq_ld, hr.read_unread]
  refine congrArg x (funext fun b => Fin.ext ?_)
  match b with
  | ⟨0, _⟩ => rfl
  | ⟨1, _⟩ => show 256 + 1 * n.val = 256 + n.val; omega
  | ⟨2, _⟩ => show 0 + 1 * ch.val = ch.val; omega
theorem x_ld3 {r : Memref sig .tc .vmem S1x512x512 .bf16} (hr : r.IsWhole) (x : FVec Ideal S1x512x512 .bf16) (inb) (n : Fin 128) (ch : Fin 512) :
    View.readAt (Elt Ideal) r.view (Rect.unit (s := S1x512x512) ![0, 384, 0] S1x128x512.size inb).toLoadRect (hr.unread x) (ix3 0 n ch) = x (ix3 0 ⟨384 + n.val, by omega⟩ ch) := by
  rw [View.readAt_eq_ld, hr.read_unread]
  refine congrArg x (funext fun b => Fin.ext ?_)
  match b with
  | ⟨0, _⟩ => rfl
  | ⟨1, _⟩ => show 384 + 1 * n.val = 384 + n.val; omega
  | ⟨2, _⟩ => show 0 + 1 * ch.val = ch.val; omega

variable (H : Fin 512 → Fin 512 → ℝ)
  (hH : ∀ (n ch : Fin 512) (l : Fin 128), (x0 (ix3 0 n ch) - x1 (ix3 0 ch l)) * x2 (ix3 0 ch l) * x3 (ix2 ch l) + x4 (ix2 ch l)
    = ((H n ch : ℝ) : EReal))
include hH

/-- The tile of tokens from 0 holds the block's normalised values. -/
theorem t0_at (g : Fin 16) (e : Fin 32) (n : Fin 128) : T0 c arg2 harg2 arg3 harg3 arg4 harg4 arg5 harg5 arg6 harg6 x0 x1 x2 x3 x4 (ix3 g e n)
    = ((H ⟨n.val, by omega⟩ (Quant.ch g e) : ℝ) : EReal) := by
  refine (norm_at _ _ _ _ _ g e n).trans ?_
  rw [x_ld0 harg2 x0, b_ld harg3 x1, b_ld harg4 x2, g_ld harg5 x3, g_ld harg6 x4, hH]

/-- The tile of tokens from 128 holds the block's normalised values. -/
theorem t1_at (g : Fin 16) (e : Fin 32) (n : Fin 128) : T1 c arg2 harg2 arg3 harg3 arg4 harg4 arg5 harg5 arg6 harg6 x0 x1 x2 x3 x4 (ix3 g e n)
    = ((H ⟨128 + n.val, by omega⟩ (Quant.ch g e) : ℝ) : EReal) := by
  refine (norm_at _ _ _ _ _ g e n).trans ?_
  rw [x_ld1 harg2 x0, b_ld harg3 x1, b_ld harg4 x2, g_ld harg5 x3, g_ld harg6 x4, hH]

/-- The tile of tokens from 256 holds the block's normalised values. -/
theorem t2_at (g : Fin 16) (e : Fin 32) (n : Fin 128) : T2 c arg2 harg2 arg3 harg3 arg4 harg4 arg5 harg5 arg6 harg6 x0 x1 x2 x3 x4 (ix3 g e n)
    = ((H ⟨256 + n.val, by omega⟩ (Quant.ch g e) : ℝ) : EReal) := by
  refine (norm_at _ _ _ _ _ g e n).trans ?_
  rw [x_ld2 harg2 x0, b_ld harg3 x1, b_ld harg4 x2, g_ld harg5 x3, g_ld harg6 x4, hH]

/-- The tile of tokens from 384 holds the block's normalised values. -/
theorem t3_at (g : Fin 16) (e : Fin 32) (n : Fin 128) : T3 c arg2 harg2 arg3 harg3 arg4 harg4 arg5 harg5 arg6 harg6 x0 x1 x2 x3 x4 (ix3 g e n)
    = ((H ⟨384 + n.val, by omega⟩ (Quant.ch g e) : ℝ) : EReal) := by
  refine (norm_at _ _ _ _ _ g e n).trans ?_
  rw [x_ld3 harg2 x0, b_ld harg3 x1, b_ld harg4 x2, g_ld harg5 x3, g_ld harg6 x4, hH]

end Cert.PVal

end
-- ==== Proof.PBlock.lean ====
/-
  THE PROJECTIONS' BLOCKS PUT TOGETHER from four tiles of 128 tokens, where the tokens are the last axis.
-/
module

public import proofs.«01_k».proof.Proof.PTile
public import proofs.«01_k».proof.Proof.KOut

@[expose] public section

set_option maxRecDepth 16384

noncomputable section

namespace Cert.PVal

open Cert.ProjectionsIdeal Cert.ProjectionsIdeal.Gen Idealize.ShloMosaic Idealize.ShloMosaic.TcCoe Idealize.SL.Sem

/-- Four stores of 128 columns make up 512 columns. -/
theorem cols4 (W0 W1 W2 W3 : FVec Ideal S512x128 .bf16) (inb0 inb1 inb2 inb3) (f : Fin 512 → Fin 512 → EReal)
    (h0 : ∀ (ch : Fin 512) (n : Fin 128), W0 (ix2 ch n) = f ⟨n.val, by omega⟩ ch)
    (h1 : ∀ (ch : Fin 512) (n : Fin 128), W1 (ix2 ch n) = f ⟨128 + n.val, by omega⟩ ch)
    (h2 : ∀ (ch : Fin 512) (n : Fin 128), W2 (ix2 ch n) = f ⟨256 + n.val, by omega⟩ ch)
    (h3 : ∀ (ch : Fin 512) (n : Fin 128), W3 (ix2 ch n) = f ⟨384 + n.val, by omega⟩ ch)
    (ch i : Fin 512) :
    View.canon ([⟨Rect.unit (s := S512x512) ![0, 384] S512x128.size inb3, W3⟩, ⟨Rect.unit (s := S512x512) ![0, 256] S512x128.size inb2, W2⟩, ⟨Rect.unit (s := S512x512) ![0, 128] S512x128.size inb1, W1⟩, ⟨Rect.unit (s := S512x512) ![0, 0] S512x128.size inb0, W0⟩]
      : List (View.Piece (Elt Ideal) S512x512 .bf16)) (ix2 ch i) = f i ch := by
  have hcover : ∀ y, ∃ p ∈ ([⟨Rect.unit (s := S512x512) ![0, 384] S512x128.size inb3, W3⟩, ⟨Rect.unit (s := S512x512) ![0, 256] S512x128.size inb2, W2⟩, ⟨Rect.unit (s := S512x512) ![0, 128] S512x128.size inb1, W1⟩, ⟨Rect.unit (s := S512x512) ![0, 0] S512x128.size inb0, W0⟩]
      : List (View.Piece (Elt Ideal) S512x512 .bf16)), y ∈ p.1.set := View.cover_of_tiledL _ S512x128.size rfl
  canon_tiles x hx using hcover _
  · refine Eq.trans (congrArg W3 (?_ : x = ix2 (x 0) (x 1))) ((h3 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W2 (?_ : x = ix2 (x 0) (x 1))) ((h2 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W1 (?_ : x = ix2 (x 0) (x 1))) ((h1 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W0 (?_ : x = ix2 (x 0) (x 1))) ((h0 (x 0) (x 1)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)

/-- The same for an output block. -/
theorem quads4 (W0 W1 W2 W3 : FVec Ideal S1x512x128 .bf16) (inb0 inb1 inb2 inb3) (f : Fin 512 → Fin 512 → EReal)
    (h0 : ∀ (ch : Fin 512) (n : Fin 128), W0 (ix3 0 ch n) = f ⟨n.val, by omega⟩ ch)
    (h1 : ∀ (ch : Fin 512) (n : Fin 128), W1 (ix3 0 ch n) = f ⟨128 + n.val, by omega⟩ ch)
    (h2 : ∀ (ch : Fin 512) (n : Fin 128), W2 (ix3 0 ch n) = f ⟨256 + n.val, by omega⟩ ch)
    (h3 : ∀ (ch : Fin 512) (n : Fin 128), W3 (ix3 0 ch n) = f ⟨384 + n.val, by omega⟩ ch)
    (ch i : Fin 512) :
    View.canon ([⟨Rect.unit (s := S1x512x512) ![0, 0, 384] S1x512x128.size inb3, W3⟩, ⟨Rect.unit (s := S1x512x512) ![0, 0, 256] S1x512x128.size inb2, W2⟩, ⟨Rect.unit (s := S1x512x512) ![0, 0, 128] S1x512x128.size inb1, W1⟩, ⟨Rect.unit (s := S1x512x512) ![0, 0, 0] S1x512x128.size inb0, W0⟩]
      : List (View.Piece (Elt Ideal) S1x512x512 .bf16)) (ix3 0 ch i) = f i ch := by
  have hcover : ∀ y, ∃ p ∈ ([⟨Rect.unit (s := S1x512x512) ![0, 0, 384] S1x512x128.size inb3, W3⟩, ⟨Rect.unit (s := S1x512x512) ![0, 0, 256] S1x512x128.size inb2, W2⟩, ⟨Rect.unit (s := S1x512x512) ![0, 0, 128] S1x512x128.size inb1, W1⟩, ⟨Rect.unit (s := S1x512x512) ![0, 0, 0] S1x512x128.size inb0, W0⟩]
      : List (View.Piece (Elt Ideal) S1x512x512 .bf16)), y ∈ p.1.set := View.cover_of_tiledL _ S1x512x128.size rfl
  canon_tiles x hx using hcover _
  · refine Eq.trans (congrArg W3 (?_ : x = ix3 0 (x 1) (x 2))) ((h3 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W2 (?_ : x = ix3 0 (x 1) (x 2))) ((h2 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W1 (?_ : x = ix3 0 (x 1) (x 2))) ((h1 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)
  · refine Eq.trans (congrArg W0 (?_ : x = ix3 0 (x 1) (x 2))) ((h0 (x 1) (x 2)).trans (congrArg₂ f (Fin.ext ?_) (Fin.ext ?_)))
    · funext a; apply Fin.ext; fin_cases a <;> first | rfl | (show (x 0 : ℕ) = 0; omega)
    · simp only [] at *; first | omega | (simp at *; omega)
    · simp only [] at *; first | omega | (simp at *; omega)

/-- A load of the whole of a buffer that four stores of 128 columns fill reads what they left. -/
theorem readCov_cols (b : View sig .tc .vmem S512x512 .bf16) (W0 W1 W2 W3 : FVec Ideal S512x128 .bf16) (inb0 inb1 inb2 inb3 inb) :
    b.readCov ([⟨Rect.unit (s := S512x512) ![0, 384] S512x128.size inb3, W3⟩, ⟨Rect.unit (s := S512x512) ![0, 256] S512x128.size inb2, W2⟩, ⟨Rect.unit (s := S512x512) ![0, 128] S512x128.size inb1, W1⟩, ⟨Rect.unit (s := S512x512) ![0, 0] S512x128.size inb0, W0⟩]
      : List (View.Piece (Elt Ideal) S512x512 .bf16)) (Rect.unit (s := S512x512) ![0, 0] S512x512.size inb).toLoadRect
    = View.canon ([⟨Rect.unit (s := S512x512) ![0, 384] S512x128.size inb3, W3⟩, ⟨Rect.unit (s := S512x512) ![0, 256] S512x128.size inb2, W2⟩, ⟨Rect.unit (s := S512x512) ![0, 128] S512x128.size inb1, W1⟩, ⟨Rect.unit (s := S512x512) ![0, 0] S512x128.size inb0, W0⟩]
      : List (View.Piece (Elt Ideal) S512x512 .bf16)) := by
  have hcover : ∀ y, ∃ p ∈ ([⟨Rect.unit (s := S512x512) ![0, 384] S512x128.size inb3, W3⟩, ⟨Rect.unit (s := S512x512) ![0, 256] S512x128.size inb2, W2⟩, ⟨Rect.unit (s := S512x512) ![0, 128] S512x128.size inb1, W1⟩, ⟨Rect.unit (s := S512x512) ![0, 0] S512x128.size inb0, W0⟩]
      : List (View.Piece (Elt Ideal) S512x512 .bf16)), y ∈ p.1.set := View.cover_of_tiledL _ S512x128.size rfl
  rw [View.readCov_eq_canon_ld _ _ _ hcover, View.ld_unit_zero (S := S512x512) KVal.hz2]

/-- The same for four stores of 128 rows. -/
theorem readCov_rows (b : View sig .tc .vmem S512x512 .bf16) (W0 W1 W2 W3 : FVec Ideal S128x512 .bf16) (inb0 inb1 inb2 inb3 inb) :
    b.readCov ([⟨Rect.unit (s := S512x512) ![384, 0] S128x512.size inb3, W3⟩, ⟨Rect.unit (s := S512x512) ![256, 0] S128x512.size inb2, W2⟩, ⟨Rect.unit (s := S512x512) ![128, 0] S128x512.size inb1, W1⟩, ⟨Rect.unit (s := S512x512) ![0, 0] S128x512.size inb0, W0⟩]
      : List (View.Piece (Elt Ideal) S512x512 .bf16)) (Rect.unit (s := S512x512) ![0, 0] S512x512.size inb).toLoadRect
    = View.canon ([⟨Rect.unit (s := S512x512) ![384, 0] S128x512.size inb3, W3⟩, ⟨Rect.unit (s := S512x512) ![256, 0] S128x512.size inb2, W2⟩, ⟨Rect.unit (s := S512x512) ![128, 0] S128x512.size inb1, W1⟩, ⟨Rect.unit (s := S512x512) ![0, 0] S128x512.size inb0, W0⟩]
      : List (View.Piece (Elt Ideal) S512x512 .bf16)) := by
  have hcover : ∀ y, ∃ p ∈ ([⟨Rect.unit (s := S512x512) ![384, 0] S128x512.size inb3, W3⟩, ⟨Rect.unit (s := S512x512) ![256, 0] S128x512.size inb2, W2⟩, ⟨Rect.unit (s := S512x512) ![128, 0] S128x512.size inb1, W1⟩, ⟨Rect.unit (s := S512x512) ![0, 0] S128x512.size inb0, W0⟩]
      : List (View.Piece (Elt Ideal) S512x512 .bf16)), y ∈ p.1.set := View.cover_of_tiledL _ S128x512.size rfl
  rw [View.readCov_eq_canon_ld _ _ _ hcover, View.ld_unit_zero (S := S512x512) KVal.hz2]

/-- Loads of whole blocks. -/
theorem wk_ld {r : Memref sig .tc .vmem S512x512 .fp8e4m3} (hr : r.IsWhole) (x : FVec Ideal S512x512 .fp8e4m3) (inb) :
    View.readAt (Elt Ideal) r.view (Rect.unit ![0, 0] S512x512.size inb).toLoadRect (hr.unread x) = x := by
  rw [View.readAt_eq_ld, hr.read_unread, View.ld_unit_zero (S := S512x512) KVal.hz2]
theorem sk_ld {r : Memref sig .tc .vmem S1x512 .f32} (hr : r.IsWhole) (x : FVec Ideal S1x512 .f32) (inb) :
    View.readAt (Elt Ideal) r.view (Rect.unit ![0, 0] S1x512.size inb).toLoadRect (hr.unread x) = x := by
  rw [View.readAt_eq_ld, hr.read_unread, View.ld_unit_zero (S := S1x512) KVal.hz2]
theorem wqv_ld {r : Memref sig .tc .vmem S1024x512 .fp8e4m3} (hr : r.IsWhole) (x : FVec Ideal S1024x512 .fp8e4m3) (inb) :
    View.readAt (Elt Ideal) r.view (Rect.unit ![0, 0] S1024x512.size inb).toLoadRect (hr.unread x) = x := by
  rw [View.readAt_eq_ld, hr.read_unread, View.ld_unit_zero (S := S1024x512) KVal.hz2]
theorem sqv_ld {r : Memref sig .tc .vmem S1024x128 .f32} (hr : r.IsWhole) (x : FVec Ideal S1024x128 .f32) (inb) :
    View.readAt (Elt Ideal) r.view (Rect.unit ![0, 0] S1024x128.size inb).toLoadRect (hr.unread x) = x := by
  rw [View.readAt_eq_ld, hr.read_unread, View.ld_unit_zero (S := S1024x128) KVal.hz2]

/-- The key projection at an index. -/
theorem pay61_at (a : Vec Ideal S512x512 .bf16) (w : Vec Ideal S512x512 .fp8e4m3) (s : Vec Ideal S1x512 .f32) (i ch : Fin 512) :
    k0_pay61 a w s (ix3 0 i ch) = (∑ x : Fin 512, a (ix2 i x) * w (ix2 x ch)) * s (ix2 0 ch) := by
  pointwise [k0_pay61]

/-- The stacked query and value product at an index. -/
theorem pay62_at (w : Vec Ideal S1024x512 .fp8e4m3) (a : Vec Ideal S512x512 .bf16) (r : Fin 1024) (n : Fin 512) :
    k0_pay62 w a (ix2 r n) = ∑ x : Fin 512, w (ix2 r x) * a (ix2 x n) := by
  pointwise [k0_pay62]

section
variable (P : FVec Ideal S1024x512 .f32) (w : Vec Ideal S1024x512 .fp8e4m3) (a : Vec Ideal S512x512 .bf16) (s b : Vec Ideal S1024x128 .f32)
  (ch : Fin 512) (n : Fin 128)

theorem q_0 : k0_pay64 w a s b (ix3 0 ch n)
    = k0_pay62 w a (ix2 ⟨ch.val, by omega⟩ ⟨n.val, by omega⟩) * s (ix2 ⟨ch.val, by omega⟩ n) + b (ix2 ⟨ch.val, by omega⟩ n) := by
  unfold k0_pay64 k0_pay63
  generalize k0_pay62 w a = P
  pointwise

theorem v_0 : k0_pay65 w a s b (ix3 0 ch n)
    = k0_pay62 w a (ix2 ⟨512 + ch.val, by omega⟩ ⟨n.val, by omega⟩) * s (ix2 ⟨512 + ch.val, by omega⟩ n) + b (ix2 ⟨512 + ch.val, by omega⟩ n) := by
  unfold k0_pay65 k0_pay63
  generalize k0_pay62 w a = P
  pointwise

theorem q_1 : k0_pay67 w a s b (ix3 0 ch n)
    = k0_pay62 w a (ix2 ⟨ch.val, by omega⟩ ⟨128 + n.val, by omega⟩) * s (ix2 ⟨ch.val, by omega⟩ n) + b (ix2 ⟨ch.val, by omega⟩ n) := by
  unfold k0_pay67 k0_pay66
  generalize k0_pay62 w a = P
  pointwise

theorem v_1 : k0_pay69 (k0_pay68 w a s b) (ix3 0 ch n)
    = k0_pay62 w a (ix2 ⟨512 + ch.val, by omega⟩ ⟨128 + n.val, by omega⟩) * s (ix2 ⟨512 + ch.val, by omega⟩ n) + b (ix2 ⟨512 + ch.val, by omega⟩ n) := by
  unfold k0_pay69 k0_pay68 k0_pay66
  generalize k0_pay62 w a = P
  pointwise

theorem q_2 : k0_pay71 P s b (ix3 0 ch n)
    = P (ix2 ⟨ch.val, by omega⟩ ⟨256 + n.val, by omega⟩) * s (ix2 ⟨ch.val, by omega⟩ n) + b (ix2 ⟨ch.val, by omega⟩ n) := by
  unfold k0_pay71 k0_pay70
  pointwise

theorem v_2 : k0_pay72 P s b (ix3 0 ch n)
    = P (ix2 ⟨512 + ch.val, by omega⟩ ⟨256 + n.val, by omega⟩) * s (ix2 ⟨512 + ch.val, by omega⟩ n) + b (ix2 ⟨512 + ch.val, by omega⟩ n) := by
  unfold k0_pay72 k0_pay70
  pointwise

theorem q_3 : k0_pay74 P s b (ix3 0 ch n)
    = P (ix2 ⟨ch.val, by omega⟩ ⟨384 + n.val, by omega⟩) * s (ix2 ⟨ch.val, by omega⟩ n) + b (ix2 ⟨ch.val, by omega⟩ n) := by
  unfold k0_pay74 k0_pay73
  pointwise

theorem v_3 : k0_pay1 (k0_pay75 P s b) (ix3 0 ch n)
    = P (ix2 ⟨512 + ch.val, by omega⟩ ⟨384 + n.val, by omega⟩) * s (ix2 ⟨512 + ch.val, by omega⟩ n) + b (ix2 ⟨512 + ch.val, by omega⟩ n) := by
  unfold k0_pay1 k0_pay75 k0_pay73
  pointwise

end

end Cert.PVal

end
-- ==== Proof.POut.lean ====
/-
  WHAT THE PROJECTIONS' BODY LEAVES in each of its five output blocks, at an index: the quantiser of `Quant` and the three
  projections over the block's normalised values.
-/
module

public import proofs.«01_k».proof.Proof.PBlock

@[expose] public section

set_option maxRecDepth 16384

noncomputable section

namespace Cert.PVal

open Cert.ProjectionsIdeal Cert.ProjectionsIdeal.Gen Idealize.ShloMosaic Idealize.ShloMosaic.TcCoe Idealize.SL.Sem

variable (c : Dev nD) (gi : grid0.Coords)
  (arg2 : Memref sig .tc .vmem S1x512x512 .bf16) (harg2 : arg2.IsWhole)
  (arg3 : Memref sig .tc .vmem S1x512x128 .f32) (harg3 : arg3.IsWhole)
  (arg4 : Memref sig .tc .vmem S1x512x128 .f32) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S1024x512 .fp8e4m3) (harg7 : arg7.IsWhole)
  (arg8 : Memref sig .tc .vmem S512x512 .fp8e4m3) (harg8 : arg8.IsWhole)
  (arg9 : Memref sig .tc .vmem S1024x128 .f32) (harg9 : arg9.IsWhole)
  (arg10 : Memref sig .tc .vmem S1024x128 .f32) (harg10 : arg10.IsWhole)
  (arg11 : Memref sig .tc .vmem S1x512 .f32) (harg11 : arg11.IsWhole)
  (arg12 : Memref sig .tc .vmem S1x512x512 .fp8e4m3) (harg12 : arg12.IsWhole)
  (arg13 : Memref sig .tc .vmem S1x16x512 .f32) (harg13 : arg13.IsWhole)
  (arg14 : Memref sig .tc .vmem S1x512x512 .bf16) (harg14 : arg14.IsWhole)
  (arg15 : Memref sig .tc .vmem S1x512x512 .bf16) (harg15 : arg15.IsWhole)
  (arg16 : Memref sig .tc .vmem S1x512x512 .bf16) (harg16 : arg16.IsWhole)
  (arg17 : Memref sig .tc .vmem S512x512 .bf16) (harg17 : arg17.IsWhole)
  (arg18 : Memref sig .tc .vmem S512x512 .bf16) (harg18 : arg18.IsWhole)
  (x0 : Vec Ideal S1x512x512 .bf16)
  (x1 : Vec Ideal S1x512x128 .f32)
  (x2 : Vec Ideal S1x512x128 .f32)
  (x3 : Vec Ideal S512x128 .f32)
  (x4 : Vec Ideal S512x128 .f32)
  (x5 : Vec Ideal S1024x512 .fp8e4m3)
  (x6 : Vec Ideal S512x512 .fp8e4m3)
  (x7 : Vec Ideal S1024x128 .f32)
  (x8 : Vec Ideal S1024x128 .f32)
  (x9 : Vec Ideal S1x512 .f32)
  (H : Fin 512 → Fin 512 → ℝ)
  (hH : ∀ (n ch : Fin 512) (l : Fin 128), (x0 (ix3 0 n ch) - x1 (ix3 0 ch l)) * x2 (ix3 0 ch l) * x3 (ix2 ch l) + x4 (ix2 ch l)
    = ((H n ch : ℝ) : EReal))
  (hB : ∀ n ch, |H n ch| ≤ (2 : ℝ) ^ (128 : ℤ))
  (sf bf : Fin 1024 → EReal) (hs : ∀ (r : Fin 1024) (l : Fin 128), x7 (ix2 r l) = sf r) (hb : ∀ (r : Fin 1024) (l : Fin 128), x8 (ix2 r l) = bf r)

include hH hB

/-- The block of codes. -/
theorem out10_at (i ch : Fin 512) : out0_A_10 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 (ix3 0 i ch) = Quant.code (H i) ch := by
  unfold out0_A_10
  rw [View.read_writes_eq_canon _ _ _ (fun y => cover0_A_10 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 y)]
  unfold kernelRun0_A
  dsimp only
  exact KVal.codes4 _ _ _ _ _ _ _ _ (fun i ch => Quant.code (H i) ch)
    (fun n ch => (congrFun (code_0 c arg2 harg2 arg3 harg3 arg4 harg4 arg5 harg5 arg6 harg6 x0 x1 x2 x3 x4) (ix3 0 n ch)).trans (KVal.tile_code (T0 c arg2 harg2 arg3 harg3 arg4 harg4 arg5 harg5 arg6 harg6 x0 x1 x2 x3 x4) (fun n => H ⟨n.val, by omega⟩) (t0_at c arg2 harg2 arg3 harg3 arg4 harg4 arg5 harg5 arg6 harg6 x0 x1 x2 x3 x4 H hH) (fun _ _ => hB _ _) n ch))
    (fun n ch => (congrFun (code_1 c arg2 harg2 arg3 harg3 arg4 harg4 arg5 harg5 arg6 harg6 x0 x1 x2 x3 x4) (ix3 0 n ch)).trans (KVal.tile_code (T1 c arg2 harg2 arg3 harg3 arg4 harg4 arg5 harg5 arg6 harg6 x0 x1 x2 x3 x4) (fun n => H ⟨128 + n.val, by omega⟩) (t1_at c arg2 harg2 arg3 harg3 arg4 harg4 arg5 harg5 arg6 harg6 x0 x1 x2 x3 x4 H hH) (fun _ _ => hB _ _) n ch))
    (fun n ch => (congrFun (code_2 c arg2 harg2 arg3 harg3 arg4 harg4 arg5 harg5 arg6 harg6 x0 x1 x2 x3 x4) (ix3 0 n ch)).trans (KVal.tile_code (T2 c arg2 harg2 arg3 harg3 arg4 harg4 arg5 harg5 arg6 harg6 x0 x1 x2 x3 x4) (fun n => H ⟨256 + n.val, by omega⟩) (t2_at c arg2 harg2 arg3 harg3 arg4 harg4 arg5 harg5 arg6 harg6 x0 x1 x2 x3 x4 H hH) (fun _ _ => hB _ _) n ch))
    (fun n ch => (congrFun (code_3 c arg2 harg2 arg3 harg3 arg4 harg4 arg5 harg5 arg6 harg6 x0 x1 x2 x3 x4) (ix3 0 n ch)).trans (KVal.tile_code (T3 c arg2 harg2 arg3 harg3 arg4 harg4 arg5 harg5 arg6 harg6 x0 x1 x2 x3 x4) (fun n => H ⟨384 + n.val, by omega⟩) (t3_at c arg2 harg2 arg3 harg3 arg4 harg4 arg5 harg5 arg6 harg6 x0 x1 x2 x3 x4 H hH) (fun _ _ => hB _ _) n ch)) i ch

/-- The block of scales. -/
theorem out11_at (g : Fin 16) (i : Fin 512) : out0_A_11 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 (ix3 0 g i) = Quant.qs (H i) g := by
  unfold out0_A_11
  rw [View.read_writes_eq_canon _ _ _ (fun y => cover0_A_11 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 y)]
  unfold kernelRun0_A
  dsimp only
  exact KVal.scales4 _ _ _ _ _ _ _ _ (fun i g => Quant.qs (H i) g)
    (fun g n => (congrFun (scale_0 c arg2 harg2 arg3 harg3 arg4 harg4 arg5 harg5 arg6 harg6 x0 x1 x2 x3 x4) (ix3 0 g n)).trans (KVal.tile_scale (T0 c arg2 harg2 arg3 harg3 arg4 harg4 arg5 harg5 arg6 harg6 x0 x1 x2 x3 x4) (fun n => H ⟨n.val, by omega⟩) (t0_at c arg2 harg2 arg3 harg3 arg4 harg4 arg5 harg5 arg6 harg6 x0 x1 x2 x3 x4 H hH) (fun _ _ => hB _ _) g n))
    (fun g n => (congrFun (scale_1 c arg2 harg2 arg3 harg3 arg4 harg4 arg5 harg5 arg6 harg6 x0 x1 x2 x3 x4) (ix3 0 g n)).trans (KVal.tile_scale (T1 c arg2 harg2 arg3 harg3 arg4 harg4 arg5 harg5 arg6 harg6 x0 x1 x2 x3 x4) (fun n => H ⟨128 + n.val, by omega⟩) (t1_at c arg2 harg2 arg3 harg3 arg4 harg4 arg5 harg5 arg6 harg6 x0 x1 x2 x3 x4 H hH) (fun _ _ => hB _ _) g n))
    (fun g n => (congrFun (scale_2 c arg2 harg2 arg3 harg3 arg4 harg4 arg5 harg5 arg6 harg6 x0 x1 x2 x3 x4) (ix3 0 g n)).trans (KVal.tile_scale (T2 c arg2 harg2 arg3 harg3 arg4 harg4 arg5 harg5 arg6 harg6 x0 x1 x2 x3 x4) (fun n => H ⟨256 + n.val, by omega⟩) (t2_at c arg2 harg2 arg3 harg3 arg4 harg4 arg5 harg5 arg6 harg6 x0 x1 x2 x3 x4 H hH) (fun _ _ => hB _ _) g n))
    (fun g n => (congrFun (scale_3 c arg2 harg2 arg3 harg3 arg4 harg4 arg5 harg5 arg6 harg6 x0 x1 x2 x3 x4) (ix3 0 g n)).trans (KVal.tile_scale (T3 c arg2 harg2 arg3 harg3 arg4 harg4 arg5 harg5 arg6 harg6 x0 x1 x2 x3 x4) (fun n => H ⟨384 + n.val, by omega⟩) (t3_at c arg2 harg2 arg3 harg3 arg4 harg4 arg5 harg5 arg6 harg6 x0 x1 x2 x3 x4 H hH) (fun _ _ => hB _ _) g n)) g i

/-- The decoded values that the key projection reads, by token. -/
theorem drow_at (i ch : Fin 512) : kernelRun0_A.sl.v564 c arg2 harg2 arg3 harg3 arg4 harg4 arg5 harg5 arg6 harg6 arg18 x0 x1 x2 x3 x4 (ix2 i ch) = Quant.deq (H i) ch := by
  unfold kernelRun0_A.sl.v564 kernelRun0_A.sl.HS1_4
  rw [readCov_rows]
  exact KVal.rows4 _ _ _ _ _ _ _ _ (fun i ch => Quant.deq (H i) ch)
    (fun n ch => (congrFun (row_0 c arg2 harg2 arg3 harg3 arg4 harg4 arg5 harg5 arg6 harg6 x0 x1 x2 x3 x4) (ix2 n ch)).trans (KVal.tile_wide (T0 c arg2 harg2 arg3 harg3 arg4 harg4 arg5 harg5 arg6 harg6 x0 x1 x2 x3 x4) (fun n => H ⟨n.val, by omega⟩) (t0_at c arg2 harg2 arg3 harg3 arg4 harg4 arg5 harg5 arg6 harg6 x0 x1 x2 x3 x4 H hH) (fun _ _ => hB _ _) n ch))
    (fun n ch => (congrFun (row_1 c arg2 harg2 arg3 harg3 arg4 harg4 arg5 harg5 arg6 harg6 x0 x1 x2 x3 x4) (ix2 n ch)).trans (KVal.tile_wide (T1 c arg2 harg2 arg3 harg3 arg4 harg4 arg5 harg5 arg6 harg6 x0 x1 x2 x3 x4) (fun n => H ⟨128 + n.val, by omega⟩) (t1_at c arg2 harg2 arg3 harg3 arg4 harg4 arg5 harg5 arg6 harg6 x0 x1 x2 x3 x4 H hH) (fun _ _ => hB _ _) n ch))
    (fun n ch => (congrFun (row_2 c arg2 harg2 arg3 harg3 arg4 harg4 arg5 harg5 arg6 harg6 x0 x1 x2 x3 x4) (ix2 n ch)).trans (KVal.tile_wide (T2 c arg2 harg2 arg3 harg3 arg4 harg4 arg5 harg5 arg6 harg6 x0 x1 x2 x3 x4) (fun n => H ⟨256 + n.val, by omega⟩) (t2_at c arg2 harg2 arg3 harg3 arg4 harg4 arg5 harg5 arg6 harg6 x0 x1 x2 x3 x4 H hH) (fun _ _ => hB _ _) n ch))
    (fun n ch => (congrFun (row_3 c arg2 harg2 arg3 harg3 arg4 harg4 arg5 harg5 arg6 harg6 x0 x1 x2 x3 x4) (ix2 n ch)).trans (KVal.tile_wide (T3 c arg2 harg2 arg3 harg3 arg4 harg4 arg5 harg5 arg6 harg6 x0 x1 x2 x3 x4) (fun n => H ⟨384 + n.val, by omega⟩) (t3_at c arg2 harg2 arg3 harg3 arg4 harg4 arg5 harg5 arg6 harg6 x0 x1 x2 x3 x4 H hH) (fun _ _ => hB _ _) n ch)) i ch

/-- The decoded values that the query and value projections read, by channel. -/
theorem dcol_at (ch i : Fin 512) : kernelRun0_A.sl.v579 c arg2 harg2 arg3 harg3 arg4 harg4 arg5 harg5 arg6 harg6 arg17 x0 x1 x2 x3 x4 (ix2 ch i) = Quant.deq (H i) ch := by
  unfold kernelRun0_A.sl.v579 kernelRun0_A.sl.HS0_4
  rw [readCov_cols]
  exact cols4 _ _ _ _ _ _ _ _ (fun i ch => Quant.deq (H i) ch)
    (fun ch n => (col_0 c arg2 harg2 arg3 harg3 arg4 harg4 arg5 harg5 arg6 harg6 x0 x1 x2 x3 x4 ch n).trans (KVal.tile_wide (T0 c arg2 harg2 arg3 harg3 arg4 harg4 arg5 harg5 arg6 harg6 x0 x1 x2 x3 x4) (fun n => H ⟨n.val, by omega⟩) (t0_at c arg2 harg2 arg3 harg3 arg4 harg4 arg5 harg5 arg6 harg6 x0 x1 x2 x3 x4 H hH) (fun _ _ => hB _ _) n ch))
    (fun ch n => (col_1 c arg2 harg2 arg3 harg3 arg4 harg4 arg5 harg5 arg6 harg6 x0 x1 x2 x3 x4 ch n).trans (KVal.tile_wide (T1 c arg2 harg2 arg3 harg3 arg4 harg4 arg5 harg5 arg6 harg6 x0 x1 x2 x3 x4) (fun n => H ⟨128 + n.val, by omega⟩) (t1_at c arg2 harg2 arg3 harg3 arg4 harg4 arg5 harg5 arg6 harg6 x0 x1 x2 x3 x4 H hH) (fun _ _ => hB _ _) n ch))
    (fun ch n => (col_2 c arg2 harg2 arg3 harg3 arg4 harg4 arg5 harg5 arg6 harg6 x0 x1 x2 x3 x4 ch n).trans (KVal.tile_wide (T2 c arg2 harg2 arg3 harg3 arg4 harg4 arg5 harg5 arg6 harg6 x0 x1 x2 x3 x4) (fun n => H ⟨256 + n.val, by omega⟩) (t2_at c arg2 harg2 arg3 harg3 arg4 harg4 arg5 harg5 arg6 harg6 x0 x1 x2 x3 x4 H hH) (fun _ _ => hB _ _) n ch))
    (fun ch n => (col_3 c arg2 harg2 arg3 harg3 arg4 harg4 arg5 harg5 arg6 harg6 x0 x1 x2 x3 x4 ch n).trans (KVal.tile_wide (T3 c arg2 harg2 arg3 harg3 arg4 harg4 arg5 harg5 arg6 harg6 x0 x1 x2 x3 x4) (fun n => H ⟨384 + n.val, by omega⟩) (t3_at c arg2 harg2 arg3 harg3 arg4 harg4 arg5 harg5 arg6 harg6 x0 x1 x2 x3 x4 H hH) (fun _ _ => hB _ _) n ch)) ch i

/-- The product of the stacked weights with the decoded values. -/
theorem prod_at (r : Fin 1024) (i : Fin 512) : kernelRun0_A.sl.r_32 c arg2 harg2 arg3 harg3 arg4 harg4 arg5 harg5 arg6 harg6 arg7 harg7 arg17 x0 x1 x2 x3 x4 x5 (ix2 r i) = ∑ x, Quant.deq (H i) x * x5 (ix2 r x) := by
  refine (pay62_at _ _ r i).trans (Finset.sum_congr rfl fun x _ => ?_)
  rw [wqv_ld harg7 x5, dcol_at c arg2 harg2 arg3 harg3 arg4 harg4 arg5 harg5 arg6 harg6 arg17 x0 x1 x2 x3 x4 H hH hB, mul_comm]

include hs hb in
/-- A row of the product, scaled and shifted, is a projection. -/
theorem fin_at (r : Fin 1024) (i : Fin 512) (l : Fin 128) (inb inb') : kernelRun0_A.sl.r_32 c arg2 harg2 arg3 harg3 arg4 harg4 arg5 harg5 arg6 harg6 arg7 harg7 arg17 x0 x1 x2 x3 x4 x5 (ix2 r i)
      * View.readAt (Elt Ideal) arg9.view (Rect.unit ![0, 0] S1024x128.size inb).toLoadRect (harg9.unread x7) (ix2 r l)
      + View.readAt (Elt Ideal) arg10.view (Rect.unit ![0, 0] S1024x128.size inb').toLoadRect (harg10.unread x8) (ix2 r l)
    = Quant.proj (H i) (fun x => x5 (ix2 r x)) (sf r) (bf r) := by
  rw [prod_at c arg2 harg2 arg3 harg3 arg4 harg4 arg5 harg5 arg6 harg6 arg7 harg7 arg17 x0 x1 x2 x3 x4 x5 H hH hB, sqv_ld harg9 x7, sqv_ld harg10 x8, hs, hb]
  rfl

include hs hb in
/-- The block of queries. -/
theorem out12_at (ch i : Fin 512) : out0_A_12 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 (ix3 0 ch i)
    = Quant.proj (H i) (fun x => x5 (ix2 ⟨ch.val, by omega⟩ x)) (sf ⟨ch.val, by omega⟩) (bf ⟨ch.val, by omega⟩) := by
  unfold out0_A_12
  rw [View.read_writes_eq_canon _ _ _ (fun y => cover0_A_12 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 y)]
  unfold kernelRun0_A
  dsimp only
  exact quads4 _ _ _ _ _ _ _ _ (fun i ch => Quant.proj (H i) (fun x => x5 (ix2 ⟨ch.val, by omega⟩ x)) (sf ⟨ch.val, by omega⟩) (bf ⟨ch.val, by omega⟩))
    (fun ch n => (q_0 _ _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨ch.val, by omega⟩ ⟨n.val, by omega⟩ n _ _))
    (fun ch n => (q_1 _ _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨ch.val, by omega⟩ ⟨128 + n.val, by omega⟩ n _ _))
    (fun ch n => (q_2 _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨ch.val, by omega⟩ ⟨256 + n.val, by omega⟩ n _ _))
    (fun ch n => (q_3 _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨ch.val, by omega⟩ ⟨384 + n.val, by omega⟩ n _ _)) ch i

include hs hb in
/-- The block of values. -/
theorem out14_at (ch i : Fin 512) : out0_A_14 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 (ix3 0 ch i)
    = Quant.proj (H i) (fun x => x5 (ix2 ⟨512 + ch.val, by omega⟩ x)) (sf ⟨512 + ch.val, by omega⟩) (bf ⟨512 + ch.val, by omega⟩) := by
  unfold out0_A_14
  rw [View.read_writes_eq_canon _ _ _ (fun y => cover0_A_14 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 y)]
  unfold kernelRun0_A
  dsimp only
  exact quads4 _ _ _ _ _ _ _ _ (fun i ch => Quant.proj (H i) (fun x => x5 (ix2 ⟨512 + ch.val, by omega⟩ x)) (sf ⟨512 + ch.val, by omega⟩) (bf ⟨512 + ch.val, by omega⟩))
    (fun ch n => (v_0 _ _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨512 + ch.val, by omega⟩ ⟨n.val, by omega⟩ n _ _))
    (fun ch n => (v_1 _ _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨512 + ch.val, by omega⟩ ⟨128 + n.val, by omega⟩ n _ _))
    (fun ch n => (v_2 _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨512 + ch.val, by omega⟩ ⟨256 + n.val, by omega⟩ n _ _))
    (fun ch n => (v_3 _ _ _ ch n).trans (fin_at c arg2 harg2 arg3 harg3 arg4 harg4 arg5 harg5 arg6 harg6 arg7 harg7 arg9 harg9 arg10 harg10 arg17 x0 x1 x2 x3 x4 x5 x7 x8 H hH hB sf bf hs hb ⟨512 + ch.val, by omega⟩ ⟨384 + n.val, by omega⟩ n _ _)) ch i

/-- The block of keys. -/
theorem out13_at (i ch : Fin 512) : out0_A_13 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 (ix3 0 i ch)
    = (∑ x, Quant.deq (H i) x * x6 (ix2 x ch)) * x9 (ix2 0 ch) := by
  unfold out0_A_13
  rw [View.read_writes_eq_canon _ _ _ (fun y => cover0_A_13 c gi arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 y)]
  unfold kernelRun0_A
  dsimp only
  rw [View.canon_unit_zero (S := S1x512x512) KVal.hz3]
  refine (pay61_at _ _ _ i ch).trans ?_
  rw [wk_ld harg8 x6, sk_ld harg11 x9]
  simp only [drow_at c arg2 harg2 arg3 harg3 arg4 harg4 arg5 harg5 arg6 harg6 arg18 x0 x1 x2 x3 x4 H hH hB]

end Cert.PVal

end
-- ==== Proof.PRef.lean ====
/-
  THE REFERENCE OF THE PROJECTIONS AT AN INDEX, over the extended reals: at a normalised input of real numbers its five results
  are the quantiser of `Quant` and the three projections of the decoded values.
-/
module

public import proofs.«01_k».proof.Proof.Gen.ProjectionsReferenceIdeal.Value
public import proofs.«01_k».proof.Proof.RefPoint
public import proofs.«01_k».proof.Proof.Quant

@[expose] public section

set_option maxRecDepth 16384

noncomputable section

namespace Cert.PRef

open Cert.ProjectionsReferenceIdeal Cert.ProjectionsReferenceIdeal.Gen Idealize.ShloMosaic Idealize.SL.Sem
open Cert.RefVal (rat)

/-- The group of 16 channels that a channel is normalised with. -/
def grp (c : Fin 512) : Fin 32 := ⟨c.val / 16, by omega⟩

/-- The normalised input: the input less its group's mean, times the group's reciprocal deviation, times gamma, plus beta. -/
def hval (a0 : Vec Ideal S6x12288x512 .bf16) (a1 a2 : Vec Ideal S6x32 .f32) (a3 a4 : Vec Ideal S512 .f32)
    (b : Fin 6) (i : Fin 12288) (c : Fin 512) : EReal :=
  (a0 (ix3 b i c) - a1 (ix2 b (grp c))) * a2 (ix2 b (grp c)) * a3 (ix1 c) + a4 (ix1 c)

theorem named_ln2 : (Named.named κ "ln2" 0x3F317218#32 : Ideal .f32) = ((Real.log 2 : ℝ) : EReal) := rfl

/-- The exponent of a group, from its ratio. -/
def expo {s : Shape} (r : FVec Ideal s .f32) : FVec Ideal s .f32 :=
  select (cmpf .olt r (broadcast s (Scalar.ofBits .f32 0x00800000#32))) (broadcast s (Scalar.ofBits .f32 0x00000000#32))
    (addf (floor (divf (log r) (broadcast s (Named.named κ "ln2" 0x3F317218#32)))) (broadcast s (Scalar.ofBits .f32 0x3F800000#32)))

theorem expo_at {s : Shape} (r : FVec Ideal s .f32) (i : s.Idx) :
    expo r i = Scale.rexpo ((Real.log 2 : ℝ) : EReal) (r i) := by
  rw [← named_ln2]
  unfold Scale.rexpo expo
  pointwise

variable (a0 : Vec Ideal S6x12288x512 .bf16) (a1 a2 : Vec Ideal S6x32 .f32) (a3 a4 : Vec Ideal S512 .f32)
  (a5 a6 a7 : Vec Ideal S512x512 .fp8e4m3) (a8 a9 a10 a11 a12 : Vec Ideal S512 .f32)

theorem pay3_read (b : Fin 6) (i : Fin 12288) (g : Fin 16) (e : Fin 32) :
    k0_pay3 a0 a1 a2 a3 a4 (ix4 b i g e) = hval a0 a1 a2 a3 a4 b i (Quant.ch g e) := by
  have e1 : ((g.val * 32 + e.val) / 16 * 16 + (g.val * 32 + e.val) % 16) = g.val * 32 + e.val := Nat.div_add_mod' _ _
  unfold hval grp Quant.ch
  pointwise [k0_pay3]
  simp only [e1]

theorem pay4_eq : k0_pay4 a0 a1 a2 a3 a4 = expo (rat (k0_pay3 a0 a1 a2 a3 a4)) := rfl
theorem pay5_eq : k0_pay5 a0 a1 a2 a3 a4 = exp2 (k0_pay4 a0 a1 a2 a3 a4) := rfl

theorem pay5_at (b : Fin 6) (i : Fin 12288) (g : Fin 16) : k0_pay5 a0 a1 a2 a3 a4 (ix3 b i g)
    = Ideal.exp2 (Scale.rexpo ((Real.log 2 : ℝ) : EReal) (rat (k0_pay3 a0 a1 a2 a3 a4) (ix3 b i g))) := by
  rw [pay5_eq, pay4_eq, RefVal.exp2_read, expo_at]

theorem pay6_eq : k0_pay6 a0 a1 a2 a3 a4 = mulf (k0_pay3 a0 a1 a2 a3 a4)
    (broadcastTo S6x12288x16x32 (shapeCast S6x12288x16x1 (exp2 (subf (broadcast S6x12288x16 (Scalar.ofBits .f32 0x00000000#32))
      (k0_pay4 a0 a1 a2 a3 a4))) shapeCasts_S6x12288x16_S6x12288x16x1) broadcasts_S6x12288x16x1_S6x12288x16x32) := rfl

theorem spread_at (x : FVec Ideal S6x12288x16x32 .f32) (y : FVec Ideal S6x12288x16 .f32) (b : Fin 6) (i : Fin 12288) (g : Fin 16) (e : Fin 32) :
    mulf x (broadcastTo S6x12288x16x32 (shapeCast S6x12288x16x1 y shapeCasts_S6x12288x16_S6x12288x16x1)
      broadcasts_S6x12288x16x1_S6x12288x16x32) (ix4 b i g e) = x (ix4 b i g e) * y (ix3 b i g) := by
  pointwise

theorem opp_at (y : FVec Ideal S6x12288x16 .f32) (b : Fin 6) (i : Fin 12288) (g : Fin 16) :
    subf (broadcast S6x12288x16 (Scalar.ofBits .f32 0x00000000#32)) y (ix3 b i g) = 0 - y (ix3 b i g) := by
  pointwise

theorem pay6_read (b : Fin 6) (i : Fin 12288) (g : Fin 16) (e : Fin 32) : k0_pay6 a0 a1 a2 a3 a4 (ix4 b i g e)
    = k0_pay3 a0 a1 a2 a3 a4 (ix4 b i g e) * Ideal.exp2 (0 - k0_pay4 a0 a1 a2 a3 a4 (ix3 b i g)) := by
  rw [pay6_eq, spread_at, RefVal.exp2_read, opp_at]

theorem pay6_at (b : Fin 6) (i : Fin 12288) (g : Fin 16) (e : Fin 32) : k0_pay6 a0 a1 a2 a3 a4 (ix4 b i g e)
    = k0_pay3 a0 a1 a2 a3 a4 (ix4 b i g e)
      * Ideal.exp2 (0 - Scale.rexpo ((Real.log 2 : ℝ) : EReal) (rat (k0_pay3 a0 a1 a2 a3 a4) (ix3 b i g))) := by
  rw [pay6_read, pay4_eq, expo_at]

/-- The clip bounds. -/
def lo : Ideal .f32 := Scalar.ofBits .f32 0xC3E00000#32
def hi : Ideal .f32 := Scalar.ofBits .f32 0x43E00000#32

variable (s : FVec Ideal S6x12288x16 .f32) (o : FVec Ideal S6x12288x16x32 .f32)

theorem pay10_at (b : Fin 6) (i : Fin 12288) (c : Fin 512) : k0_pay10 o lo hi (ix3 b i c)
    = Quant.clip (o (ix4 b i ⟨c.val / 32, by omega⟩ ⟨c.val % 32, by omega⟩)) := by
  unfold Quant.clip
  pointwise [k0_pay10, k0_pay7, lo, hi]

theorem pay11_at (b : Fin 6) (g : Fin 16) (i : Fin 12288) : k0_pay11 s (ix3 b g i) = s (ix3 b i g) := by
  pointwise [k0_pay11]

theorem pay8_at (b : Fin 6) (i : Fin 12288) (c : Fin 512) : k0_pay8 s o lo hi (ix3 b i c)
    = Quant.clip (o (ix4 b i ⟨c.val / 32, by omega⟩ ⟨c.val % 32, by omega⟩)) * s (ix3 b i ⟨c.val / 32, by omega⟩) := by
  unfold Quant.clip
  pointwise [k0_pay8, k0_pay7, lo, hi]

theorem pay1_at (w : FVec Ideal S6x12288x512 .bf16) (b : Fin 6) (i : Fin 12288) (c : Fin 512) : k0_pay1 w a6 a9 (ix3 b i c)
    = (∑ x : Fin 512, w (ix3 b i x) * a6 (ix2 x c)) * a9 (ix1 c) := by
  pointwise [k0_pay1]

theorem pay12_at (b : Fin 6) (c : Fin 512) (i : Fin 12288) : k0_pay12 s o lo hi a5 a8 a11 (ix3 b c i)
    = (∑ x : Fin 512, k0_pay8 s o lo hi (ix3 b i x) * a5 (ix2 x c)) * a8 (ix1 c) + a11 (ix1 c) := by
  unfold k0_pay12
  generalize k0_pay8 s o lo hi = w
  pointwise

theorem pay29_at (b : Fin 6) (c : Fin 512) (i : Fin 12288) : k0_pay2 (k0_pay9 s o lo hi a7 a10 a12) (ix3 b c i)
    = (∑ x : Fin 512, k0_pay8 s o lo hi (ix3 b i x) * a7 (ix2 x c)) * a10 (ix1 c) + a12 (ix1 c) := by
  unfold k0_pay2 k0_pay9
  generalize k0_pay8 s o lo hi = w
  pointwise

theorem z3 : (![0, 0, 0] : Fin 3 → ℕ) = fun _ => 0 := by decide
theorem z2 : (![0, 0] : Fin 2 → ℕ) = fun _ => 0 := by decide
theorem z1 : (![0] : Fin 1 → ℕ) = fun _ => 0 := by decide

theorem pay13_eq : k0_pay13 a0 a1 a2 a3 a4 a5 a6 a7 a8 a9 a10 a11 a12 = k0_pay5 a0 a1 a2 a3 a4 := by
  unfold k0_pay13
  rw [View.ld_unit_zero (S := S6x12288x512) z3 _ a0, View.ld_unit_zero (S := S6x32) z2 _ a1, View.ld_unit_zero (S := S6x32) z2 _ a2,
    View.ld_unit_zero (S := S512) z1 _ a3, View.ld_unit_zero (S := S512) z1 _ a4]
theorem pay14_eq : k0_pay14 a0 a1 a2 a3 a4 a5 a6 a7 a8 a9 a10 a11 a12 = k0_pay6 a0 a1 a2 a3 a4 := by
  unfold k0_pay14
  rw [View.ld_unit_zero (S := S6x12288x512) z3 _ a0, View.ld_unit_zero (S := S6x32) z2 _ a1, View.ld_unit_zero (S := S6x32) z2 _ a2,
    View.ld_unit_zero (S := S512) z1 _ a3, View.ld_unit_zero (S := S512) z1 _ a4]

variable (h : Fin 6 → Fin 12288 → Fin 512 → ℝ) (hh : ∀ b i c, hval a0 a1 a2 a3 a4 b i c = ((h b i c : ℝ) : EReal))
include hh

theorem ratio_at (b : Fin 6) (i : Fin 12288) (g : Fin 16) :
    rat (k0_pay3 a0 a1 a2 a3 a4) (ix3 b i g) = Quant.ratio (h b i) g := by
  rw [RefVal.rat_at]
  simp only [pay3_read, hh]
  rfl

theorem qs_at (b : Fin 6) (i : Fin 12288) (g : Fin 16) : k0_pay5 a0 a1 a2 a3 a4 (ix3 b i g) = Quant.qs (h b i) g := by
  rw [pay5_at, ratio_at a0 a1 a2 a3 a4 h hh]
  rfl

theorem code_at (b : Fin 6) (i : Fin 12288) (c : Fin 512) :
    Quant.clip (k0_pay6 a0 a1 a2 a3 a4 (ix4 b i ⟨c.val / 32, by omega⟩ ⟨c.val % 32, by omega⟩)) = Quant.code (h b i) c := by
  rw [pay6_at, ratio_at a0 a1 a2 a3 a4 h hh, pay3_read, hh]
  have e : Quant.ch ⟨c.val / 32, by omega⟩ ⟨c.val % 32, by omega⟩ = c := Fin.ext (by show c.val / 32 * 32 + c.val % 32 = c.val; omega)
  rw [e]
  rfl

theorem deq_at (b : Fin 6) (i : Fin 12288) (c : Fin 512) :
    k0_pay8 (k0_pay5 a0 a1 a2 a3 a4) (k0_pay6 a0 a1 a2 a3 a4) lo hi (ix3 b i c) = Quant.deq (h b i) c := by
  rw [pay8_at, code_at a0 a1 a2 a3 a4 h hh, qs_at a0 a1 a2 a3 a4 h hh]
  rfl

/-- The codes. -/
theorem G13_at (b : Fin 6) (i : Fin 12288) (c : Fin 512) :
    Value.G13 a0 a1 a2 a3 a4 a5 a6 a7 a8 a9 a10 a11 a12 (ix3 b i c) = Quant.code (h b i) c := by
  unfold Value.G13
  rw [pay14_eq]
  exact (pay10_at _ b i c).trans (code_at a0 a1 a2 a3 a4 h hh b i c)

/-- The scales. -/
theorem G14_at (b : Fin 6) (g : Fin 16) (i : Fin 12288) :
    Value.G14 a0 a1 a2 a3 a4 a5 a6 a7 a8 a9 a10 a11 a12 (ix3 b g i) = Quant.qs (h b i) g := by
  unfold Value.G14
  rw [pay13_eq, pay11_at, qs_at a0 a1 a2 a3 a4 h hh]

/-- The queries. -/
theorem G15_at (b : Fin 6) (c : Fin 512) (i : Fin 12288) :
    Value.G15 a0 a1 a2 a3 a4 a5 a6 a7 a8 a9 a10 a11 a12 (ix3 b c i)
      = Quant.proj (h b i) (fun x => a5 (ix2 x c)) (a8 (ix1 c)) (a11 (ix1 c)) := by
  unfold Value.G15
  rw [pay13_eq, pay14_eq]
  refine (pay12_at _ _ _ _ _ b c i).trans ?_
  simp only [deq_at a0 a1 a2 a3 a4 h hh]
  rfl

/-- The keys. -/
theorem G16_at (b : Fin 6) (i : Fin 12288) (c : Fin 512) :
    Value.G16 a0 a1 a2 a3 a4 a5 a6 a7 a8 a9 a10 a11 a12 (ix3 b i c)
      = (∑ x, Quant.deq (h b i) x * a6 (ix2 x c)) * a9 (ix1 c) := by
  unfold Value.G16
  rw [pay13_eq, pay14_eq, pay1_at]
  have e (x : Fin 512) := deq_at a0 a1 a2 a3 a4 h hh b i x
  unfold lo hi at e
  simp only [e]

/-- The values. -/
theorem G17_at (b : Fin 6) (c : Fin 512) (i : Fin 12288) :
    Value.G17 a0 a1 a2 a3 a4 a5 a6 a7 a8 a9 a10 a11 a12 (ix3 b c i)
      = Quant.proj (h b i) (fun x => a7 (ix2 x c)) (a10 (ix1 c)) (a12 (ix1 c)) := by
  unfold Value.G17
  rw [pay13_eq, pay14_eq]
  refine (pay29_at _ _ _ _ _ b c i).trans ?_
  simp only [deq_at a0 a1 a2 a3 a4 h hh]
  rfl

end Cert.PRef

end
-- ==== Proof.PArray.lean ====
/-
  THE FIVE RESULT ARRAYS OF THE PROJECTION CALL at a real normalised input: every grid point writes its block of the reference's
  array, and the blocks cover it.
-/
module

public import proofs.«01_k».proof.Proof.POut
public import proofs.«01_k».proof.Proof.PRef
public import proofs.«01_k».proof.Proof.Gen.ProjectionsIdeal.Value
public import Idealize.ShloMosaic.Lib.Pipeline.ValueKit
public import Idealize.ShloMosaic.Lib.Claim

@[expose] public section

set_option maxRecDepth 16384

noncomputable section

namespace Cert.PArr

open Cert.ProjectionsIdeal Cert.ProjectionsIdeal.Gen Idealize.ShloMosaic Idealize.ShloMosaic.TcCoe Idealize.SL.Sem

variable (m : (ℓ : Loc nD τ sig) → Buf (Elt Ideal) ℓ) (c : Dev nD)

/-- The batch of a grid point, and the token at place `i` of its tile. -/
def bt (t : Fin cfg0.N) : Fin 6 := ⟨(grid0.coords t 0).val, (grid0.coords t 0).isLt⟩
def qt (t : Fin cfg0.N) (i : Fin 512) : Fin 12288 :=
  ⟨(grid0.coords t 1).val * 512 + i.val, by have : (grid0.coords t 1).val < 24 := (grid0.coords t 1).isLt; omega⟩

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![(grid0.coords t 0).val, (grid0.coords t 1).val, 0]
    ∧ win0_11.index t = ![(grid0.coords t 0).val, 0, (grid0.coords t 1).val]
    ∧ win0_12.index t = ![(grid0.coords t 0).val, 0, (grid0.coords t 1).val]
    ∧ win0_13.index t = ![(grid0.coords t 0).val, (grid0.coords t 1).val, 0]
    ∧ win0_14.index t = ![(grid0.coords t 0).val, 0, (grid0.coords t 1).val] :=
  (by decide +kernel : ∀ t : Fin grid0.N, _)

/-- The blocks of the input, of the per-channel columns and of the weights at a grid point. -/
theorem blk0 (t : Fin cfg0.N) (i ch : Fin 512) :
    (iblk m c 0 t : Vec Ideal S1x512x512 .bf16) (ix3 0 i ch) = m ((c : Thread nD τ).loc main_arg0) (ix3 (bt t) (qt t i) ch) := by
  blk_ext [iblk, V, idx t, bt, qt]
theorem blk6 (t : Fin cfg0.N) (x d : Fin 512) :
    (iblk m c 6 t : Vec Ideal S512x512 .fp8e4m3) (ix2 x d) = m ((c : Thread nD τ).loc main_arg6) (ix2 x d) := by
  blk_ext [iblk, V, idx t]
theorem blk9 (t : Fin cfg0.N) (d : Fin 512) :
    (iblk m c 9 t : Vec Ideal S1x512 .f32) (ix2 0 d) = m ((c : Thread nD τ).loc main_arg9) (ix1 d) := by
  blk_simp [iblk, idx t]
  entry_read
  pointwise
  blk_ext [idx t]
theorem blk3 (t : Fin cfg0.N) (ch : Fin 512) (l : Fin 128) :
    (iblk m c 3 t : Vec Ideal S512x128 .f32) (ix2 ch l) = m ((c : Thread nD τ).loc main_arg3) (ix1 ch) := by
  blk_simp [iblk, idx t]
  entry_read
  pointwise
  blk_ext [idx t]
theorem blk4 (t : Fin cfg0.N) (ch : Fin 512) (l : Fin 128) :
    (iblk m c 4 t : Vec Ideal S512x128 .f32) (ix2 ch l) = m ((c : Thread nD τ).loc main_arg4) (ix1 ch) := by
  blk_simp [iblk, idx t]
  entry_read
  pointwise
  blk_ext [idx t]
theorem blk1 (t : Fin cfg0.N) (ch : Fin 512) (l : Fin 128) :
    (iblk m c 1 t : Vec Ideal S1x512x128 .f32) (ix3 0 ch l) = m ((c : Thread nD τ).loc main_arg1) (ix2 (bt t) (PRef.grp ch)) := by
  blk_simp [iblk, idx t]
  entry_read
  pointwise
  blk_ext [idx t, bt, PRef.grp]
theorem blk2 (t : Fin cfg0.N) (ch : Fin 512) (l : Fin 128) :
    (iblk m c 2 t : Vec Ideal S1x512x128 .f32) (ix3 0 ch l) = m ((c : Thread nD τ).loc main_arg2) (ix2 (bt t) (PRef.grp ch)) := by
  blk_simp [iblk, idx t]
  entry_read
  pointwise
  blk_ext [idx t, bt, PRef.grp]
theorem blk5q (t : Fin cfg0.N) (r x : Fin 512) :
    (iblk m c 5 t : Vec Ideal S1024x512 .fp8e4m3) (ix2 ⟨r.val, by omega⟩ x) = m ((c : Thread nD τ).loc main_arg5) (ix2 x r) := by
  blk_simp [iblk, idx t]
  entry_read
  pointwise
  blk_simp [idx t]
  refine (dif_pos r.isLt).trans ?_
  blk_ext [idx t]
theorem blk5v (t : Fin cfg0.N) (r x : Fin 512) :
    (iblk m c 5 t : Vec Ideal S1024x512 .fp8e4m3) (ix2 ⟨512 + r.val, by omega⟩ x) = m ((c : Thread nD τ).loc main_arg7) (ix2 x r) := by
  blk_simp [iblk, idx t]
  entry_read
  pointwise
  blk_simp [idx t]
  refine (dif_neg (show ¬ (512 + r.val < 512) by omega)).trans ?_
  blk_ext [idx t]
theorem blk7q (t : Fin cfg0.N) (r : Fin 512) (x : Fin 128) :
    (iblk m c 7 t : Vec Ideal S1024x128 .f32) (ix2 ⟨r.val, by omega⟩ x) = m ((c : Thread nD τ).loc main_arg8) (ix1 r) := by
  blk_simp [iblk, idx t]
  entry_read
  pointwise
  blk_simp [idx t]
  refine (dif_pos r.isLt).trans ?_
  blk_ext [idx t]
theorem blk7v (t : Fin cfg0.N) (r : Fin 512) (x : Fin 128) :
    (iblk m c 7 t : Vec Ideal S1024x128 .f32) (ix2 ⟨512 + r.val, by omega⟩ x) = m ((c : Thread nD τ).loc main_arg10) (ix1 r) := by
  blk_simp [iblk, idx t]
  entry_read
  pointwise
  blk_simp [idx t]
  refine (dif_neg (show ¬ (512 + r.val < 512) by omega)).trans ?_
  blk_ext [idx t]
theorem blk8q (t : Fin cfg0.N) (r : Fin 512) (x : Fin 128) :
    (iblk m c 8 t : Vec Ideal S1024x128 .f32) (ix2 ⟨r.val, by omega⟩ x) = m ((c : Thread nD τ).loc main_arg11) (ix1 r) := by
  blk_simp [iblk, idx t]
  entry_read
  pointwise
  blk_simp [idx t]
  refine (dif_pos r.isLt).trans ?_
  blk_ext [idx t]
theorem blk8v (t : Fin cfg0.N) (r : Fin 512) (x : Fin 128) :
    (iblk m c 8 t : Vec Ideal S1024x128 .f32) (ix2 ⟨512 + r.val, by omega⟩ x) = m ((c : Thread nD τ).loc main_arg12) (ix1 r) := by
  blk_simp [iblk, idx t]
  entry_read
  pointwise
  blk_simp [idx t]
  refine (dif_neg (show ¬ (512 + r.val < 512) by omega)).trans ?_
  blk_ext [idx t]

/-- The rows of the two per-row columns: they are the same in every lane. -/
theorem blk7c (t : Fin cfg0.N) (r : Fin 1024) (l : Fin 128) :
    (iblk m c 7 t : Vec Ideal S1024x128 .f32) (ix2 r l) = (iblk m c 7 t : Vec Ideal S1024x128 .f32) (ix2 r 0) := by
  by_cases h : r.val < 512
  · exact (blk7q m c t ⟨r.val, h⟩ l).trans (blk7q m c t ⟨r.val, h⟩ 0).symm
  · have e : r = ⟨512 + (r.val - 512), by omega⟩ := Fin.ext (by show r.val = 512 + (r.val - 512); omega)
    rw [e]
    exact (blk7v m c t ⟨r.val - 512, by omega⟩ l).trans (blk7v m c t ⟨r.val - 512, by omega⟩ 0).symm
theorem blk8c (t : Fin cfg0.N) (r : Fin 1024) (l : Fin 128) :
    (iblk m c 8 t : Vec Ideal S1024x128 .f32) (ix2 r l) = (iblk m c 8 t : Vec Ideal S1024x128 .f32) (ix2 r 0) := by
  by_cases h : r.val < 512
  · exact (blk8q m c t ⟨r.val, h⟩ l).trans (blk8q m c t ⟨r.val, h⟩ 0).symm
  · have e : r = ⟨512 + (r.val - 512), by omega⟩ := Fin.ext (by show r.val = 512 + (r.val - 512); omega)
    rw [e]
    exact (blk8v m c t ⟨r.val - 512, by omega⟩ l).trans (blk8v m c t ⟨r.val - 512, by omega⟩ 0).symm

variable (h : Fin 6 → Fin 12288 → Fin 512 → ℝ)
  (hh : ∀ b i d, PRef.hval (m ((c : Thread nD τ).loc main_arg0)) (m ((c : Thread nD τ).loc main_arg1)) (m ((c : Thread nD τ).loc main_arg2)) (m ((c : Thread nD τ).loc main_arg3)) (m ((c : Thread nD τ).loc main_arg4)) b i d = ((h b i d : ℝ) : EReal))
  (hb : ∀ b i d, |h b i d| ≤ (2 : ℝ) ^ (128 : ℤ))

/-- The normalised input of a grid point's tile. -/
def hblk (t : Fin cfg0.N) : Fin 512 → Fin 512 → ℝ := fun n d => h (bt t) (qt t n) d

include hh in
theorem hblk_eq (t : Fin cfg0.N) (x0 : Vec Ideal S1x512x512 .bf16) (x1 x2 : Vec Ideal S1x512x128 .f32) (x3 x4 : Vec Ideal S512x128 .f32)
    (e0 : ∀ n ch, x0 (ix3 0 n ch) = m ((c : Thread nD τ).loc main_arg0) (ix3 (bt t) (qt t n) ch))
    (e1 : ∀ ch l, x1 (ix3 0 ch l) = m ((c : Thread nD τ).loc main_arg1) (ix2 (bt t) (PRef.grp ch)))
    (e2 : ∀ ch l, x2 (ix3 0 ch l) = m ((c : Thread nD τ).loc main_arg2) (ix2 (bt t) (PRef.grp ch)))
    (e3 : ∀ ch l, x3 (ix2 ch l) = m ((c : Thread nD τ).loc main_arg3) (ix1 ch))
    (e4 : ∀ ch l, x4 (ix2 ch l) = m ((c : Thread nD τ).loc main_arg4) (ix1 ch))
    (n ch : Fin 512) (l : Fin 128) :
    (x0 (ix3 0 n ch) - x1 (ix3 0 ch l)) * x2 (ix3 0 ch l) * x3 (ix2 ch l) + x4 (ix2 ch l) = ((hblk h t n ch : ℝ) : EReal) := by
  rw [e0, e1, e2, e3, e4]
  exact hh (bt t) (qt t n) ch

include hh hb

omit hh hb in
theorem outs10 (t : Fin cfg0.N) : (outsAt0 m c t).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
  simp only [outsAt0]

/-- What a grid point leaves in the block of the codes of the normalised input. -/
theorem point10 (t : Fin cfg0.N) (i d : Fin 512) :
    (outsAt0 m c t).1 (ix3 0 i d)
      = Cert.ProjectionsReferenceIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (qt t i) d) := by
  rw [outs10]
  refine (PVal.out10_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (hblk h t) (hblk_eq m c h hh t _ _ _ _ _ (blk0 m c t) (blk1 m c t) (blk2 m c t) (blk3 m c t) (blk4 m c t)) (fun n ch => hb _ _ _) i d).trans ?_
  refine Eq.trans ?_ (PRef.G13_at _ _ _ _ _ _ _ _ _ _ _ _ _ h hh (bt t) (qt t i) d).symm
  rfl

theorem block10 (t : Fin cfg0.N) (y : S1x512x512.Idx) :
    (outsAt0 m c t).1 y = Cert.ProjectionsReferenceIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (qt t (y 1)) (y 2)) := by
  have hy : y = ix3 0 (y 1) (y 2) := by blk_ext
  exact (congrArg (outsAt0 m c t).1 hy).trans (point10 m c h hh hb t (y 1) (y 2))

/-- The array of the codes of the normalised input after the run. -/
theorem final10 : (dats m 0 c).arrAt 10 cfg0.N = Cert.ProjectionsReferenceIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 10 _ (by decide +kernel) fun t hf y => ?_
  blk_simp
  rw [after0_10]
  have e : (((cfg0.win 10).blk t).view.emb y) = ix3 (bt t) (qt t (y 1)) (y 2) := by
    blk_ext [idx t, bt, qt]
  exact (block10 m c h hh hb t y).trans (congrArg (Cert.ProjectionsReferenceIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e.symm)

omit hh hb in
theorem outs11 (t : Fin cfg0.N) : (outsAt0 m c t).2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
  simp only [outsAt0]

/-- What a grid point leaves in the block of the scales of the normalised input. -/
theorem point11 (t : Fin cfg0.N) (g : Fin 16) (i : Fin 512) :
    (outsAt0 m c t).2.1 (ix3 0 g i)
      = Cert.ProjectionsReferenceIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) g (qt t i)) := by
  rw [outs11]
  refine (PVal.out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (hblk h t) (hblk_eq m c h hh t _ _ _ _ _ (blk0 m c t) (blk1 m c t) (blk2 m c t) (blk3 m c t) (blk4 m c t)) (fun n ch => hb _ _ _) g i).trans ?_
  refine Eq.trans ?_ (PRef.G14_at _ _ _ _ _ _ _ _ _ _ _ _ _ h hh (bt t) g (qt t i)).symm
  rfl

theorem block11 (t : Fin cfg0.N) (y : S1x16x512.Idx) :
    (outsAt0 m c t).2.1 y = Cert.ProjectionsReferenceIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (y 1) (qt t (y 2))) := by
  have hy : y = ix3 0 (y 1) (y 2) := by blk_ext
  exact (congrArg (outsAt0 m c t).2.1 hy).trans (point11 m c h hh hb t (y 1) (y 2))

/-- The array of the scales of the normalised input after the run. -/
theorem final11 : (dats m 0 c).arrAt 11 cfg0.N = Cert.ProjectionsReferenceIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 11 _ (by decide +kernel) fun t hf y => ?_
  blk_simp
  rw [after0_11]
  have e : (((cfg0.win 11).blk t).view.emb y) = ix3 (bt t) (y 1) (qt t (y 2)) := by
    blk_ext [idx t, bt, qt]
  exact (block11 m c h hh hb t y).trans (congrArg (Cert.ProjectionsReferenceIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e.symm)

omit hh hb in
theorem outs12 (t : Fin cfg0.N) : (outsAt0 m c t).2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
  simp only [outsAt0]

/-- What a grid point leaves in the block of the queries. -/
theorem point12 (t : Fin cfg0.N) (g i : Fin 512) :
    (outsAt0 m c t).2.2.1 (ix3 0 g i)
      = Cert.ProjectionsReferenceIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) g (qt t i)) := by
  rw [outs12]
  refine (PVal.out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (hblk h t) (hblk_eq m c h hh t _ _ _ _ _ (blk0 m c t) (blk1 m c t) (blk2 m c t) (blk3 m c t) (blk4 m c t)) (fun n ch => hb _ _ _) (fun r => (iblk m c 7 t : Vec Ideal S1024x128 .f32) (ix2 r 0)) (fun r => (iblk m c 8 t : Vec Ideal S1024x128 .f32) (ix2 r 0)) (blk7c m c t) (blk8c m c t) g i).trans ?_
  refine Eq.trans ?_ (PRef.G15_at _ _ _ _ _ _ _ _ _ _ _ _ _ h hh (bt t) g (qt t i)).symm
  simp only [blk5q, blk7q, blk8q]
  rfl

theorem block12 (t : Fin cfg0.N) (y : S1x512x512.Idx) :
    (outsAt0 m c t).2.2.1 y = Cert.ProjectionsReferenceIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (y 1) (qt t (y 2))) := by
  have hy : y = ix3 0 (y 1) (y 2) := by blk_ext
  exact (congrArg (outsAt0 m c t).2.2.1 hy).trans (point12 m c h hh hb t (y 1) (y 2))

/-- The array of the queries after the run. -/
theorem final12 : (dats m 0 c).arrAt 12 cfg0.N = Cert.ProjectionsReferenceIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 12 _ (by decide +kernel) fun t hf y => ?_
  blk_simp
  rw [after0_12]
  have e : (((cfg0.win 12).blk t).view.emb y) = ix3 (bt t) (y 1) (qt t (y 2)) := by
    blk_ext [idx t, bt, qt]
  exact (block12 m c h hh hb t y).trans (congrArg (Cert.ProjectionsReferenceIdeal.Value.G15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e.symm)

omit hh hb in
theorem outs13 (t : Fin cfg0.N) : (outsAt0 m c t).2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
  simp only [outsAt0]

/-- What a grid point leaves in the block of the keys. -/
theorem point13 (t : Fin cfg0.N) (i d : Fin 512) :
    (outsAt0 m c t).2.2.2.1 (ix3 0 i d)
      = Cert.ProjectionsReferenceIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (qt t i) d) := by
  rw [outs13]
  refine (PVal.out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (hblk h t) (hblk_eq m c h hh t _ _ _ _ _ (blk0 m c t) (blk1 m c t) (blk2 m c t) (blk3 m c t) (blk4 m c t)) (fun n ch => hb _ _ _) i d).trans ?_
  refine Eq.trans ?_ (PRef.G16_at _ _ _ _ _ _ _ _ _ _ _ _ _ h hh (bt t) (qt t i) d).symm
  simp only [blk6, blk9]
  rfl

theorem block13 (t : Fin cfg0.N) (y : S1x512x512.Idx) :
    (outsAt0 m c t).2.2.2.1 y = Cert.ProjectionsReferenceIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (qt t (y 1)) (y 2)) := by
  have hy : y = ix3 0 (y 1) (y 2) := by blk_ext
  exact (congrArg (outsAt0 m c t).2.2.2.1 hy).trans (point13 m c h hh hb t (y 1) (y 2))

/-- The array of the keys after the run. -/
theorem final13 : (dats m 0 c).arrAt 13 cfg0.N = Cert.ProjectionsReferenceIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  blk_simp
  rw [after0_13]
  have e : (((cfg0.win 13).blk t).view.emb y) = ix3 (bt t) (qt t (y 1)) (y 2) := by
    blk_ext [idx t, bt, qt]
  exact (block13 m c h hh hb t y).trans (congrArg (Cert.ProjectionsReferenceIdeal.Value.G16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e.symm)

omit hh hb in
theorem outs14 (t : Fin cfg0.N) : (outsAt0 m c t).2.2.2.2 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) := by
  simp only [outsAt0]

/-- What a grid point leaves in the block of the values. -/
theorem point14 (t : Fin cfg0.N) (g i : Fin 512) :
    (outsAt0 m c t).2.2.2.2 (ix3 0 g i)
      = Cert.ProjectionsReferenceIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) g (qt t i)) := by
  rw [outs14]
  refine (PVal.out14_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (hblk h t) (hblk_eq m c h hh t _ _ _ _ _ (blk0 m c t) (blk1 m c t) (blk2 m c t) (blk3 m c t) (blk4 m c t)) (fun n ch => hb _ _ _) (fun r => (iblk m c 7 t : Vec Ideal S1024x128 .f32) (ix2 r 0)) (fun r => (iblk m c 8 t : Vec Ideal S1024x128 .f32) (ix2 r 0)) (blk7c m c t) (blk8c m c t) g i).trans ?_
  refine Eq.trans ?_ (PRef.G17_at _ _ _ _ _ _ _ _ _ _ _ _ _ h hh (bt t) g (qt t i)).symm
  simp only [blk5v, blk7v, blk8v]
  rfl

theorem block14 (t : Fin cfg0.N) (y : S1x512x512.Idx) :
    (outsAt0 m c t).2.2.2.2 y = Cert.ProjectionsReferenceIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bt t) (y 1) (qt t (y 2))) := by
  have hy : y = ix3 0 (y 1) (y 2) := by blk_ext
  exact (congrArg (outsAt0 m c t).2.2.2.2 hy).trans (point14 m c h hh hb t (y 1) (y 2))

/-- The array of the values after the run. -/
theorem final14 : (dats m 0 c).arrAt 14 cfg0.N = Cert.ProjectionsReferenceIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf y => ?_
  blk_simp
  rw [after0_14]
  have e : (((cfg0.win 14).blk t).view.emb y) = ix3 (bt t) (y 1) (qt t (y 2)) := by
    blk_ext [idx t, bt, qt]
  exact (block14 m c h hh hb t y).trans (congrArg (Cert.ProjectionsReferenceIdeal.Value.G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) e.symm)

end Cert.PArr

end
-- ==== Proof.PBounded.lean ====
/-
  WHAT THE PRECONDITION OF THE PROJECTION CALL SAYS over the extended reals: the normalised input is a real number of magnitude at
  most 2 ^ 128.
-/
module

public import proofs.«01_k».proof.Proof.Bounded
public import proofs.«01_k».proof.Proof.PRef
public import proofs.«01_k».proof.Proof.Gen.Pre_normal

@[expose] public section

set_option maxRecDepth 16384

noncomputable section

namespace Cert.PBounded

open Idealize.ShloMosaic

open Cert.Pre_normal in
theorem reals [Cert.Pre_normal.Facts] (a0 : FVec Ideal S6x12288x512 .bf16) (a1 a2 : FVec Ideal S6x32 .f32) (a3 a4 : FVec Ideal S512 .f32)
    (a5 a6 a7 : FVec Ideal S512x512 .fp8e4m3) (a8 a9 a10 a11 a12 : FVec Ideal S512 .f32)
    (h : Cert.Pre_normal.fn a0 a1 a2 a3 a4 a5 a6 a7 a8 a9 a10 a11 a12 = (fun _ => 1#1)) :
    ∃ h : Fin 6 → Fin 12288 → Fin 512 → ℝ, (∀ b i c, PRef.hval a0 a1 a2 a3 a4 b i c = ((h b i c : ℝ) : EReal))
      ∧ ∀ b i c, |h b i c| ≤ (2 : ℝ) ^ (128 : ℤ) := by
  have f (b : Fin 6) (i : Fin 12288) (d : Fin 512) :
      ∃ r : ℝ, PRef.hval a0 a1 a2 a3 a4 b i d = r ∧ |r| ≤ (16777215 : ℝ) * (2 : ℝ) ^ (104 : ℤ) := by
    refine Bounded.real_of_le _ _ ?_
    have e := Bounded.le_read _ _ h (ix3 b i d)
    rw [← Quant.maxf32]
    refine Eq.trans_le ?_ e
    refine congrArg (fun x : EReal => max x (-x)) ?_
    pointwise
    rfl
  choose g hg hb using f
  refine ⟨g, hg, fun b i d => (hb b i d).trans ?_⟩
  norm_num

end Cert.PBounded

end
-- ==== Proof.SPoint.lean ====
/-
  THE STATISTICS' BODY AT AN INDEX: what a trip of its two loops adds, the sum over the eight sublanes by rotations, the sum
  over a group's lanes, and the spread of a group's value over its channels.
-/
module

public import proofs.«01_k».proof.Proof.Gen.StatisticsIdeal.Skeleton
public import Idealize.ShloMosaic.Lib.Pipeline.ValueKit

@[expose] public section

set_option maxRecDepth 16384

noncomputable section

namespace Cert.SVal

open Cert.StatisticsIdeal Cert.StatisticsIdeal.Gen Idealize.ShloMosaic Idealize.ShloMosaic.TcCoe Idealize.SL.Sem

/-- A trip of the first loop adds eight rows to each sublane. -/
theorem pay7_at (a : FVec Ideal S8x512 .f32) (v : Vec Ideal S1x64x512 .bf16) (s : Fin 8) (ch : Fin 512) :
    k0_pay7 a v (ix2 s ch) = a (ix2 s ch) + v (ix3 0 ⟨s.val, by omega⟩ ch) + v (ix3 0 ⟨8 + s.val, by omega⟩ ch)
      + v (ix3 0 ⟨16 + s.val, by omega⟩ ch) + v (ix3 0 ⟨24 + s.val, by omega⟩ ch) + v (ix3 0 ⟨32 + s.val, by omega⟩ ch)
      + v (ix3 0 ⟨40 + s.val, by omega⟩ ch) + v (ix3 0 ⟨48 + s.val, by omega⟩ ch) + v (ix3 0 ⟨56 + s.val, by omega⟩ ch) := by
  pointwise [k0_pay7]

/-- A trip of the second loop adds the squares of eight rows. -/
theorem pay5_at (u : FVec Ideal S1x512 .f32) (a : FVec Ideal S8x512 .f32) (v : Vec Ideal S1x64x512 .bf16) (s : Fin 8) (ch : Fin 512) :
    k0_pay5 u a v (ix2 s ch) = k0_pay7 a (fun j => (v j - u (ix2 0 (j 2))) * (v j - u (ix2 0 (j 2)))) (ix2 s ch) := by
  rw [pay7_at]
  pointwise [k0_pay5]

/-- The place of a lane in the mask: lane `l` belongs to group `l / 16` of its eight. -/
theorem mask_at : ∀ (g : Fin 8) (l : Fin 128),
    k0_pay12 (iota .tc S8x128 32 [1] iota_S8x128_d1_w32) (iota .tc S8x128 32 [0] iota_S8x128_d0_w32) 16#32 k0_pay9 k0_pay10 k0_pay11 (ix2 g l)
      = if l.val / 16 = g.val then 1#1 else 0#1 := by
  decide +kernel

/-- Three sums of a sublane with the sublanes four, two and one before it add all eight. -/
theorem roll8 (f : Fin 8 → EReal) : ∀ s : Fin 8,
    f s + f ⟨(s.val + 8 - 4) % 8, Nat.mod_lt _ (by omega)⟩
      + (f ⟨(s.val + 8 - 2) % 8, Nat.mod_lt _ (by omega)⟩ + f ⟨((s.val + 8 - 2) % 8 + 8 - 4) % 8, Nat.mod_lt _ (by omega)⟩)
      + (f ⟨(s.val + 8 - 1) % 8, Nat.mod_lt _ (by omega)⟩ + f ⟨((s.val + 8 - 1) % 8 + 8 - 4) % 8, Nat.mod_lt _ (by omega)⟩
        + (f ⟨((s.val + 8 - 1) % 8 + 8 - 2) % 8, Nat.mod_lt _ (by omega)⟩
          + f ⟨(((s.val + 8 - 1) % 8 + 8 - 2) % 8 + 8 - 4) % 8, Nat.mod_lt _ (by omega)⟩))
    = ∑ t, f t := by
  intro s
  rw [Fin.sum_univ_eight]
  fin_cases s
  · show f 0 + f 4 + (f 6 + f 2) + (f 7 + f 3 + (f 5 + f 1)) = _; abel
  · show f 1 + f 5 + (f 7 + f 3) + (f 0 + f 4 + (f 6 + f 2)) = _; abel
  · show f 2 + f 6 + (f 0 + f 4) + (f 1 + f 5 + (f 7 + f 3)) = _; abel
  · show f 3 + f 7 + (f 1 + f 5) + (f 2 + f 6 + (f 0 + f 4)) = _; abel
  · show f 4 + f 0 + (f 2 + f 6) + (f 3 + f 7 + (f 1 + f 5)) = _; abel
  · show f 5 + f 1 + (f 3 + f 7) + (f 4 + f 0 + (f 2 + f 6)) = _; abel
  · show f 6 + f 2 + (f 4 + f 0) + (f 5 + f 1 + (f 3 + f 7)) = _; abel
  · show f 7 + f 3 + (f 5 + f 1) + (f 6 + f 2 + (f 4 + f 0)) = _; abel

/-- The three sums over the sublanes, added up. -/
theorem pay8_at (a b d : FVec Ideal S8x512 .f32) (s : Fin 8) (ch : Fin 512) :
    k0_pay8 a b d (ix2 s ch) = (∑ t : Fin 8, a (ix2 t ch)) + (∑ t : Fin 8, b (ix2 t ch)) + ∑ t : Fin 8, d (ix2 t ch) := by
  rw [← roll8 (fun t => a (ix2 t ch)) s, ← roll8 (fun t => b (ix2 t ch)) s, ← roll8 (fun t => d (ix2 t ch)) s]
  pointwise [k0_pay8]

/-- The sum of the lanes of a group. -/
theorem lanes (V : Fin 128 → EReal) (g : Fin 8) :
    (∑ l : Fin 128, if l.val / 16 = g.val then V l else 0) = ∑ j : Fin 16, V ⟨16 * g.val + j.val, by omega⟩ := by
  rw [← Equiv.sum_comp (finProdFinEquiv (m := 8) (n := 16)), Fintype.sum_prod_type, Finset.sum_eq_single g]
  · refine Finset.sum_congr rfl fun j _ => ?_
    have e : (finProdFinEquiv (m := 8) (n := 16) (g, j)) = (⟨16 * g.val + j.val, by omega⟩ : Fin 128) := by
      apply Fin.ext; simp [finProdFinEquiv]; omega
    rw [e, if_pos (by show (16 * g.val + j.val) / 16 = g.val; omega)]
  · intro g' _ hg
    refine Finset.sum_eq_zero fun j _ => if_neg ?_
    have : (finProdFinEquiv (m := 8) (n := 16) (g', j)).val = j.val + 16 * g'.val := rfl
    rw [this]; intro h; apply hg; apply Fin.ext; omega
  · intro h; exact absurd (Finset.mem_univ g) h

/-- A lane takes the value of its own group. -/
theorem spread (V : Fin 8 → EReal) (l : Fin 128) :
    (∑ g : Fin 8, if l.val / 16 = g.val then V g else 0) = V ⟨l.val / 16, by omega⟩ := by
  rw [Finset.sum_eq_single (⟨l.val / 16, by omega⟩ : Fin 8)]
  · exact if_pos rfl
  · intro g _ hg; refine if_neg fun h => hg (Fin.ext h.symm)
  · intro h; exact absurd (Finset.mem_univ _) h

theorem sel_at (p : Prop) [Decidable p] (a : EReal) : Scalar.select (if p then 1#1 else 0#1) a 0 = if p then a else 0 := by
  by_cases h : p
  · rw [if_pos h, if_pos h]; rfl
  · rw [if_neg h, if_neg h]; rfl

theorem named_inv : (Named.named κ "inv_n" 0x36AAAAAB#32 : Ideal .f32) = ((196608⁻¹ : ℝ) : EReal) := rfl

variable (M : IVec S8x128 1) (hM : ∀ (g : Fin 8) (l : Fin 128), M (ix2 g l) = if l.val / 16 = g.val then 1#1 else 0#1)

theorem pay19_at (hM : ∀ (g : Fin 8) (l : Fin 128), M (ix2 g l) = if l.val / 16 = g.val then 1#1 else 0#1) (v : FVec Ideal S8x1 .f32) (l : Fin 128) :
    k0_pay19 M v (ix2 0 l) = v (ix2 ⟨l.val / 16, by omega⟩ 0) := by
  refine Eq.trans ?_ (spread (fun g => v (ix2 g 0)) l)
  pointwise [k0_pay19]
  simp only [hM, sel_at]

/-- The mean of a group from the sums of its channels, channels 0 to 127. -/
theorem pay13_at (V23 V24 : IVec S8x128 32) (w : BitVec 32) (V26 V33 V39 : IVec S8x128 32) (hM : ∀ (g : Fin 8) (l : Fin 128), k0_pay12 V23 V24 w V26 V33 V39 (ix2 g l) = if l.val / 16 = g.val then 1#1 else 0#1)
    (v : FVec Ideal S8x512 .f32) (S : Fin 512 → EReal) (hv : ∀ (s : Fin 8) ch, v (ix2 s ch) = S ch) (g : Fin 8) :
    k0_pay13 v V23 V24 w V26 V33 V39 (ix2 g 0) = (∑ j : Fin 16, S ⟨16 * g.val + j.val, by omega⟩) * ((196608⁻¹ : ℝ) : EReal) := by
  rw [← lanes (fun l => S ⟨l.val, by omega⟩), ← named_inv]
  unfold k0_pay13
  generalize k0_pay12 V23 V24 w V26 V33 V39 = M at hM ⊢
  pointwise
  simp only [hM, hv, sel_at]

/-- The mean of a group from the sums of its channels, channels 128 to 255. -/
theorem pay16_at (V23 V24 : IVec S8x128 32) (w : BitVec 32) (V26 V33 V39 : IVec S8x128 32) (hM : ∀ (g : Fin 8) (l : Fin 128), k0_pay12 V23 V24 w V26 V33 V39 (ix2 g l) = if l.val / 16 = g.val then 1#1 else 0#1)
    (v : FVec Ideal S8x512 .f32) (S : Fin 512 → EReal) (hv : ∀ (s : Fin 8) ch, v (ix2 s ch) = S ch) (g : Fin 8) :
    k0_pay16 v V23 V24 w V26 V33 V39 (ix2 g 0) = (∑ j : Fin 16, S ⟨128 + (16 * g.val + j.val), by omega⟩) * ((196608⁻¹ : ℝ) : EReal) := by
  rw [← lanes (fun l => S ⟨128 + l.val, by omega⟩), ← named_inv]
  unfold k0_pay16
  generalize k0_pay12 V23 V24 w V26 V33 V39 = M at hM ⊢
  pointwise
  simp only [hM, hv, sel_at]

/-- The mean of a group from the sums of its channels, channels 256 to 383. -/
theorem pay20_at (hM : ∀ (g : Fin 8) (l : Fin 128), M (ix2 g l) = if l.val / 16 = g.val then 1#1 else 0#1)
    (v : FVec Ideal S8x512 .f32) (S : Fin 512 → EReal) (hv : ∀ (s : Fin 8) ch, v (ix2 s ch) = S ch) (g : Fin 8) :
    k0_pay20 v M (ix2 g 0) = (∑ j : Fin 16, S ⟨256 + (16 * g.val + j.val), by omega⟩) * ((196608⁻¹ : ℝ) : EReal) := by
  rw [← lanes (fun l => S ⟨256 + l.val, by omega⟩), ← named_inv]
  unfold k0_pay20
  pointwise
  simp only [hM, hv, sel_at]

/-- The mean of a group from the sums of its channels, channels 384 to 511. -/
theorem pay23_at (hM : ∀ (g : Fin 8) (l : Fin 128), M (ix2 g l) = if l.val / 16 = g.val then 1#1 else 0#1)
    (v : FVec Ideal S8x512 .f32) (S : Fin 512 → EReal) (hv : ∀ (s : Fin 8) ch, v (ix2 s ch) = S ch) (g : Fin 8) :
    k0_pay23 v M (ix2 g 0) = (∑ j : Fin 16, S ⟨384 + (16 * g.val + j.val), by omega⟩) * ((196608⁻¹ : ℝ) : EReal) := by
  rw [← lanes (fun l => S ⟨384 + l.val, by omega⟩), ← named_inv]
  unfold k0_pay23
  pointwise
  simp only [hM, hv, sel_at]

/-- A group's value fills its sixteen channels and all lanes. -/
theorem pay14_at (v : FVec Ideal S8x512 .f32) (V23 V24 : IVec S8x128 32) (w : BitVec 32) (V26 V33 V39 : IVec S8x128 32) (r l : Fin 128) :
    k0_pay14 v V23 V24 w V26 V33 V39 (ix3 0 r l) = k0_pay13 v V23 V24 w V26 V33 V39 (ix2 ⟨r.val / 16, by omega⟩ 0) := by
  unfold k0_pay14
  generalize k0_pay13 v V23 V24 w V26 V33 V39 = m
  pointwise

/-- The row of means, put together from four quarters. -/
theorem pay26_at (a b d : FVec Ideal S1x128 .f32) (e : FVec Ideal S8x1 .f32) (u : Fin 512 → EReal)
    (h0 : ∀ l : Fin 128, a (ix2 0 l) = u ⟨l.val, by omega⟩) (h1 : ∀ l : Fin 128, b (ix2 0 l) = u ⟨128 + l.val, by omega⟩)
    (h2 : ∀ l : Fin 128, d (ix2 0 l) = u ⟨256 + l.val, by omega⟩) (h3 : ∀ l : Fin 128, k0_pay19 M e (ix2 0 l) = u ⟨384 + l.val, by omega⟩)
    (ch : Fin 512) : k0_pay26 M a b d e (ix2 0 ch) = u ch := by
  show concatenate S1x512 1 [⟨S1x128, a⟩, ⟨S1x128, b⟩, ⟨S1x128, d⟩, ⟨S1x128, k0_pay19 M e⟩] concatenates_S1x128_S1x128_S1x128_S1x128_S1x512_d1 (ix2 0 ch) = u ch
  generalize k0_pay19 M e = f at h3 ⊢
  pointwise
  by_cases g0 : ch.val < 128
  · exact (dif_pos g0).trans ((h0 _).trans (congrArg u (Fin.ext rfl)))
  refine (dif_neg g0).trans ?_
  by_cases g1 : ch.val - 128 < 128
  · refine (dif_pos g1).trans ((h1 _).trans (congrArg u (Fin.ext ?_)))
    show 128 + (ch.val - 128) = ch.val; omega
  refine (dif_neg g1).trans ?_
  by_cases g2 : ch.val - 128 - 128 < 128
  · refine (dif_pos g2).trans ((h2 _).trans (congrArg u (Fin.ext ?_)))
    show 256 + (ch.val - 128 - 128) = ch.val; omega
  refine (dif_neg g2).trans ((h3 _).trans (congrArg u (Fin.ext ?_)))
  show 384 + (ch.val - 128 - 128 - 128) = ch.val; omega

/-- The second loop's mask is the same. -/
theorem mask2_at : ∀ (g : Fin 8) (l : Fin 128),
    k0_pay31 (iota .tc S8x128 32 [1] iota_S8x128_d1_w32) (iota .tc S8x128 32 [0] iota_S8x128_d0_w32) 16#32 k0_pay30 0#32 (ix2 g l)
      = if l.val / 16 = g.val then 1#1 else 0#1 := by
  decide +kernel

/-- The small constant added to the variance. -/
def eps : EReal := Ideal.ofBits .f32 0x358637BD#32

theorem pay18_at (v : FVec Ideal S8x512 .f32) (V23 V24 : IVec S8x128 32) (w : BitVec 32) (V26 V33 V39 : IVec S8x128 32) (r l : Fin 128) :
    k0_pay18 (k0_pay17 v V23 V24 w V26 V33 V39) (ix3 0 r l) = k0_pay16 v V23 V24 w V26 V33 V39 (ix2 ⟨r.val / 16, by omega⟩ 0) := by
  unfold k0_pay18 k0_pay17
  generalize k0_pay16 v V23 V24 w V26 V33 V39 = m
  pointwise
theorem pay21_at (v : FVec Ideal S8x512 .f32) (r l : Fin 128) :
    k0_pay21 v M (ix3 0 r l) = k0_pay20 v M (ix2 ⟨r.val / 16, by omega⟩ 0) := by
  unfold k0_pay21
  generalize k0_pay20 v M = m
  pointwise
theorem pay25_at (v : FVec Ideal S8x512 .f32) (r l : Fin 128) :
    k0_pay25 (k0_pay24 v M) (ix3 0 r l) = k0_pay23 v M (ix2 ⟨r.val / 16, by omega⟩ 0) := by
  unfold k0_pay25 k0_pay24
  generalize k0_pay23 v M = m
  pointwise

/-- The reciprocal deviation of a group, from its mean square. -/
def rs (x : EReal) : EReal := Ideal.rsqrt (x + eps)

theorem var0_at (V162 V163 : IVec S8x128 32) (w : BitVec 32) (V165 : IVec S8x128 32) (z : BitVec 32) (hM : ∀ (g : Fin 8) (l : Fin 128), (k0_pay31 V162 V163 w V165 z) (ix2 g l) = if l.val / 16 = g.val then 1#1 else 0#1)
    (v : FVec Ideal S8x512 .f32) (S : Fin 512 → EReal) (hv : ∀ (s : Fin 8) ch, v (ix2 s ch) = S ch) (r l : Fin 128) :
    k0_pay32 v V162 V163 w V165 z (ix3 0 r l) = rs ((∑ j : Fin 16, S ⟨16 * (r.val / 16) + j.val, by omega⟩) * ((196608⁻¹ : ℝ) : EReal)) := by
  have e := lanes (fun l => S ⟨l.val, by omega⟩) ⟨r.val / 16, by omega⟩
  dsimp only at e
  rw [← e, ← named_inv]
  unfold k0_pay32
  generalize k0_pay31 V162 V163 w V165 z = M at hM ⊢
  unfold rs eps
  pointwise
  simp only [hM, hv, sel_at]

theorem var1_at (V162 V163 : IVec S8x128 32) (w : BitVec 32) (V165 : IVec S8x128 32) (z : BitVec 32) (hM : ∀ (g : Fin 8) (l : Fin 128), (k0_pay31 V162 V163 w V165 z) (ix2 g l) = if l.val / 16 = g.val then 1#1 else 0#1)
    (v : FVec Ideal S8x512 .f32) (S : Fin 512 → EReal) (hv : ∀ (s : Fin 8) ch, v (ix2 s ch) = S ch) (r l : Fin 128) :
    k0_pay34 (k0_pay33 v V162 V163 w V165 z) (ix3 0 r l) = rs ((∑ j : Fin 16, S ⟨128 + (16 * (r.val / 16) + j.val), by omega⟩) * ((196608⁻¹ : ℝ) : EReal)) := by
  have e := lanes (fun l => S ⟨128 + l.val, by omega⟩) ⟨r.val / 16, by omega⟩
  dsimp only at e
  rw [← e, ← named_inv]
  unfold k0_pay34 k0_pay33
  generalize k0_pay31 V162 V163 w V165 z = M at hM ⊢
  unfold rs eps
  pointwise
  simp only [hM, hv, sel_at]

theorem var2_at (hM : ∀ (g : Fin 8) (l : Fin 128), M (ix2 g l) = if l.val / 16 = g.val then 1#1 else 0#1)
    (v : FVec Ideal S8x512 .f32) (S : Fin 512 → EReal) (hv : ∀ (s : Fin 8) ch, v (ix2 s ch) = S ch) (r l : Fin 128) :
    k0_pay35 v M (ix3 0 r l) = rs ((∑ j : Fin 16, S ⟨256 + (16 * (r.val / 16) + j.val), by omega⟩) * ((196608⁻¹ : ℝ) : EReal)) := by
  have e := lanes (fun l => S ⟨256 + l.val, by omega⟩) ⟨r.val / 16, by omega⟩
  dsimp only at e
  rw [← e, ← named_inv]
  unfold k0_pay35
  unfold rs eps
  pointwise
  simp only [hM, hv, sel_at]

theorem var3_at (hM : ∀ (g : Fin 8) (l : Fin 128), M (ix2 g l) = if l.val / 16 = g.val then 1#1 else 0#1)
    (v : FVec Ideal S8x512 .f32) (S : Fin 512 → EReal) (hv : ∀ (s : Fin 8) ch, v (ix2 s ch) = S ch) (r l : Fin 128) :
    k0_pay1 (k0_pay36 v M) (Scalar.ofBits .f32 0x358637BD#32) (ix3 0 r l) = rs ((∑ j : Fin 16, S ⟨384 + (16 * (r.val / 16) + j.val), by omega⟩) * ((196608⁻¹ : ℝ) : EReal)) := by
  have e := lanes (fun l => S ⟨384 + l.val, by omega⟩) ⟨r.val / 16, by omega⟩
  dsimp only at e
  rw [← e, ← named_inv]
  unfold k0_pay1 k0_pay36
  unfold rs eps
  pointwise
  simp only [hM, hv, sel_at]

end Cert.SVal

end
-- ==== Proof.SLoop.lean ====
/-
  THE TWO LOOPS OF THE STATISTICS' BODY: after its 64 trips each accumulator holds, in each of eight sublanes, the sum of
  every eighth row of its third of the block.
-/
module

public import proofs.«01_k».proof.Proof.SPoint
public import proofs.«01_k».proof.Proof.Gen.StatisticsIdeal.Frame

@[expose] public section

set_option maxRecDepth 16384

noncomputable section

namespace Cert.SVal

open Cert.StatisticsIdeal Cert.StatisticsIdeal.Gen Idealize.ShloMosaic Idealize.ShloMosaic.TcCoe Idealize.SL.Sem

/-- A sum over a product range, row by row. -/
theorem sum_mul (f : ℕ → EReal) (a b : ℕ) :
    ∑ n ∈ Finset.range (b * a), f n = ∑ i ∈ Finset.range a, ∑ j ∈ Finset.range b, f (b * i + j) := by
  induction a with
  | zero => simp
  | succ a ih => rw [Nat.mul_succ, Finset.sum_range_add, ih, Finset.sum_range_succ]

/-- The rows in the order of the accumulators: thirds, sublanes, trips, eighths. -/
theorem rows_sum (f : ℕ → EReal) :
    ((∑ t : Fin 8, ∑ i ∈ Finset.range 64, ∑ r ∈ Finset.range 8, f (4096 * 0 + 64 * i + (8 * r + t.val)))
      + (∑ t : Fin 8, ∑ i ∈ Finset.range 64, ∑ r ∈ Finset.range 8, f (4096 * 1 + 64 * i + (8 * r + t.val))))
      + (∑ t : Fin 8, ∑ i ∈ Finset.range 64, ∑ r ∈ Finset.range 8, f (4096 * 2 + 64 * i + (8 * r + t.val)))
    = ∑ n : Fin 12288, f n.val := by
  have third : ∀ w : ℕ, (∑ t : Fin 8, ∑ i ∈ Finset.range 64, ∑ r ∈ Finset.range 8, f (4096 * w + 64 * i + (8 * r + t.val)))
      = ∑ n ∈ Finset.range 4096, f (4096 * w + n) := by
    intro w
    rw [show 4096 = 64 * 64 from rfl, sum_mul (fun n => f (64 * 64 * w + n)) 64 64, Finset.sum_comm]
    refine Finset.sum_congr rfl fun i _ => ?_
    rw [show (64 : ℕ) = 8 * 8 from rfl, sum_mul (fun j => f (8 * 8 * (8 * 8) * w + (8 * 8 * i + j))) 8 8, Finset.sum_comm]
    refine Finset.sum_congr rfl fun r _ => ?_
    rw [Finset.sum_range]
    refine Finset.sum_congr rfl fun t _ => congrArg f ?_
    omega
  have thirds : ∀ h : ℕ → EReal, ∑ i ∈ Finset.range 3, h i = h 0 + h 1 + h 2 := fun h => by
    rw [Finset.sum_range_succ, Finset.sum_range_succ, Finset.sum_range_succ, Finset.sum_range_zero, zero_add]
  rw [third, third, third, ← Finset.sum_range (fun n => f n), show (12288 : ℕ) = 4096 * 3 from rfl, sum_mul f 3 4096, thirds]

/-- One trip's addition, as a sum over the eighths. -/
theorem add8 (a : FVec Ideal S8x512 .f32) (v : Vec Ideal S1x64x512 .bf16) (f : ℕ → EReal) (b : ℕ) (s : Fin 8) (ch : Fin 512)
    (h : ∀ r : Fin 64, v (ix3 0 r ch) = f (b + r.val)) :
    k0_pay7 a v (ix2 s ch) = a (ix2 s ch) + ∑ r ∈ Finset.range 8, f (b + (8 * r + s.val)) := by
  rw [pay7_at]
  simp only [h, Finset.sum_range_succ, Finset.sum_range_zero, zero_add, add_assoc, Nat.reduceMul, Nat.mul_zero, Nat.mul_one]

/-- A trip's rows of the block, in loop 1. -/
theorem rd1_at (arg1 : Memref sig .tc .vmem S1x12288x512 .bf16) (harg1 : arg1.IsWhole) (x0 : Vec Ideal S1x12288x512 .bf16)
    (k : Fin k0_t1_loop.trips) (w : Fin 3) (inb) (r : Fin 64) (ch : Fin 512) :
    (View.readAt (Elt Ideal) arg1.view (Rect.unit (s := S1x12288x512) (k0_off1 k (BitVec.ofNat 32 (4096 * w.val))) S1x64x512.size inb).toLoadRect (harg1.unread x0) : Vec Ideal S1x64x512 .bf16) (ix3 0 r ch)
      = x0 (ix3 0 ⟨4096 * w.val + 64 * k.val + r.val, by have := Nat.lt_of_lt_of_le k.isLt k0_t1_abs.2.1; omega⟩ ch) := by
  have e := k0_off1_eq k w
  rw [View.readAt_eq_ld, harg1.read_unread, View.ld_unit]
  refine congrArg x0 (funext fun a => Fin.ext ?_)
  have e' := congrFun e a
  fin_cases a
  · exact (congrArg (· + 0) e').trans rfl
  · exact congrArg (· + r.val) e'
  · exact (congrArg (· + ch.val) e').trans (Nat.zero_add _)

/-- A trip's rows of the block, in loop 2. -/
theorem rd2_at (arg1 : Memref sig .tc .vmem S1x12288x512 .bf16) (harg1 : arg1.IsWhole) (x0 : Vec Ideal S1x12288x512 .bf16)
    (k : Fin k0_t2_loop.trips) (w : Fin 3) (inb) (r : Fin 64) (ch : Fin 512) :
    (View.readAt (Elt Ideal) arg1.view (Rect.unit (s := S1x12288x512) (k0_off2 k (BitVec.ofNat 32 (4096 * w.val))) S1x64x512.size inb).toLoadRect (harg1.unread x0) : Vec Ideal S1x64x512 .bf16) (ix3 0 r ch)
      = x0 (ix3 0 ⟨4096 * w.val + 64 * k.val + r.val, by have := Nat.lt_of_lt_of_le k.isLt k0_t2_abs.2.1; omega⟩ ch) := by
  have e := k0_off2_eq k w
  rw [View.readAt_eq_ld, harg1.read_unread, View.ld_unit]
  refine congrArg x0 (funext fun a => Fin.ext ?_)
  have e' := congrFun e a
  fin_cases a
  · exact (congrArg (· + 0) e').trans rfl
  · exact congrArg (· + r.val) e'
  · exact (congrArg (· + ch.val) e').trans (Nat.zero_add _)

/-- The row of the block at a place, as a function of a natural number. -/
def row (x0 : Vec Ideal S1x12288x512 .bf16) (ch : Fin 512) (n : ℕ) : EReal := x0 (ix3 0 ⟨n % 12288, Nat.mod_lt _ (by omega)⟩ ch)

theorem row_at (x0 : Vec Ideal S1x12288x512 .bf16) (ch : Fin 512) (n : ℕ) (h : n < 12288) : x0 (ix3 0 ⟨n, h⟩ ch) = row x0 ch n :=
  congrArg x0 (congrArg (fun z => ix3 0 z ch) (Fin.ext (Nat.mod_eq_of_lt h).symm))

/-- What an accumulator holds after `k` trips. -/
def part (f : ℕ → EReal) (w : ℕ) (s : Fin 8) (k : ℕ) : EReal :=
  ∑ i ∈ Finset.range k, ∑ r ∈ Finset.range 8, f (4096 * w + 64 * i + (8 * r + s.val))

variable (c : Dev nD) (gi : grid0.Coords)
  (arg1 : Memref sig .tc .vmem S1x12288x512 .bf16) (harg1 : arg1.IsWhole)
  (arg2 : Memref sig .tc .vmem S1x512x128 .f32) (harg2 : arg2.IsWhole)
  (arg3 : Memref sig .tc .vmem S1x512x128 .f32) (harg3 : arg3.IsWhole)
  (x0 : Vec Ideal S1x12288x512 .bf16)

theorem pay6_at (s : Fin 8) (ch : Fin 512) : k0_pay6 (F := Ideal) (ix2 s ch) = 0 := by
  pointwise [k0_pay6]
theorem pay27_at (s : Fin 8) (ch : Fin 512) : k0_pay27 (F := Ideal) (ix2 s ch) = 0 := by
  pointwise [k0_pay27]

/-- The first loop's accumulators after `k` trips. -/
theorem acc1 (s : Fin 8) (ch : Fin 512) : ∀ k : ℕ, k ≤ k0_t1_loop.trips →
    (st_k0_t1 (F := Ideal) Variants.none c none gi arg1 harg1 arg2 harg2 arg3 harg3 (harg1.unread x0) (k0_pay6, k0_pay6, k0_pay6) k).1 (ix2 s ch) = part (row x0 ch) 0 s k
    ∧ (st_k0_t1 (F := Ideal) Variants.none c none gi arg1 harg1 arg2 harg2 arg3 harg3 (harg1.unread x0) (k0_pay6, k0_pay6, k0_pay6) k).2.1 (ix2 s ch) = part (row x0 ch) 1 s k
    ∧ (st_k0_t1 (F := Ideal) Variants.none c none gi arg1 harg1 arg2 harg2 arg3 harg3 (harg1.unread x0) (k0_pay6, k0_pay6, k0_pay6) k).2.2 (ix2 s ch) = part (row x0 ch) 2 s k := by
  intro k
  induction k with
  | zero =>
    intro _
    rw [st_k0_t1_zero]
    refine ⟨?_, ?_, ?_⟩ <;> exact (pay6_at s ch).trans (by simp [part])
  | succ k ih =>
    intro hk
    obtain ⟨i0, i1, i2⟩ := ih (by omega)
    rw [st_k0_t1_succ Variants.none c none gi arg1 harg1 arg2 harg2 arg3 harg3 (harg1.unread x0) _ ⟨k, hk⟩]
    unfold tripR_k0_t1 trip_k0_t1
    dsimp only
    have p : ∀ w : ℕ, part (row x0 ch) w s (k + 1) = part (row x0 ch) w s k + ∑ r ∈ Finset.range 8, row x0 ch (4096 * w + 64 * k + (8 * r + s.val)) :=
      fun w => Finset.sum_range_succ _ _
    rw [p, p, p, ← i0, ← i1, ← i2]
    refine ⟨?_, ?_, ?_⟩
    · exact add8 _ _ (row x0 ch) (4096 * 0 + 64 * k) s ch fun r => (rd1_at arg1 harg1 x0 ⟨k, hk⟩ 0 _ r ch).trans (row_at x0 ch _ _)
    · exact add8 _ _ (row x0 ch) (4096 * 1 + 64 * k) s ch fun r => (rd1_at arg1 harg1 x0 ⟨k, hk⟩ 1 _ r ch).trans (row_at x0 ch _ _)
    · exact add8 _ _ (row x0 ch) (4096 * 2 + 64 * k) s ch fun r => (rd1_at arg1 harg1 x0 ⟨k, hk⟩ 2 _ r ch).trans (row_at x0 ch _ _)

/-- The squared distance of a row from a value. -/
def sqd (x0 : Vec Ideal S1x12288x512 .bf16) (u : EReal) (ch : Fin 512) (n : ℕ) : EReal := (row x0 ch n - u) * (row x0 ch n - u)

/-- One trip's addition in the second loop. -/
theorem addsq (a : FVec Ideal S8x512 .f32) (v : Vec Ideal S1x64x512 .bf16) (U : FVec Ideal S1x512 .f32) (b : ℕ) (s : Fin 8) (ch : Fin 512)
    (h : ∀ r : Fin 64, v (ix3 0 r ch) = row x0 ch (b + r.val)) :
    k0_pay5 U a v (ix2 s ch) = a (ix2 s ch) + ∑ r ∈ Finset.range 8, sqd x0 (U (ix2 0 ch)) ch (b + (8 * r + s.val)) := by
  rw [pay5_at]
  refine add8 _ _ (sqd x0 (U (ix2 0 ch)) ch) b s ch fun r => ?_
  unfold sqd
  rw [← h r]
  rfl

variable (M : IVec S8x128 1) (v71 v93 v115 : FVec Ideal S1x128 .f32) (v122 : FVec Ideal S8x1 .f32) (v127 : FVec Ideal S8x16x128 .f32)

/-- The second loop's accumulators after `k` trips. -/
theorem acc2 (s : Fin 8) (ch : Fin 512) : ∀ k : ℕ, k ≤ k0_t2_loop.trips →
    (st_k0_t2 (F := Ideal) Variants.none c none gi arg1 harg1 arg2 harg2 arg3 harg3 M v71 v93 v115 v122 v127 (harg1.unread x0) (k0_pay27, k0_pay27, k0_pay27) k).1 (ix2 s ch) = part (sqd x0 (k0_pay26 M v71 v93 v115 v122 (ix2 0 ch)) ch) 0 s k
    ∧ (st_k0_t2 (F := Ideal) Variants.none c none gi arg1 harg1 arg2 harg2 arg3 harg3 M v71 v93 v115 v122 v127 (harg1.unread x0) (k0_pay27, k0_pay27, k0_pay27) k).2.1 (ix2 s ch) = part (sqd x0 (k0_pay26 M v71 v93 v115 v122 (ix2 0 ch)) ch) 1 s k
    ∧ (st_k0_t2 (F := Ideal) Variants.none c none gi arg1 harg1 arg2 harg2 arg3 harg3 M v71 v93 v115 v122 v127 (harg1.unread x0) (k0_pay27, k0_pay27, k0_pay27) k).2.2 (ix2 s ch) = part (sqd x0 (k0_pay26 M v71 v93 v115 v122 (ix2 0 ch)) ch) 2 s k := by
  intro k
  induction k with
  | zero =>
    intro _
    rw [st_k0_t2_zero]
    refine ⟨?_, ?_, ?_⟩ <;> exact (pay27_at s ch).trans (by simp [part])
  | succ k ih =>
    intro hk
    obtain ⟨i0, i1, i2⟩ := ih (by omega)
    rw [st_k0_t2_succ Variants.none c none gi arg1 harg1 arg2 harg2 arg3 harg3 M v71 v93 v115 v122 v127 (harg1.unread x0) _ ⟨k, hk⟩]
    unfold tripR_k0_t2 trip_k0_t2
    dsimp only
    have p : ∀ (f : ℕ → EReal) (w : ℕ), part f w s (k + 1) = part f w s k + ∑ r ∈ Finset.range 8, f (4096 * w + 64 * k + (8 * r + s.val)) :=
      fun f w => Finset.sum_range_succ _ _
    rw [p, p, p, ← i0, ← i1, ← i2]
    refine ⟨?_, ?_, ?_⟩
    · exact addsq x0 _ _ (k0_pay26 M v71 v93 v115 v122) (4096 * 0 + 64 * k) s ch fun r => (rd2_at arg1 harg1 x0 ⟨k, hk⟩ 0 _ r ch).trans (row_at x0 ch _ _)
    · exact addsq x0 _ _ (k0_pay26 M v71 v93 v115 v122) (4096 * 1 + 64 * k) s ch fun r => (rd2_at arg1 harg1 x0 ⟨k, hk⟩ 1 _ r ch).trans (row_at x0 ch _ _)
    · exact addsq x0 _ _ (k0_pay26 M v71 v93 v115 v122) (4096 * 2 + 64 * k) s ch fun r => (rd2_at arg1 harg1 x0 ⟨k, hk⟩ 2 _ r ch).trans (row_at x0 ch _ _)

theorem trips1 : Scf.trips k0_t1_loop.lb k0_t1_loop.ub k0_t1_loop.st = 64 := by decide +kernel
theorem trips2 : Scf.trips k0_t2_loop.lb k0_t2_loop.ub k0_t2_loop.st = 64 := by decide +kernel

end Cert.SVal

end
-- ==== Proof.SOut.lean ====
/-
  THE STATISTICS KERNEL'S OUTPUT BLOCKS at a grid point, index by index: the mean of the group of a channel, and the
  reciprocal deviation.
-/
module

public import proofs.«01_k».proof.Proof.SLoop
public import Idealize.ShloMosaic.Lib.Pipeline.ValueKit

@[expose] public section

set_option maxRecDepth 16384

noncomputable section

namespace Cert.SVal

open Cert.StatisticsIdeal Cert.StatisticsIdeal.Gen Idealize.ShloMosaic Idealize.ShloMosaic.TcCoe Idealize.SL.Sem

/-- Four stores of 128 rows leave a block that is one function of its index. -/
theorem rows4 (W0 W1 W2 W3 : FVec Ideal S1x128x128 .f32) (inb0 inb1 inb2 inb3) (f : Fin 512 → EReal)
    (h0 : ∀ r l : Fin 128, W0 (ix3 0 r l) = f ⟨r.val, by omega⟩)
    (h1 : ∀ r l : Fin 128, W1 (ix3 0 r l) = f ⟨128 + r.val, by omega⟩)
    (h2 : ∀ r l : Fin 128, W2 (ix3 0 r l) = f ⟨256 + r.val, by omega⟩)
    (h3 : ∀ r l : Fin 128, W3 (ix3 0 r l) = f ⟨384 + r.val, by omega⟩)
    (ch : Fin 512) (l : Fin 128) :
    View.canon ([⟨Rect.unit (s := S1x512x128) ![0, 384, 0] S1x128x128.size inb3, W3⟩, ⟨Rect.unit (s := S1x512x128) ![0, 256, 0] S1x128x128.size inb2, W2⟩, ⟨Rect.unit (s := S1x512x128) ![0, 128, 0] S1x128x128.size inb1, W1⟩, ⟨Rect.unit (s := S1x512x128) ![0, 0, 0] S1x128x128.size inb0, W0⟩]
      : List (View.Piece (Elt Ideal) S1x512x128 .f32)) (ix3 0 ch l) = f ch := by
  have hcover : ∀ y, ∃ p ∈ ([⟨Rect.unit (s := S1x512x128) ![0, 384, 0] S1x128x128.size inb3, W3⟩, ⟨Rect.unit (s := S1x512x128) ![0, 256, 0] S1x128x128.size inb2, W2⟩, ⟨Rect.unit (s := S1x512x128) ![0, 128, 0] S1x128x128.size inb1, W1⟩, ⟨Rect.unit (s := S1x512x128) ![0, 0, 0] S1x128x128.size inb0, W0⟩]
      : List (View.Piece (Elt Ideal) S1x512x128 .f32)), y ∈ p.1.set := View.cover_of_tiledL _ S1x128x128.size rfl
  canon_tiles x hx using hcover _
  · refine Eq.trans (congrArg W3 (?_ : x = ix3 0 (x 1) (x 2))) ((h3 (x 1) (x 2)).trans (congrArg f (Fin.ext ?_)))
    · funext a; apply Fin.ext; fin_cases a <;> first | rfl | (show (x 0 : ℕ) = 0; omega)
    · simp only [] at *; first | omega | (simp at *; omega)
  · refine Eq.trans (congrArg W2 (?_ : x = ix3 0 (x 1) (x 2))) ((h2 (x 1) (x 2)).trans (congrArg f (Fin.ext ?_)))
    · funext a; apply Fin.ext; fin_cases a <;> first | rfl | (show (x 0 : ℕ) = 0; omega)
    · simp only [] at *; first | omega | (simp at *; omega)
  · refine Eq.trans (congrArg W1 (?_ : x = ix3 0 (x 1) (x 2))) ((h1 (x 1) (x 2)).trans (congrArg f (Fin.ext ?_)))
    · funext a; apply Fin.ext; fin_cases a <;> first | rfl | (show (x 0 : ℕ) = 0; omega)
    · simp only [] at *; first | omega | (simp at *; omega)
  · refine Eq.trans (congrArg W0 (?_ : x = ix3 0 (x 1) (x 2))) ((h0 (x 1) (x 2)).trans (congrArg f (Fin.ext ?_)))
    · funext a; apply Fin.ext; fin_cases a <;> first | rfl | (show (x 0 : ℕ) = 0; omega)
    · simp only [] at *; first | omega | (simp at *; omega)

variable (c : Dev nD) (gi : grid0.Coords)
  (arg1 : Memref sig .tc .vmem S1x12288x512 .bf16) (harg1 : arg1.IsWhole)
  (arg2 : Memref sig .tc .vmem S1x512x128 .f32) (harg2 : arg2.IsWhole)
  (arg3 : Memref sig .tc .vmem S1x512x128 .f32) (harg3 : arg3.IsWhole)
  (x0 : Vec Ideal S1x12288x512 .bf16)

/-- The value of the group of a channel, over the sums of the channels. -/
def gm (S : Fin 512 → EReal) (ch : Fin 512) : EReal :=
  (∑ j : Fin 16, S ⟨16 * (ch.val / 16) + j.val, by omega⟩) * ((196608⁻¹ : ℝ) : EReal)

theorem gm1 (S : Fin 512 → EReal) (r : Fin 128) :
    (∑ j : Fin 16, S ⟨128 + (16 * (r.val / 16) + j.val), by omega⟩) * ((196608⁻¹ : ℝ) : EReal) = gm S ⟨128 + r.val, by omega⟩ := by
  unfold gm
  refine congrArg (· * _) (Finset.sum_congr rfl fun j _ => congrArg S (Fin.ext ?_))
  show 128 + (16 * (r.val / 16) + j.val) = 16 * ((128 + r.val) / 16) + j.val
  omega
theorem gm2 (S : Fin 512 → EReal) (r : Fin 128) :
    (∑ j : Fin 16, S ⟨256 + (16 * (r.val / 16) + j.val), by omega⟩) * ((196608⁻¹ : ℝ) : EReal) = gm S ⟨256 + r.val, by omega⟩ := by
  unfold gm
  refine congrArg (· * _) (Finset.sum_congr rfl fun j _ => congrArg S (Fin.ext ?_))
  show 256 + (16 * (r.val / 16) + j.val) = 16 * ((256 + r.val) / 16) + j.val
  omega
theorem gm3 (S : Fin 512 → EReal) (r : Fin 128) :
    (∑ j : Fin 16, S ⟨384 + (16 * (r.val / 16) + j.val), by omega⟩) * ((196608⁻¹ : ℝ) : EReal) = gm S ⟨384 + r.val, by omega⟩ := by
  unfold gm
  refine congrArg (· * _) (Finset.sum_congr rfl fun j _ => congrArg S (Fin.ext ?_))
  show 384 + (16 * (r.val / 16) + j.val) = 16 * ((384 + r.val) / 16) + j.val
  omega

/-- The sum of a channel. -/
def tot (ch : Fin 512) : EReal := ∑ n : Fin 12288, x0 (ix3 0 n ch)

/-- The sum of the squared distances of a channel from its group's mean. -/
def dev (ch : Fin 512) : EReal := ∑ n : Fin 12288, (x0 (ix3 0 n ch) - gm (tot x0) ch) * (x0 (ix3 0 n ch) - gm (tot x0) ch)

theorem r_at (s : Fin 8) (ch : Fin 512) : kernelRun0_A.sl.r (F := Ideal) c gi arg1 harg1 arg2 harg2 arg3 harg3 x0 (ix2 s ch) = tot x0 ch := by
  have h := fun t : Fin 8 => acc1 c gi arg1 harg1 arg2 harg2 arg3 harg3 x0 t ch (Scf.trips k0_t1_loop.lb k0_t1_loop.ub k0_t1_loop.st) (le_of_eq rfl)
  refine (pay8_at _ _ _ s ch).trans ?_
  rw [Finset.sum_congr rfl fun t _ => (h t).1, Finset.sum_congr rfl fun t _ => (h t).2.1, Finset.sum_congr rfl fun t _ => (h t).2.2, trips1]
  unfold part
  refine (rows_sum (row x0 ch)).trans ?_
  unfold tot
  exact Finset.sum_congr rfl fun n _ => (row_at x0 ch n.val n.isLt).symm

theorem m_at (g : Fin 8) (l : Fin 128) : kernelRun0_A.sl.r_1 (ix2 g l) = if l.val / 16 = g.val then 1#1 else 0#1 := mask_at g l
theorem m2_at (g : Fin 8) (l : Fin 128) : kernelRun0_A.sl.r_10 (ix2 g l) = if l.val / 16 = g.val then 1#1 else 0#1 := mask2_at g l

/-- The row of means. -/
theorem u_at (ch : Fin 512) :
    k0_pay26 kernelRun0_A.sl.r_1 (kernelRun0_A.sl.r_2 c gi arg1 harg1 arg2 harg2 arg3 harg3 x0) (kernelRun0_A.sl.r_5 c gi arg1 harg1 arg2 harg2 arg3 harg3 x0) (kernelRun0_A.sl.r_6 c gi arg1 harg1 arg2 harg2 arg3 harg3 x0) (kernelRun0_A.sl.r_7 c gi arg1 harg1 arg2 harg2 arg3 harg3 x0) (ix2 0 ch)
      = gm (tot x0) ch := by
  refine pay26_at _ _ _ _ _ (gm (tot x0)) (fun l => ?_) (fun l => ?_) (fun l => ?_) (fun l => ?_) ch
  · refine (pay19_at kernelRun0_A.sl.r_1 m_at (k0_pay13 (kernelRun0_A.sl.r c gi arg1 harg1 arg2 harg2 arg3 harg3 x0) kernelRun0_A.sl.v23 kernelRun0_A.sl.v24 16#32 k0_pay9 k0_pay10 k0_pay11) l).trans ?_
    exact pay13_at _ _ _ _ _ _ m_at _ (tot x0) (r_at c gi arg1 harg1 arg2 harg2 arg3 harg3 x0) _
  · refine (pay19_at kernelRun0_A.sl.r_1 m_at (kernelRun0_A.sl.r_3 c gi arg1 harg1 arg2 harg2 arg3 harg3 x0) l).trans ?_
    exact (pay16_at _ _ _ _ _ _ m_at _ (tot x0) (r_at c gi arg1 harg1 arg2 harg2 arg3 harg3 x0) _).trans (gm1 _ l)
  · refine (pay19_at kernelRun0_A.sl.r_1 m_at (k0_pay20 (kernelRun0_A.sl.r c gi arg1 harg1 arg2 harg2 arg3 harg3 x0) kernelRun0_A.sl.r_1) l).trans ?_
    exact (pay20_at _ m_at _ (tot x0) (r_at c gi arg1 harg1 arg2 harg2 arg3 harg3 x0) _).trans (gm2 _ l)
  · refine (pay19_at kernelRun0_A.sl.r_1 m_at (kernelRun0_A.sl.r_7 c gi arg1 harg1 arg2 harg2 arg3 harg3 x0) l).trans ?_
    exact (pay23_at _ m_at _ (tot x0) (r_at c gi arg1 harg1 arg2 harg2 arg3 harg3 x0) _).trans (gm3 _ l)

theorem r9_at (s : Fin 8) (ch : Fin 512) : kernelRun0_A.sl.r_9 (F := Ideal) c gi arg1 harg1 arg2 harg2 arg3 harg3 x0 (ix2 s ch) = dev x0 ch := by
  have h := fun t : Fin 8 => acc2 c gi arg1 harg1 arg2 harg2 arg3 harg3 x0 kernelRun0_A.sl.r_1 (kernelRun0_A.sl.r_2 c gi arg1 harg1 arg2 harg2 arg3 harg3 x0) (kernelRun0_A.sl.r_5 c gi arg1 harg1 arg2 harg2 arg3 harg3 x0) (kernelRun0_A.sl.r_6 c gi arg1 harg1 arg2 harg2 arg3 harg3 x0) (kernelRun0_A.sl.r_7 c gi arg1 harg1 arg2 harg2 arg3 harg3 x0) (kernelRun0_A.sl.r_8 c gi arg1 harg1 arg2 harg2 arg3 harg3 x0) t ch (Scf.trips k0_t2_loop.lb k0_t2_loop.ub k0_t2_loop.st) (le_of_eq rfl)
  refine (pay8_at _ _ _ s ch).trans ?_
  rw [Finset.sum_congr rfl fun t _ => (h t).1, Finset.sum_congr rfl fun t _ => (h t).2.1, Finset.sum_congr rfl fun t _ => (h t).2.2, trips2, u_at]
  unfold part
  refine (rows_sum (sqd x0 (gm (tot x0) ch) ch)).trans ?_
  unfold dev sqd
  exact Finset.sum_congr rfl fun n _ => by rw [row_at x0 ch n.val n.isLt]

/-- The block of means. -/
theorem out1_at (ch : Fin 512) (l : Fin 128) : out0_A_1 (F := Ideal) c gi arg1 harg1 arg2 harg2 arg3 harg3 x0 (ix3 0 ch l) = gm (tot x0) ch := by
  unfold out0_A_1
  rw [View.read_writes_eq_canon _ _ _ (fun y => cover0_A_1 c gi arg1 harg1 arg2 harg2 arg3 harg3 x0 y)]
  unfold kernelRun0_A
  dsimp only
  refine rows4 _ _ _ _ _ _ _ _ (gm (tot x0)) (fun r l => ?_) (fun r l => ?_) (fun r l => ?_) (fun r l => ?_) ch l
  · exact (pay14_at _ _ _ _ _ _ _ r l).trans (pay13_at _ _ _ _ _ _ m_at _ (tot x0) (r_at c gi arg1 harg1 arg2 harg2 arg3 harg3 x0) _)
  · exact (pay18_at _ _ _ _ _ _ _ r l).trans ((pay16_at _ _ _ _ _ _ m_at _ (tot x0) (r_at c gi arg1 harg1 arg2 harg2 arg3 harg3 x0) _).trans (gm1 _ r))
  · exact (pay21_at _ _ r l).trans ((pay20_at _ m_at _ (tot x0) (r_at c gi arg1 harg1 arg2 harg2 arg3 harg3 x0) _).trans (gm2 _ r))
  · exact (pay25_at _ _ r l).trans ((pay23_at _ m_at _ (tot x0) (r_at c gi arg1 harg1 arg2 harg2 arg3 harg3 x0) _).trans (gm3 _ r))

/-- The block of reciprocal deviations. -/
theorem out2_at (ch : Fin 512) (l : Fin 128) : out0_A_2 (F := Ideal) c gi arg1 harg1 arg2 harg2 arg3 harg3 x0 (ix3 0 ch l) = rs (gm (dev x0) ch) := by
  unfold out0_A_2
  rw [View.read_writes_eq_canon _ _ _ (fun y => cover0_A_2 c gi arg1 harg1 arg2 harg2 arg3 harg3 x0 y)]
  unfold kernelRun0_A
  dsimp only
  refine rows4 _ _ _ _ _ _ _ _ (fun ch => rs (gm (dev x0) ch)) (fun r l => ?_) (fun r l => ?_) (fun r l => ?_) (fun r l => ?_) ch l
  · exact var0_at _ _ _ _ _ m2_at _ (dev x0) (r9_at c gi arg1 harg1 arg2 harg2 arg3 harg3 x0) r l
  · exact (var1_at _ _ _ _ _ m2_at _ (dev x0) (r9_at c gi arg1 harg1 arg2 harg2 arg3 harg3 x0) r l).trans (congrArg rs (gm1 _ r))
  · exact (var2_at _ m2_at _ (dev x0) (r9_at c gi arg1 harg1 arg2 harg2 arg3 harg3 x0) r l).trans (congrArg rs (gm2 _ r))
  · exact (var3_at _ m2_at _ (dev x0) (r9_at c gi arg1 harg1 arg2 harg2 arg3 harg3 x0) r l).trans (congrArg rs (gm3 _ r))

end Cert.SVal

end
-- ==== Proof.SRef.lean ====
/-
  THE REFERENCE OF THE STATISTICS AT AN INDEX, over the extended reals: the mean of a group and the reciprocal deviation.
-/
module

public import proofs.«01_k».proof.Proof.Gen.StatisticsReferenceIdeal.Run
public import proofs.«01_k».proof.Proof.SPoint

@[expose] public section

set_option maxRecDepth 16384

noncomputable section

namespace Cert.SRef

open Cert.StatisticsReferenceIdeal Cert.StatisticsReferenceIdeal.Gen Idealize.ShloMosaic Idealize.SL.Sem

/-- The mean over a group. -/
def avg (X : FVec Ideal S6x12288x32x16 .f32) : FVec Ideal S6x1x32x1 .f32 :=
  Host.divf (broadcastInDim S6x1x32x1 ![0, 2] bcast_S6x32_S6x1x32x1_0_2 (Host.reduceAdd X (constant S_ .f32 0x00000000#32) reducesTo_S6x12288x32x16_S6x32_d1_3 h_S_)) (broadcastInDim S6x1x32x1 ![] bcast_S_S6x1x32x1 (constant S_ .f32 0x48400000#32))

/-- A group's value in all its channels and lanes. -/
def fan (V : FVec Ideal S6x1x32x1 .f32) : FVec Ideal S6x512x128 .f32 :=
  shapeCast _ (broadcastInDim S6x32x16x128 ![0, 1, 2, 3] bcast_S6x32x1x1_S6x32x16x128_0_1_2_3 (shapeCast _ V shapeCasts_S6x1x32x1_S6x32x1x1)) shapeCasts_S6x32x16x128_S6x512x128

def grouped (x : Vec Ideal S6x12288x512 .bf16) : FVec Ideal S6x12288x32x16 .f32 :=
  shapeCast _ (extf .f32 x bitsLt_bf16_f32) shapeCasts_S6x12288x512_S6x12288x32x16

/-- The squared distances from the mean. -/
def dist (X : FVec Ideal S6x12288x32x16 .f32) : FVec Ideal S6x12288x32x16 .f32 :=
  mulf (subf X (broadcastInDim S6x12288x32x16 ![0, 1, 2, 3] bcast_S6x1x32x1_S6x12288x32x16_0_1_2_3 (avg X)))
    (subf X (broadcastInDim S6x12288x32x16 ![0, 1, 2, 3] bcast_S6x1x32x1_S6x12288x32x16_0_1_2_3 (avg X)))

def inv (V : FVec Ideal S6x1x32x1 .f32) : FVec Ideal S6x1x32x1 .f32 :=
  Host.rsqrt (addf V (broadcastInDim S6x1x32x1 ![] bcast_S_S6x1x32x1 (constant S_ .f32 0x358637BD#32)))

theorem fan_at (V : FVec Ideal S6x1x32x1 .f32) (b : Fin 6) (r : Fin 512) (l : Fin 128) :
    fan V (ix3 b r l) = V (ix4 b 0 ⟨r.val / 16, by omega⟩ 0) := by
  pointwise [fan]

theorem grouped_at (x : Vec Ideal S6x12288x512 .bf16) (b : Fin 6) (n : Fin 12288) (g : Fin 32) (j : Fin 16) :
    grouped x (ix4 b n g j) = x (ix3 b n ⟨16 * g.val + j.val, by omega⟩) := by
  pointwise [grouped]
  exact congrArg x (congrArg (fun z => ix3 b n z) (Fin.ext (by show g.val * 16 + j.val = 16 * g.val + j.val; omega)))

theorem dist_at (X : FVec Ideal S6x12288x32x16 .f32) (b : Fin 6) (n : Fin 12288) (g : Fin 32) (j : Fin 16) :
    dist X (ix4 b n g j) = (X (ix4 b n g j) - avg X (ix4 b 0 g 0)) * (X (ix4 b n g j) - avg X (ix4 b 0 g 0)) := by
  unfold dist
  generalize avg X = Y
  pointwise

theorem inv_at (V : FVec Ideal S6x1x32x1 .f32) (b : Fin 6) (g : Fin 32) : inv V (ix4 b 0 g 0) = SVal.rs (V (ix4 b 0 g 0)) := by
  unfold SVal.rs SVal.eps
  pointwise [inv]

theorem count_bits : Ideal.ofBits .f32 0x48400000#32 = ((196608 : ℝ) : EReal) := by
  unfold Ideal.ofBits Ideal.ieee
  have h1 : BitVec.extractLsb' (8 + 23) 1 (0x48400000#32) = 0#1 := by decide
  have h2 : (BitVec.extractLsb' 23 8 (0x48400000#32)).toNat = 144 := by decide
  have h3 : (BitVec.extractLsb' 0 23 (0x48400000#32)).toNat = 4194304 := by decide
  simp only [h1, h2, h3]
  norm_num

/-- The indices that fall to a group are its tokens and channels. -/
theorem drop_iff (i : S6x12288x32x16.Idx) (b : Fin 6) (g : Fin 32) :
    reducesTo_S6x12288x32x16_S6x32_d1_3.drop i = ix2 b g ↔ i 0 = b ∧ i 2 = g := by
  constructor
  · intro h
    exact ⟨Fin.ext (congrArg Fin.val (congrFun h 0)), Fin.ext (congrArg Fin.val (congrFun h 1))⟩
  · rintro ⟨h0, h2⟩
    funext a
    apply Fin.ext
    fin_cases a
    · exact congrArg Fin.val h0
    · exact congrArg Fin.val h2

theorem group_sum (X : FVec Ideal S6x12288x32x16 .f32) (b : Fin 6) (g : Fin 32) :
    Ideal.hostReduceAdd reducesTo_S6x12288x32x16_S6x32_d1_3 X 0 (ix2 b g) = ∑ j : Fin 16, ∑ n : Fin 12288, X (ix4 b n g j) := by
  unfold Ideal.hostReduceAdd
  rw [zero_add, ← Fintype.sum_prod_type' (fun (j : Fin 16) (n : Fin 12288) => X (ix4 b n g j))]
  refine Finset.sum_nbij' (fun i => ((i 3 : Fin 16), (i 1 : Fin 12288))) (fun p => ix4 b p.2 g p.1) ?_ ?_ ?_ ?_ ?_
  · intro i _; exact Finset.mem_univ _
  · intro p _; exact Finset.mem_filter.mpr ⟨Finset.mem_univ _, (drop_iff _ b g).mpr ⟨rfl, rfl⟩⟩
  · intro i hi
    obtain ⟨h0, h2⟩ := (drop_iff i b g).mp (Finset.mem_filter.mp hi).2
    funext a
    fin_cases a
    · exact h0.symm
    · rfl
    · exact h2.symm
    · rfl
  · intro p _; rfl
  · intro i hi
    obtain ⟨h0, h2⟩ := (drop_iff i b g).mp (Finset.mem_filter.mp hi).2
    refine congrArg X ?_
    funext a
    fin_cases a
    · exact h0
    · rfl
    · exact h2
    · rfl

theorem avg_at (X : FVec Ideal S6x12288x32x16 .f32) (b : Fin 6) (g : Fin 32) :
    avg X (ix4 b 0 g 0) = (∑ j : Fin 16, ∑ n : Fin 12288, X (ix4 b n g j)) * ((196608⁻¹ : ℝ) : EReal) := by
  have e : avg X (ix4 b 0 g 0) = Ideal.div (Ideal.hostReduceAdd reducesTo_S6x12288x32x16_S6x32_d1_3 X 0 (ix2 b g)) (Ideal.ofBits .f32 0x48400000#32) := by
    pointwise [avg]
  rw [e, count_bits, Ideal.div_coe (by norm_num), group_sum, one_div]

/-- The mean over the group of a channel, of the array of a batch. -/
def mn (x : Vec Ideal S6x12288x512 .bf16) (b : Fin 6) (ch : Fin 512) : EReal :=
  (∑ j : Fin 16, ∑ n : Fin 12288, x (ix3 b n ⟨16 * (ch.val / 16) + j.val, by omega⟩)) * ((196608⁻¹ : ℝ) : EReal)

/-- The reciprocal deviation of the group of a channel. -/
def rd (x : Vec Ideal S6x12288x512 .bf16) (b : Fin 6) (ch : Fin 512) : EReal :=
  SVal.rs ((∑ j : Fin 16, ∑ n : Fin 12288, (x (ix3 b n ⟨16 * (ch.val / 16) + j.val, by omega⟩) - mn x b ch) * (x (ix3 b n ⟨16 * (ch.val / 16) + j.val, by omega⟩) - mn x b ch)) * ((196608⁻¹ : ℝ) : EReal))

def means (x : Vec Ideal S6x12288x512 .bf16) : FVec Ideal S6x512x128 .f32 := fan (avg (grouped x))
def devs (x : Vec Ideal S6x12288x512 .bf16) : FVec Ideal S6x512x128 .f32 := fan (inv (avg (dist (grouped x))))

theorem mean_at (x : Vec Ideal S6x12288x512 .bf16) (b : Fin 6) (ch : Fin 512) :
    avg (grouped x) (ix4 b 0 ⟨ch.val / 16, by omega⟩ 0) = mn x b ch := by
  rw [avg_at]
  simp only [grouped_at]
  rfl

theorem means_at (x : Vec Ideal S6x12288x512 .bf16) (b : Fin 6) (ch : Fin 512) (l : Fin 128) : means x (ix3 b ch l) = mn x b ch := by
  unfold means
  rw [fan_at, mean_at]

theorem devs_at (x : Vec Ideal S6x12288x512 .bf16) (b : Fin 6) (ch : Fin 512) (l : Fin 128) : devs x (ix3 b ch l) = rd x b ch := by
  unfold devs
  rw [fan_at, inv_at, avg_at]
  simp only [dist_at, mean_at, grouped_at]
  rfl

variable (m : (ℓ : Loc nD τ sig) → Buf (Elt Ideal) ℓ) (ρ : Dev nD → PrngReg)

open Idealize.ShloMosaic.TcCoe in
/-- The reference's run, its results named. -/
theorem run : θ_run defs (onTc (τ := τ) (main (F := Ideal))) ⟨m, fun _ => 0, ρ⟩ fun r => ∀ c : Dev nD,
      r.2.mem ((c : Thread nD τ).loc main_v15) = means (m ((c : Thread nD τ).loc main_arg0))
      ∧ r.2.mem ((c : Thread nD τ).loc main_v21) = devs (m ((c : Thread nD τ).loc main_arg0))
      ∧ r.2.mem ((c : Thread nD τ).loc main_arg0) = m ((c : Thread nD τ).loc main_arg0) :=
  Value.run m ρ

end Cert.SRef

end
-- ==== Proof.SArray.lean ====
/-
  THE STATISTICS KERNEL'S RESULT ARRAYS: every grid point writes its block of the reference's array, and the blocks cover it.
-/
module

public import proofs.«01_k».proof.Proof.SOut
public import proofs.«01_k».proof.Proof.SRef
public import proofs.«01_k».proof.Proof.Gen.StatisticsIdeal.Value
public import Idealize.ShloMosaic.Lib.Pipeline.ValueKit
public import Idealize.ShloMosaic.Lib.Claim

@[expose] public section

set_option maxRecDepth 16384

noncomputable section

namespace Cert.SArr

open Cert.StatisticsIdeal Cert.StatisticsIdeal.Gen Idealize.ShloMosaic Idealize.ShloMosaic.TcCoe Idealize.SL.Sem
open Cert.SVal (gm tot dev rs)

variable (m : (ℓ : Loc nD τ sig) → Buf (Elt Ideal) ℓ) (c : Dev nD)

/-- The batch of a grid point. -/
def bt (t : Fin cfg0.N) : Fin 6 := ⟨(grid0.coords t 0).val, (grid0.coords t 0).isLt⟩

theorem idx : ∀ t : Fin cfg0.N,
    win0_0.index t = ![(grid0.coords t 0).val, 0, 0]
    ∧ win0_1.index t = ![(grid0.coords t 0).val, 0, 0]
    ∧ win0_2.index t = ![(grid0.coords t 0).val, 0, 0] :=
  (by decide +kernel : ∀ t : Fin grid0.N, _)

theorem blk0 (t : Fin cfg0.N) (n : Fin 12288) (ch : Fin 512) :
    (iblk m c 0 t : Vec Ideal S1x12288x512 .bf16) (ix3 0 n ch) = m ((c : Thread nD τ).loc main_arg0) (ix3 (bt t) n ch) := by
  blk_ext [iblk, V, idx t, bt]

section
variable (x0 : Vec Ideal S1x12288x512 .bf16) (x : Vec Ideal S6x12288x512 .bf16) (b : Fin 6)
  (h : ∀ n ch, x0 (ix3 0 n ch) = x (ix3 b n ch))
include h

/-- A block's means are the array's of its batch. -/
theorem mean_eq (ch : Fin 512) : gm (tot x0) ch = SRef.mn x b ch := by
  unfold gm tot SRef.mn
  simp only [h]

/-- A block's reciprocal deviations are the array's of its batch. -/
theorem dev_eq (ch : Fin 512) : rs (gm (dev x0) ch) = SRef.rd x b ch := by
  unfold SRef.rd
  refine congrArg rs ?_
  unfold gm dev
  refine congrArg (· * _) (Finset.sum_congr rfl fun j _ => Finset.sum_congr rfl fun n _ => ?_)
  have e : gm (tot x0) ⟨16 * (ch.val / 16) + j.val, by omega⟩ = SRef.mn x b ch := by
    rw [mean_eq x0 x b h]
    unfold SRef.mn
    refine congrArg (· * _) (Finset.sum_congr rfl fun i _ => Finset.sum_congr rfl fun n _ => congrArg x (congrArg (fun z => ix3 b n z) (Fin.ext ?_)))
    show 16 * ((16 * (ch.val / 16) + j.val) / 16) + i.val = 16 * (ch.val / 16) + i.val
    omega
  rw [e, h]
end

theorem outs1 (t : Fin cfg0.N) : (outsAt0 m c t).1 = out0_A_1 c (grid0.coords t) (ms0_0 t) (hs0_0 t) (ms0_1 t) (hs0_1 t) (ms0_2 t) (hs0_2 t) (iblk m c 0 t) := by
  simp only [outsAt0]

theorem point1 (t : Fin cfg0.N) (ch : Fin 512) (l : Fin 128) :
    (outsAt0 m c t).1 (ix3 0 ch l) = SRef.means (m ((c : Thread nD τ).loc main_arg0)) (ix3 (bt t) ch l) := by
  rw [outs1]
  refine (SVal.out1_at c (grid0.coords t) (ms0_0 t) (hs0_0 t) (ms0_1 t) (hs0_1 t) (ms0_2 t) (hs0_2 t) (iblk m c 0 t) ch l).trans ?_
  exact (mean_eq _ (m ((c : Thread nD τ).loc main_arg0)) (bt t) (blk0 m c t) ch).trans (SRef.means_at _ (bt t) ch l).symm

theorem block1 (t : Fin cfg0.N) (y : S1x512x128.Idx) :
    (outsAt0 m c t).1 y = SRef.means (m ((c : Thread nD τ).loc main_arg0)) (ix3 (bt t) (y 1) (y 2)) := by
  have hy : y = ix3 0 (y 1) (y 2) := by blk_ext
  exact (congrArg (outsAt0 m c t).1 hy).trans (point1 m c t (y 1) (y 2))

/-- Result array 1 after the run. -/
theorem final1 : (dats m 0 c).arrAt 1 cfg0.N = SRef.means (m ((c : Thread nD τ).loc main_arg0)) := by
  refine (dats m 0 c).arrAt_eq_of_covers 1 _ (by decide +kernel) fun t hf y => ?_
  blk_simp
  rw [after0_1]
  have e : (((cfg0.win 1).blk t).view.emb y) = ix3 (bt t) (y 1) (y 2) := by
    blk_ext [idx t, bt]
  exact (block1 m c t y).trans (congrArg (SRef.means (m ((c : Thread nD τ).loc main_arg0))) e.symm)

theorem outs2 (t : Fin cfg0.N) : (outsAt0 m c t).2 = out0_A_2 c (grid0.coords t) (ms0_0 t) (hs0_0 t) (ms0_1 t) (hs0_1 t) (ms0_2 t) (hs0_2 t) (iblk m c 0 t) := by
  simp only [outsAt0]

theorem point2 (t : Fin cfg0.N) (ch : Fin 512) (l : Fin 128) :
    (outsAt0 m c t).2 (ix3 0 ch l) = SRef.devs (m ((c : Thread nD τ).loc main_arg0)) (ix3 (bt t) ch l) := by
  rw [outs2]
  refine (SVal.out2_at c (grid0.coords t) (ms0_0 t) (hs0_0 t) (ms0_1 t) (hs0_1 t) (ms0_2 t) (hs0_2 t) (iblk m c 0 t) ch l).trans ?_
  exact (dev_eq _ (m ((c : Thread nD τ).loc main_arg0)) (bt t) (blk0 m c t) ch).trans (SRef.devs_at _ (bt t) ch l).symm

theorem block2 (t : Fin cfg0.N) (y : S1x512x128.Idx) :
    (outsAt0 m c t).2 y = SRef.devs (m ((c : Thread nD τ).loc main_arg0)) (ix3 (bt t) (y 1) (y 2)) := by
  have hy : y = ix3 0 (y 1) (y 2) := by blk_ext
  exact (congrArg (outsAt0 m c t).2 hy).trans (point2 m c t (y 1) (y 2))

/-- Result array 2 after the run. -/
theorem final2 : (dats m 0 c).arrAt 2 cfg0.N = SRef.devs (m ((c : Thread nD τ).loc main_arg0)) := by
  refine (dats m 0 c).arrAt_eq_of_covers 2 _ (by decide +kernel) fun t hf y => ?_
  blk_simp
  rw [after0_2]
  have e : (((cfg0.win 2).blk t).view.emb y) = ix3 (bt t) (y 1) (y 2) := by
    blk_ext [idx t, bt]
  exact (block2 m c t y).trans (congrArg (SRef.devs (m ((c : Thread nD τ).loc main_arg0))) e.symm)

end Cert.SArr

end
-- ==== Proof.lean ====
/-
  THE CERTIFICATE of the attention call, of the projection call and of the statistics call: for each, the three programs run and
  leave their arguments unchanged, the idealized kernel keeps the kernel's meaning, and over the extended reals the kernel's results,
  four of the first, five of the second and two of the third, are the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Projections
public import proofs.«01_k».proof.Proof.Gen.Projections.Frame
public import proofs.«01_k».proof.Proof.Gen.ProjectionsIdeal
public import proofs.«01_k».proof.Proof.Gen.ProjectionsIdeal.Frame
public import proofs.«01_k».proof.Proof.Gen.ProjectionsReferenceIdeal
public import proofs.«01_k».proof.Proof.Gen.ProjectionsReferenceIdeal.Frame
public import proofs.«01_k».proof.Proof.Gen.Pre_bounded
public import proofs.«01_k».proof.Proof.Gen.Pre_normal
public import proofs.«01_k».proof.Proof.Gen.ReferenceIdeal.Value
public import proofs.«01_k».proof.Proof.Gen.KernelIdeal.Value
public import proofs.«01_k».proof.Proof.Gen.ProjectionsReferenceIdeal.Value
public import proofs.«01_k».proof.Proof.Gen.ProjectionsIdeal.Value
public import proofs.«01_k».proof.Proof.Gen.Statistics
public import proofs.«01_k».proof.Proof.Gen.Statistics.Frame
public import proofs.«01_k».proof.Proof.Gen.StatisticsIdeal
public import proofs.«01_k».proof.Proof.Gen.StatisticsIdeal.Frame
public import proofs.«01_k».proof.Proof.Gen.StatisticsReferenceIdeal
public import proofs.«01_k».proof.Proof.Gen.StatisticsIdeal.Value
public import proofs.«01_k».proof.Proof.Gen.StatisticsReferenceIdeal.Run
public import proofs.«01_k».proof.Proof.KArray
public import proofs.«01_k».proof.Proof.Bounded
public import proofs.«01_k».proof.Proof.PArray
public import proofs.«01_k».proof.Proof.PBounded
public import proofs.«01_k».proof.Proof.SArray
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The constant of the idealized kernel rounds to the kernel's. -/
theorem preserves : Cert.preserves_Kernel_KernelIdeal :=
  IdealRules.named_const.statement Cert.KernelIdeal.κ "score_scale_log2e" .f32 0x3D8293EE#32 (((Real.sqrt 512)⁻¹ * (Real.log 2)⁻¹ : ℝ) : EReal) rfl

/-- Over the extended reals the kernel's results are the reference's. -/
theorem algebraic : Cert.algebraic_KernelIdeal_ReferenceIdeal_pre_bounded := by
  intro m g m' g' hpre hagree
  refine ⟨fun c => Cert.ReferenceIdeal.Value.G7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Value.G10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run _ _ _).mono (fun r h c => ?_) (Cert.KernelIdeal.Value.run_blocks m g)
    obtain ⟨q, k, v, h0, h1, h2, hv⟩ := Bounded.reals _ _ _ _ _ _ _ (hpre c)
    obtain ⟨r7, r8, r9, r10, hargs⟩ := h c
    exact ⟨r7.trans (KArr.final7 m c q k v h0 h1 h2 hv), r8.trans (KArr.final8 m c q k v h0 h1 h2 hv),
      r9.trans (KArr.final9 m c q k v h0 h1 h2 hv), r10.trans (KArr.final10 m c q k v h0 h1 h2 hv), hargs⟩
  · refine (θ_run _ _ _).mono (fun r h c => ?_) (Cert.ReferenceIdeal.Value.run m' g')
    obtain ⟨a0, a1, a2, a3, a4, a5, a6⟩ := hagree c
    obtain ⟨r7, r8, r9, r10, hargs⟩ := h c
    rw [a0, a1, a2, a3, a4, a5, a6] at r7 r8 r9 r10
    exact ⟨r7, r8, r9, r10, hargs⟩

/-- The projection call keeps its words: nothing in it is rewritten. -/
theorem preserves_projections : Cert.preserves_Projections_ProjectionsIdeal := trivial

set_option maxHeartbeats 4000000 in
/-- Over the extended reals the results of the projection call are its reference's. -/
theorem algebraic_projections : Cert.algebraic_ProjectionsIdeal_ProjectionsReferenceIdeal_pre_normal := by
  intro m g m' g' hpre hagree
  refine ⟨fun c => Cert.ProjectionsReferenceIdeal.Value.G13 (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12)),
    fun c => Cert.ProjectionsReferenceIdeal.Value.G14 (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12)),
    fun c => Cert.ProjectionsReferenceIdeal.Value.G15 (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12)),
    fun c => Cert.ProjectionsReferenceIdeal.Value.G16 (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12)),
    fun c => Cert.ProjectionsReferenceIdeal.Value.G17 (m ((c.tc : Thread Cert.ProjectionsIdeal.nD Cert.ProjectionsIdeal.τ).loc Cert.ProjectionsIdeal.main_arg0)) (m ((c.tc : Thread Cert.ProjectionsIdeal.nD Cert.ProjectionsIdeal.τ).loc Cert.ProjectionsIdeal.main_arg1)) (m ((c.tc : Thread Cert.ProjectionsIdeal.nD Cert.ProjectionsIdeal.τ).loc Cert.ProjectionsIdeal.main_arg2)) (m ((c.tc : Thread Cert.ProjectionsIdeal.nD Cert.ProjectionsIdeal.τ).loc Cert.ProjectionsIdeal.main_arg3)) (m ((c.tc : Thread Cert.ProjectionsIdeal.nD Cert.ProjectionsIdeal.τ).loc Cert.ProjectionsIdeal.main_arg4)) (m ((c.tc : Thread Cert.ProjectionsIdeal.nD Cert.ProjectionsIdeal.τ).loc Cert.ProjectionsIdeal.main_arg5)) (m ((c.tc : Thread Cert.ProjectionsIdeal.nD Cert.ProjectionsIdeal.τ).loc Cert.ProjectionsIdeal.main_arg6)) (m ((c.tc : Thread Cert.ProjectionsIdeal.nD Cert.ProjectionsIdeal.τ).loc Cert.ProjectionsIdeal.main_arg7)) (m ((c.tc : Thread Cert.ProjectionsIdeal.nD Cert.ProjectionsIdeal.τ).loc Cert.ProjectionsIdeal.main_arg8)) (m ((c.tc : Thread Cert.ProjectionsIdeal.nD Cert.ProjectionsIdeal.τ).loc Cert.ProjectionsIdeal.main_arg9)) (m ((c.tc : Thread Cert.ProjectionsIdeal.nD Cert.ProjectionsIdeal.τ).loc Cert.ProjectionsIdeal.main_arg10)) (m ((c.tc : Thread Cert.ProjectionsIdeal.nD Cert.ProjectionsIdeal.τ).loc Cert.ProjectionsIdeal.main_arg11)) (m ((c.tc : Thread Cert.ProjectionsIdeal.nD Cert.ProjectionsIdeal.τ).loc Cert.ProjectionsIdeal.main_arg12)), ?_, ?_⟩
  · refine (θ_run _ _ _).mono (fun r hr c => ?_) (Cert.ProjectionsIdeal.Value.run_blocks m g)
    obtain ⟨h, hh, hb⟩ := PBounded.reals _ _ _ _ _ _ _ _ _ _ _ _ _ (hpre c)
    obtain ⟨r10, r11, r12, r13, r14, hargs⟩ := hr c
    exact ⟨r10.trans (PArr.final10 m c h hh hb),
      r11.trans (PArr.final11 m c h hh hb),
      r12.trans (PArr.final12 m c h hh hb),
      r13.trans (PArr.final13 m c h hh hb),
      r14.trans (PArr.final14 m c h hh hb), hargs⟩
  · refine (θ_run _ _ _).mono (fun r hr c => ?_) (Cert.ProjectionsReferenceIdeal.Value.run m' g')
    obtain ⟨a0, a1, a2, a3, a4, a5, a6, a7, a8, a9, a10, a11, a12⟩ := hagree c
    obtain ⟨r13, r14, r15, r16, r17, hargs⟩ := hr c
    rw [a0, a1, a2, a3, a4, a5, a6, a7, a8, a9, a10, a11, a12] at r13 r14 r15 r16 r17
    exact ⟨r13, r14, r15, r16, r17, hargs⟩

/-- The reference of the statistics call runs and leaves its argument unchanged; it has no semaphore. -/
theorem frame_statistics_reference : Cert.quiescent_StatisticsReferenceIdeal := by
  intro m g _
  refine (θ_run _ _ _).mono (fun r h => ⟨fun c => (h c).2.2, ?_⟩) (SRef.run m g)
  exact sem_eq_zero_of_no_sems (by decide) r.2

/-- The constant of the idealized statistics kernel rounds to the kernel's. -/
theorem preserves_statistics : Cert.preserves_Statistics_StatisticsIdeal :=
  IdealRules.named_const.statement Cert.StatisticsIdeal.κ "inv_n" .f32 0x36AAAAAB#32 ((196608⁻¹ : ℝ) : EReal) rfl

/-- Over the extended reals the results of the statistics call are its reference's. -/
theorem algebraic_statistics : Cert.algebraic_StatisticsIdeal_StatisticsReferenceIdeal := by
  intro m g m' g' hpre hagree
  refine ⟨fun c => SRef.means (m ((c.tc : Thread Cert.StatisticsIdeal.nD Cert.StatisticsIdeal.τ).loc Cert.StatisticsIdeal.main_arg0)),
    fun c => SRef.devs (m ((c.tc : Thread Cert.StatisticsIdeal.nD Cert.StatisticsIdeal.τ).loc Cert.StatisticsIdeal.main_arg0)), ?_, ?_⟩
  · refine (θ_run _ _ _).mono (fun r h c => ?_) (Cert.StatisticsIdeal.Value.run_blocks m g)
    obtain ⟨r1, r2, hargs⟩ := h c
    exact ⟨r1.trans (SArr.final1 m c), r2.trans (SArr.final2 m c), hargs⟩
  · refine (θ_run _ _ _).mono (fun r h c => ?_) (SRef.run m' g')
    have a0 := hagree c
    obtain ⟨r1, r2, hargs⟩ := h c
    rw [a0] at r1 r2
    exact ⟨r1, r2, hargs⟩

theorem claim : Cert.Claim := ⟨Cert.Kernel.Gen.facts, Cert.KernelIdeal.Gen.facts, Cert.ReferenceIdeal.Gen.facts,
  Cert.Projections.Gen.facts, Cert.ProjectionsIdeal.Gen.facts, Cert.ProjectionsReferenceIdeal.Gen.facts,
  Cert.Statistics.Gen.facts, Cert.StatisticsIdeal.Gen.facts, Cert.StatisticsReferenceIdeal.Gen.facts, Cert.Pre_bounded.Gen.facts, Cert.Pre_normal.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Projections.Gen.frame m ρ, fun m ρ _ => Cert.ProjectionsIdeal.Gen.frame m ρ, fun m ρ _ => Cert.ProjectionsIdeal.Gen.frame m ρ,
  fun m ρ _ => Cert.ProjectionsReferenceIdeal.Gen.frame m ρ, fun m ρ _ => Cert.ProjectionsReferenceIdeal.Gen.frame m ρ,
  fun m ρ _ => Cert.Statistics.Gen.frame m ρ, fun m ρ _ => Cert.StatisticsIdeal.Gen.frame m ρ, frame_statistics_reference,
  preserves, algebraic, preserves_projections, algebraic_projections, preserves_statistics, algebraic_statistics⟩

end Cert.Proof

end
